-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Low (m : (ℓ : Loc Cert.Low.nD Cert.Low.τ Cert.Low.sig) → Buf (Elt Bits) ℓ) : Prop :=
  True

def Pre_LowIdeal (m : (ℓ : Loc Cert.LowIdeal.nD Cert.LowIdeal.τ Cert.LowIdeal.sig) → Buf (Elt Ideal) ℓ) : Prop :=
  True

def Pre_LowRefIdeal (m : (ℓ : Loc Cert.LowRefIdeal.nD Cert.LowRefIdeal.τ Cert.LowRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Rate (m : (ℓ : Loc Cert.Rate.nD Cert.Rate.τ Cert.Rate.sig) → Buf (Elt Bits) ℓ) : Prop :=
  True

def Pre_RateIdeal (m : (ℓ : Loc Cert.RateIdeal.nD Cert.RateIdeal.τ Cert.RateIdeal.sig) → Buf (Elt Ideal) ℓ) : Prop :=
  True

def Pre_RateRefIdeal (m : (ℓ : Loc Cert.RateRefIdeal.nD Cert.RateRefIdeal.τ Cert.RateRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerRefIdeal (m : (ℓ : Loc Cert.LayerRefIdeal.nD Cert.LayerRefIdeal.τ Cert.LayerRefIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterRefIdeal (m : (ℓ : Loc Cert.EnterRefIdeal.nD Cert.EnterRefIdeal.τ Cert.EnterRefIdeal.sig) → Buf (Elt Ideal) ℓ) : Prop :=
  True

def Pre_Leave (m : (ℓ : Loc Cert.Leave.nD Cert.Leave.τ Cert.Leave.sig) → Buf (Elt Bits) ℓ) : Prop :=
  True

def Pre_LeaveIdeal (m : (ℓ : Loc Cert.LeaveIdeal.nD Cert.LeaveIdeal.τ Cert.LeaveIdeal.sig) → Buf (Elt Ideal) ℓ) : Prop :=
  True

def Pre_LeaveRefIdeal (m : (ℓ : Loc Cert.LeaveRefIdeal.nD Cert.LeaveRefIdeal.τ Cert.LeaveRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Low [hLow : Cert.Low.Facts] : Prop :=
  ∀ (m : (ℓ : Loc Cert.Low.nD Cert.Low.τ Cert.Low.sig) → Buf (Elt Bits) ℓ) (g : Dev Cert.Low.nD → PrngReg), Pre_Low m →
    θ_run (Cert.Low.defs (F := Bits)) (onTc (τ := Cert.Low.τ) (Cert.Low.main (F := Bits))) ⟨m, fun _ => 0, g⟩ (fun r => (∀ c : Dev Cert.Low.nD,
      r.2.mem ((c.tc : Thread Cert.Low.nD Cert.Low.τ).loc Cert.Low.main_arg0) = m ((c.tc : Thread Cert.Low.nD Cert.Low.τ).loc Cert.Low.main_arg0)
      ∧ r.2.mem ((c.tc : Thread Cert.Low.nD Cert.Low.τ).loc Cert.Low.main_arg1) = m ((c.tc : Thread Cert.Low.nD Cert.Low.τ).loc Cert.Low.main_arg1))
      ∧ r.2.sem = fun _ => 0)

def quiescent_LowIdeal [hLowIdeal : Cert.LowIdeal.Facts] : Prop :=
  ∀ (m : (ℓ : Loc Cert.LowIdeal.nD Cert.LowIdeal.τ Cert.LowIdeal.sig) → Buf (Elt Ideal) ℓ) (g : Dev Cert.LowIdeal.nD → PrngReg), Pre_LowIdeal m →
    θ_run (Cert.LowIdeal.defs (F := Ideal)) (onTc (τ := Cert.LowIdeal.τ) (Cert.LowIdeal.main (F := Ideal))) ⟨m, fun _ => 0, g⟩ (fun r => (∀ c : Dev Cert.LowIdeal.nD,
      r.2.mem ((c.tc : Thread Cert.LowIdeal.nD Cert.LowIdeal.τ).loc Cert.LowIdeal.main_arg0) = m ((c.tc : Thread Cert.LowIdeal.nD Cert.LowIdeal.τ).loc Cert.LowIdeal.main_arg0)
      ∧ r.2.mem ((c.tc : Thread Cert.LowIdeal.nD Cert.LowIdeal.τ).loc Cert.LowIdeal.main_arg1) = m ((c.tc : Thread Cert.LowIdeal.nD Cert.LowIdeal.τ).loc Cert.LowIdeal.main_arg1))
      ∧ r.2.sem = fun _ => 0)

def quiescent_LowRefIdeal [hLowRefIdeal : Cert.LowRefIdeal.Facts] : Prop :=
  ∀ (m : (ℓ : Loc Cert.LowRefIdeal.nD Cert.LowRefIdeal.τ Cert.LowRefIdeal.sig) → Buf (Elt Ideal) ℓ) (g : Dev Cert.LowRefIdeal.nD → PrngReg), Pre_LowRefIdeal m →
    θ_run (Cert.LowRefIdeal.defs (F := Ideal)) (onTc (τ := Cert.LowRefIdeal.τ) (Cert.LowRefIdeal.main (F := Ideal))) ⟨m, fun _ => 0, g⟩ (fun r => (∀ c : Dev Cert.LowRefIdeal.nD,
      r.2.mem ((c.tc : Thread Cert.LowRefIdeal.nD Cert.LowRefIdeal.τ).loc Cert.LowRefIdeal.main_arg0) = m ((c.tc : Thread Cert.LowRefIdeal.nD Cert.LowRefIdeal.τ).loc Cert.LowRefIdeal.main_arg0)
      ∧ r.2.mem ((c.tc : Thread Cert.LowRefIdeal.nD Cert.LowRefIdeal.τ).loc Cert.LowRefIdeal.main_arg1) = m ((c.tc : Thread Cert.LowRefIdeal.nD Cert.LowRefIdeal.τ).loc Cert.LowRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Rate [hRate : Cert.Rate.Facts] : Prop :=
  ∀ (m : (ℓ : Loc Cert.Rate.nD Cert.Rate.τ Cert.Rate.sig) → Buf (Elt Bits) ℓ) (g : Dev Cert.Rate.nD → PrngReg), Pre_Rate m →
    θ_run (Cert.Rate.defs (F := Bits)) (onTc (τ := Cert.Rate.τ) (Cert.Rate.main (F := Bits))) ⟨m, fun _ => 0, g⟩ (fun r => (∀ c : Dev Cert.Rate.nD,
      r.2.mem ((c.tc : Thread Cert.Rate.nD Cert.Rate.τ).loc Cert.Rate.main_arg0) = m ((c.tc : Thread Cert.Rate.nD Cert.Rate.τ).loc Cert.Rate.main_arg0)
      ∧ r.2.mem ((c.tc : Thread Cert.Rate.nD Cert.Rate.τ).loc Cert.Rate.main_arg1) = m ((c.tc : Thread Cert.Rate.nD Cert.Rate.τ).loc Cert.Rate.main_arg1)
      ∧ r.2.mem ((c.tc : Thread Cert.Rate.nD Cert.Rate.τ).loc Cert.Rate.main_arg2) = m ((c.tc : Thread Cert.Rate.nD Cert.Rate.τ).loc Cert.Rate.main_arg2)
      ∧ r.2.mem ((c.tc : Thread Cert.Rate.nD Cert.Rate.τ).loc Cert.Rate.main_arg3) = m ((c.tc : Thread Cert.Rate.nD Cert.Rate.τ).loc Cert.Rate.main_arg3))
      ∧ r.2.sem = fun _ => 0)

def quiescent_RateIdeal [hRateIdeal : Cert.RateIdeal.Facts] : Prop :=
  ∀ (m : (ℓ : Loc Cert.RateIdeal.nD Cert.RateIdeal.τ Cert.RateIdeal.sig) → Buf (Elt Ideal) ℓ) (g : Dev Cert.RateIdeal.nD → PrngReg), Pre_RateIdeal m →
    θ_run (Cert.RateIdeal.defs (F := Ideal)) (onTc (τ := Cert.RateIdeal.τ) (Cert.RateIdeal.main (F := Ideal))) ⟨m, fun _ => 0, g⟩ (fun r => (∀ c : Dev Cert.RateIdeal.nD,
      r.2.mem ((c.tc : Thread Cert.RateIdeal.nD Cert.RateIdeal.τ).loc Cert.RateIdeal.main_arg0) = m ((c.tc : Thread Cert.RateIdeal.nD Cert.RateIdeal.τ).loc Cert.RateIdeal.main_arg0)
      ∧ r.2.mem ((c.tc : Thread Cert.RateIdeal.nD Cert.RateIdeal.τ).loc Cert.RateIdeal.main_arg1) = m ((c.tc : Thread Cert.RateIdeal.nD Cert.RateIdeal.τ).loc Cert.RateIdeal.main_arg1)
      ∧ r.2.mem ((c.tc : Thread Cert.RateIdeal.nD Cert.RateIdeal.τ).loc Cert.RateIdeal.main_arg2) = m ((c.tc : Thread Cert.RateIdeal.nD Cert.RateIdeal.τ).loc Cert.RateIdeal.main_arg2)
      ∧ r.2.mem ((c.tc : Thread Cert.RateIdeal.nD Cert.RateIdeal.τ).loc Cert.RateIdeal.main_arg3) = m ((c.tc : Thread Cert.RateIdeal.nD Cert.RateIdeal.τ).loc Cert.RateIdeal.main_arg3))
      ∧ r.2.sem = fun _ => 0)

def quiescent_RateRefIdeal [hRateRefIdeal : Cert.RateRefIdeal.Facts] : Prop :=
  ∀ (m : (ℓ : Loc Cert.RateRefIdeal.nD Cert.RateRefIdeal.τ Cert.RateRefIdeal.sig) → Buf (Elt Ideal) ℓ) (g : Dev Cert.RateRefIdeal.nD → PrngReg), Pre_RateRefIdeal m →
    θ_run (Cert.RateRefIdeal.defs (F := Ideal)) (onTc (τ := Cert.RateRefIdeal.τ) (Cert.RateRefIdeal.main (F := Ideal))) ⟨m, fun _ => 0, g⟩ (fun r => (∀ c : Dev Cert.RateRefIdeal.nD,
      r.2.mem ((c.tc : Thread Cert.RateRefIdeal.nD Cert.RateRefIdeal.τ).loc Cert.RateRefIdeal.main_arg0) = m ((c.tc : Thread Cert.RateRefIdeal.nD Cert.RateRefIdeal.τ).loc Cert.RateRefIdeal.main_arg0)
      ∧ r.2.mem ((c.tc : Thread Cert.RateRefIdeal.nD Cert.RateRefIdeal.τ).loc Cert.RateRefIdeal.main_arg1) = m ((c.tc : Thread Cert.RateRefIdeal.nD Cert.RateRefIdeal.τ).loc Cert.RateRefIdeal.main_arg1)
      ∧ r.2.mem ((c.tc : Thread Cert.RateRefIdeal.nD Cert.RateRefIdeal.τ).loc Cert.RateRefIdeal.main_arg2) = m ((c.tc : Thread Cert.RateRefIdeal.nD Cert.RateRefIdeal.τ).loc Cert.RateRefIdeal.main_arg2)
      ∧ r.2.mem ((c.tc : Thread Cert.RateRefIdeal.nD Cert.RateRefIdeal.τ).loc Cert.RateRefIdeal.main_arg3) = m ((c.tc : Thread Cert.RateRefIdeal.nD Cert.RateRefIdeal.τ).loc Cert.RateRefIdeal.main_arg3))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2)
      ∧ r.2.mem ((c.tc : Thread Cert.Enter.nD Cert.Enter.τ).loc Cert.Enter.main_arg3) = m ((c.tc : Thread Cert.Enter.nD Cert.Enter.τ).loc Cert.Enter.main_arg3))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
      ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3))
      ∧ r.2.sem = fun _ => 0)

def quiescent_EnterRefIdeal [hEnterRefIdeal : Cert.EnterRefIdeal.Facts] : Prop :=
  ∀ (m : (ℓ : Loc Cert.EnterRefIdeal.nD Cert.EnterRefIdeal.τ Cert.EnterRefIdeal.sig) → Buf (Elt Ideal) ℓ) (g : Dev Cert.EnterRefIdeal.nD → PrngReg), Pre_EnterRefIdeal m →
    θ_run (Cert.EnterRefIdeal.defs (F := Ideal)) (onTc (τ := Cert.EnterRefIdeal.τ) (Cert.EnterRefIdeal.main (F := Ideal))) ⟨m, fun _ => 0, g⟩ (fun r => (∀ c : Dev Cert.EnterRefIdeal.nD,
      r.2.mem ((c.tc : Thread Cert.EnterRefIdeal.nD Cert.EnterRefIdeal.τ).loc Cert.EnterRefIdeal.main_arg0) = m ((c.tc : Thread Cert.EnterRefIdeal.nD Cert.EnterRefIdeal.τ).loc Cert.EnterRefIdeal.main_arg0)
      ∧ r.2.mem ((c.tc : Thread Cert.EnterRefIdeal.nD Cert.EnterRefIdeal.τ).loc Cert.EnterRefIdeal.main_arg1) = m ((c.tc : Thread Cert.EnterRefIdeal.nD Cert.EnterRefIdeal.τ).loc Cert.EnterRefIdeal.main_arg1)
      ∧ r.2.mem ((c.tc : Thread Cert.EnterRefIdeal.nD Cert.EnterRefIdeal.τ).loc Cert.EnterRefIdeal.main_arg2) = m ((c.tc : Thread Cert.EnterRefIdeal.nD Cert.EnterRefIdeal.τ).loc Cert.EnterRefIdeal.main_arg2)
      ∧ r.2.mem ((c.tc : Thread Cert.EnterRefIdeal.nD Cert.EnterRefIdeal.τ).loc Cert.EnterRefIdeal.main_arg3) = m ((c.tc : Thread Cert.EnterRefIdeal.nD Cert.EnterRefIdeal.τ).loc Cert.EnterRefIdeal.main_arg3))
      ∧ r.2.sem = fun _ => 0)

def quiescent_Leave [hLeave : Cert.Leave.Facts] : Prop :=
  ∀ (m : (ℓ : Loc Cert.Leave.nD Cert.Leave.τ Cert.Leave.sig) → Buf (Elt Bits) ℓ) (g : Dev Cert.Leave.nD → PrngReg), Pre_Leave m →
    θ_run (Cert.Leave.defs (F := Bits)) (onTc (τ := Cert.Leave.τ) (Cert.Leave.main (F := Bits))) ⟨m, fun _ => 0, g⟩ (fun r => (∀ c : Dev Cert.Leave.nD,
      r.2.mem ((c.tc : Thread Cert.Leave.nD Cert.Leave.τ).loc Cert.Leave.main_arg0) = m ((c.tc : Thread Cert.Leave.nD Cert.Leave.τ).loc Cert.Leave.main_arg0)
      ∧ r.2.mem ((c.tc : Thread Cert.Leave.nD Cert.Leave.τ).loc Cert.Leave.main_arg1) = m ((c.tc : Thread Cert.Leave.nD Cert.Leave.τ).loc Cert.Leave.main_arg1)
      ∧ r.2.mem ((c.tc : Thread Cert.Leave.nD Cert.Leave.τ).loc Cert.Leave.main_arg2) = m ((c.tc : Thread Cert.Leave.nD Cert.Leave.τ).loc Cert.Leave.main_arg2)
      ∧ r.2.mem ((c.tc : Thread Cert.Leave.nD Cert.Leave.τ).loc Cert.Leave.main_arg3) = m ((c.tc : Thread Cert.Leave.nD Cert.Leave.τ).loc Cert.Leave.main_arg3))
      ∧ r.2.sem = fun _ => 0)

def quiescent_LeaveIdeal [hLeaveIdeal : Cert.LeaveIdeal.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ r.2.sem = fun _ => 0)

def quiescent_LeaveRefIdeal [hLeaveRefIdeal : Cert.LeaveRefIdeal.Facts] : Prop :=
  ∀ (m : (ℓ : Loc Cert.LeaveRefIdeal.nD Cert.LeaveRefIdeal.τ Cert.LeaveRefIdeal.sig) → Buf (Elt Ideal) ℓ) (g : Dev Cert.LeaveRefIdeal.nD → PrngReg), Pre_LeaveRefIdeal m →
    θ_run (Cert.LeaveRefIdeal.defs (F := Ideal)) (onTc (τ := Cert.LeaveRefIdeal.τ) (Cert.LeaveRefIdeal.main (F := Ideal))) ⟨m, fun _ => 0, g⟩ (fun r => (∀ c : Dev Cert.LeaveRefIdeal.nD,
      r.2.mem ((c.tc : Thread Cert.LeaveRefIdeal.nD Cert.LeaveRefIdeal.τ).loc Cert.LeaveRefIdeal.main_arg0) = m ((c.tc : Thread Cert.LeaveRefIdeal.nD Cert.LeaveRefIdeal.τ).loc Cert.LeaveRefIdeal.main_arg0)
      ∧ r.2.mem ((c.tc : Thread Cert.LeaveRefIdeal.nD Cert.LeaveRefIdeal.τ).loc Cert.LeaveRefIdeal.main_arg1) = m ((c.tc : Thread Cert.LeaveRefIdeal.nD Cert.LeaveRefIdeal.τ).loc Cert.LeaveRefIdeal.main_arg1)
      ∧ r.2.mem ((c.tc : Thread Cert.LeaveRefIdeal.nD Cert.LeaveRefIdeal.τ).loc Cert.LeaveRefIdeal.main_arg2) = m ((c.tc : Thread Cert.LeaveRefIdeal.nD Cert.LeaveRefIdeal.τ).loc Cert.LeaveRefIdeal.main_arg2)
      ∧ r.2.mem ((c.tc : Thread Cert.LeaveRefIdeal.nD Cert.LeaveRefIdeal.τ).loc Cert.LeaveRefIdeal.main_arg3) = m ((c.tc : Thread Cert.LeaveRefIdeal.nD Cert.LeaveRefIdeal.τ).loc Cert.LeaveRefIdeal.main_arg3))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v21_0)) (v1 : (c : Dev Cert.FfnIdeal.nD) → Buf (Elt Ideal) ((c.tc : Thread Cert.FfnIdeal.nD Cert.FfnIdeal.τ).loc Cert.FfnIdeal.main_v21_1)) (v2 : (c : Dev Cert.FfnIdeal.nD) → Buf (Elt Ideal) ((c.tc : Thread Cert.FfnIdeal.nD Cert.FfnIdeal.τ).loc Cert.FfnIdeal.main_v21_2)) (v3 : (c : Dev Cert.FfnIdeal.nD) → Buf (Elt Ideal) ((c.tc : Thread Cert.FfnIdeal.nD Cert.FfnIdeal.τ).loc Cert.FfnIdeal.main_v21_3)) (v4 : (c : Dev Cert.FfnIdeal.nD) → Buf (Elt Ideal) ((c.tc : Thread Cert.FfnIdeal.nD Cert.FfnIdeal.τ).loc Cert.FfnIdeal.main_v21_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v21_0) = v0 c
          ∧ r.2.mem ((c.tc : Thread Cert.FfnIdeal.nD Cert.FfnIdeal.τ).loc Cert.FfnIdeal.main_v21_1) = v1 c
          ∧ r.2.mem ((c.tc : Thread Cert.FfnIdeal.nD Cert.FfnIdeal.τ).loc Cert.FfnIdeal.main_v21_2) = v2 c
          ∧ r.2.mem ((c.tc : Thread Cert.FfnIdeal.nD Cert.FfnIdeal.τ).loc Cert.FfnIdeal.main_v21_3) = v3 c
          ∧ r.2.mem ((c.tc : Thread Cert.FfnIdeal.nD Cert.FfnIdeal.τ).loc Cert.FfnIdeal.main_v21_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_v51) = v1 c
          ∧ r.2.mem ((c.tc : Thread Cert.FfnRefIdeal.nD Cert.FfnRefIdeal.τ).loc Cert.FfnRefIdeal.main_v52) = v2 c
          ∧ r.2.mem ((c.tc : Thread Cert.FfnRefIdeal.nD Cert.FfnRefIdeal.τ).loc Cert.FfnRefIdeal.main_v53) = v3 c
          ∧ r.2.mem ((c.tc : Thread Cert.FfnRefIdeal.nD Cert.FfnRefIdeal.τ).loc Cert.FfnRefIdeal.main_v33) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v11) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v45) = v0 c
          ∧ r.2.mem ((c.tc : Thread Cert.InRefIdeal.nD Cert.InRefIdeal.τ).loc Cert.InRefIdeal.main_v28) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)) (v3 : (c : Dev Cert.OutIdeal.nD) → Buf (Elt Ideal) ((c.tc : Thread Cert.OutIdeal.nD Cert.OutIdeal.τ).loc Cert.OutIdeal.main_v0_3)) (v4 : (c : Dev Cert.OutIdeal.nD) → Buf (Elt Ideal) ((c.tc : Thread Cert.OutIdeal.nD Cert.OutIdeal.τ).loc Cert.OutIdeal.main_v0_4)) (v5 : (c : Dev Cert.OutIdeal.nD) → Buf (Elt Ideal) ((c.tc : Thread Cert.OutIdeal.nD Cert.OutIdeal.τ).loc Cert.OutIdeal.main_v0_5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_v0_3) = v3 c
          ∧ r.2.mem ((c.tc : Thread Cert.OutIdeal.nD Cert.OutIdeal.τ).loc Cert.OutIdeal.main_v0_4) = v4 c
          ∧ r.2.mem ((c.tc : Thread Cert.OutIdeal.nD Cert.OutIdeal.τ).loc Cert.OutIdeal.main_v0_5) = v5 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v73) = v0 c
          ∧ r.2.mem ((c.tc : Thread Cert.OutRefIdeal.nD Cert.OutRefIdeal.τ).loc Cert.OutRefIdeal.main_v54) = v1 c
          ∧ r.2.mem ((c.tc : Thread Cert.OutRefIdeal.nD Cert.OutRefIdeal.τ).loc Cert.OutRefIdeal.main_v74) = v2 c
          ∧ r.2.mem ((c.tc : Thread Cert.OutRefIdeal.nD Cert.OutRefIdeal.τ).loc Cert.OutRefIdeal.main_v75) = v3 c
          ∧ r.2.mem ((c.tc : Thread Cert.OutRefIdeal.nD Cert.OutRefIdeal.τ).loc Cert.OutRefIdeal.main_v57) = v4 c
          ∧ r.2.mem ((c.tc : Thread Cert.OutRefIdeal.nD Cert.OutRefIdeal.τ).loc Cert.OutRefIdeal.main_v38) = v5 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v7) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)) (v5 : (c : Dev Cert.LossIdeal.nD) → Buf (Elt Ideal) ((c.tc : Thread Cert.LossIdeal.nD Cert.LossIdeal.τ).loc Cert.LossIdeal.main_v0_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_v0_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v39) = v0 c
          ∧ r.2.mem ((c.tc : Thread Cert.LossRefIdeal.nD Cert.LossRefIdeal.τ).loc Cert.LossRefIdeal.main_v40) = v1 c
          ∧ r.2.mem ((c.tc : Thread Cert.LossRefIdeal.nD Cert.LossRefIdeal.τ).loc Cert.LossRefIdeal.main_v41) = v2 c
          ∧ r.2.mem ((c.tc : Thread Cert.LossRefIdeal.nD Cert.LossRefIdeal.τ).loc Cert.LossRefIdeal.main_v42) = v3 c
          ∧ r.2.mem ((c.tc : Thread Cert.LossRefIdeal.nD Cert.LossRefIdeal.τ).loc Cert.LossRefIdeal.main_v43) = v4 c
          ∧ r.2.mem ((c.tc : Thread Cert.LossRefIdeal.nD Cert.LossRefIdeal.τ).loc Cert.LossRefIdeal.main_v44) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v5) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)) →
    ∃ (v0 : (c : Dev Cert.JoinIdeal.nD) → Buf (Elt Ideal) ((c.tc : Thread Cert.JoinIdeal.nD Cert.JoinIdeal.τ).loc Cert.JoinIdeal.main_v0)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v0) = v0 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v27) = v0 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v15) = v0 c
          ∧ r.2.mem ((c.tc : Thread Cert.HeadRefIdeal.nD Cert.HeadRefIdeal.τ).loc Cert.HeadRefIdeal.main_v16) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Low_LowIdeal : Prop :=
  True

def algebraic_LowIdeal_LowRefIdeal [hLowIdeal : Cert.LowIdeal.Facts] [hLowRefIdeal : Cert.LowRefIdeal.Facts] : Prop :=
  ∀ (m : (ℓ : Loc Cert.LowIdeal.nD Cert.LowIdeal.τ Cert.LowIdeal.sig) → Buf (Elt Ideal) ℓ) (g : Dev Cert.LowIdeal.nD → PrngReg)
    (m' : (ℓ : Loc Cert.LowRefIdeal.nD Cert.LowRefIdeal.τ Cert.LowRefIdeal.sig) → Buf (Elt Ideal) ℓ) (g' : Dev Cert.LowRefIdeal.nD → PrngReg), Pre_LowIdeal m →
    (∀ c : Dev Cert.LowIdeal.nD,
      m' ((c.tc : Thread Cert.LowRefIdeal.nD Cert.LowRefIdeal.τ).loc Cert.LowRefIdeal.main_arg0) = m ((c.tc : Thread Cert.LowIdeal.nD Cert.LowIdeal.τ).loc Cert.LowIdeal.main_arg0)
      ∧ m' ((c.tc : Thread Cert.LowRefIdeal.nD Cert.LowRefIdeal.τ).loc Cert.LowRefIdeal.main_arg1) = m ((c.tc : Thread Cert.LowIdeal.nD Cert.LowIdeal.τ).loc Cert.LowIdeal.main_arg1)) →
    ∃ (v0 : (c : Dev Cert.LowIdeal.nD) → Buf (Elt Ideal) ((c.tc : Thread Cert.LowIdeal.nD Cert.LowIdeal.τ).loc Cert.LowIdeal.main_v0)),
      θ_run (Cert.LowIdeal.defs (F := Ideal)) (onTc (τ := Cert.LowIdeal.τ) (Cert.LowIdeal.main (F := Ideal))) ⟨m, fun _ => 0, g⟩ (fun r => ∀ c : Dev Cert.LowIdeal.nD,
          r.2.mem ((c.tc : Thread Cert.LowIdeal.nD Cert.LowIdeal.τ).loc Cert.LowIdeal.main_v0) = v0 c
          ∧ r.2.mem ((c.tc : Thread Cert.LowIdeal.nD Cert.LowIdeal.τ).loc Cert.LowIdeal.main_arg0) = m ((c.tc : Thread Cert.LowIdeal.nD Cert.LowIdeal.τ).loc Cert.LowIdeal.main_arg0)
          ∧ r.2.mem ((c.tc : Thread Cert.LowIdeal.nD Cert.LowIdeal.τ).loc Cert.LowIdeal.main_arg1) = m ((c.tc : Thread Cert.LowIdeal.nD Cert.LowIdeal.τ).loc Cert.LowIdeal.main_arg1))
      ∧ θ_run (Cert.LowRefIdeal.defs (F := Ideal)) (onTc (τ := Cert.LowRefIdeal.τ) (Cert.LowRefIdeal.main (F := Ideal))) ⟨m', fun _ => 0, g'⟩ (fun r => ∀ c : Dev Cert.LowRefIdeal.nD,
          r.2.mem ((c.tc : Thread Cert.LowRefIdeal.nD Cert.LowRefIdeal.τ).loc Cert.LowRefIdeal.main_v13) = v0 c
          ∧ r.2.mem ((c.tc : Thread Cert.LowRefIdeal.nD Cert.LowRefIdeal.τ).loc Cert.LowRefIdeal.main_arg0) = m' ((c.tc : Thread Cert.LowRefIdeal.nD Cert.LowRefIdeal.τ).loc Cert.LowRefIdeal.main_arg0)
          ∧ r.2.mem ((c.tc : Thread Cert.LowRefIdeal.nD Cert.LowRefIdeal.τ).loc Cert.LowRefIdeal.main_arg1) = m' ((c.tc : Thread Cert.LowRefIdeal.nD Cert.LowRefIdeal.τ).loc Cert.LowRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)) (v2 : (c : Dev Cert.FirstIdeal.nD) → Buf (Elt Ideal) ((c.tc : Thread Cert.FirstIdeal.nD Cert.FirstIdeal.τ).loc Cert.FirstIdeal.main_v0_2)) (v3 : (c : Dev Cert.FirstIdeal.nD) → Buf (Elt Ideal) ((c.tc : Thread Cert.FirstIdeal.nD Cert.FirstIdeal.τ).loc Cert.FirstIdeal.main_v0_3)) (v4 : (c : Dev Cert.FirstIdeal.nD) → Buf (Elt Ideal) ((c.tc : Thread Cert.FirstIdeal.nD Cert.FirstIdeal.τ).loc Cert.FirstIdeal.main_v0_4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_v0_2) = v2 c
          ∧ r.2.mem ((c.tc : Thread Cert.FirstIdeal.nD Cert.FirstIdeal.τ).loc Cert.FirstIdeal.main_v0_3) = v3 c
          ∧ r.2.mem ((c.tc : Thread Cert.FirstIdeal.nD Cert.FirstIdeal.τ).loc Cert.FirstIdeal.main_v0_4) = v4 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v27) = v0 c
          ∧ r.2.mem ((c.tc : Thread Cert.FirstRefIdeal.nD Cert.FirstRefIdeal.τ).loc Cert.FirstRefIdeal.main_v29) = v1 c
          ∧ r.2.mem ((c.tc : Thread Cert.FirstRefIdeal.nD Cert.FirstRefIdeal.τ).loc Cert.FirstRefIdeal.main_v31) = v2 c
          ∧ r.2.mem ((c.tc : Thread Cert.FirstRefIdeal.nD Cert.FirstRefIdeal.τ).loc Cert.FirstRefIdeal.main_v32) = v3 c
          ∧ r.2.mem ((c.tc : Thread Cert.FirstRefIdeal.nD Cert.FirstRefIdeal.τ).loc Cert.FirstRefIdeal.main_v35) = v4 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Rate_RateIdeal : Prop :=
  True

def algebraic_RateIdeal_RateRefIdeal [hRateIdeal : Cert.RateIdeal.Facts] [hRateRefIdeal : Cert.RateRefIdeal.Facts] : Prop :=
  ∀ (m : (ℓ : Loc Cert.RateIdeal.nD Cert.RateIdeal.τ Cert.RateIdeal.sig) → Buf (Elt Ideal) ℓ) (g : Dev Cert.RateIdeal.nD → PrngReg)
    (m' : (ℓ : Loc Cert.RateRefIdeal.nD Cert.RateRefIdeal.τ Cert.RateRefIdeal.sig) → Buf (Elt Ideal) ℓ) (g' : Dev Cert.RateRefIdeal.nD → PrngReg), Pre_RateIdeal m →
    (∀ c : Dev Cert.RateIdeal.nD,
      m' ((c.tc : Thread Cert.RateRefIdeal.nD Cert.RateRefIdeal.τ).loc Cert.RateRefIdeal.main_arg0) = m ((c.tc : Thread Cert.RateIdeal.nD Cert.RateIdeal.τ).loc Cert.RateIdeal.main_arg0)
      ∧ m' ((c.tc : Thread Cert.RateRefIdeal.nD Cert.RateRefIdeal.τ).loc Cert.RateRefIdeal.main_arg1) = m ((c.tc : Thread Cert.RateIdeal.nD Cert.RateIdeal.τ).loc Cert.RateIdeal.main_arg1)
      ∧ m' ((c.tc : Thread Cert.RateRefIdeal.nD Cert.RateRefIdeal.τ).loc Cert.RateRefIdeal.main_arg2) = m ((c.tc : Thread Cert.RateIdeal.nD Cert.RateIdeal.τ).loc Cert.RateIdeal.main_arg2)
      ∧ m' ((c.tc : Thread Cert.RateRefIdeal.nD Cert.RateRefIdeal.τ).loc Cert.RateRefIdeal.main_arg3) = m ((c.tc : Thread Cert.RateIdeal.nD Cert.RateIdeal.τ).loc Cert.RateIdeal.main_arg3)) →
    ∃ (v0 : (c : Dev Cert.RateIdeal.nD) → Buf (Elt Ideal) ((c.tc : Thread Cert.RateIdeal.nD Cert.RateIdeal.τ).loc Cert.RateIdeal.main_v0_0)) (v1 : (c : Dev Cert.RateIdeal.nD) → Buf (Elt Ideal) ((c.tc : Thread Cert.RateIdeal.nD Cert.RateIdeal.τ).loc Cert.RateIdeal.main_v0_1)) (v2 : (c : Dev Cert.RateIdeal.nD) → Buf (Elt Ideal) ((c.tc : Thread Cert.RateIdeal.nD Cert.RateIdeal.τ).loc Cert.RateIdeal.main_v0_2)) (v3 : (c : Dev Cert.RateIdeal.nD) → Buf (Elt Ideal) ((c.tc : Thread Cert.RateIdeal.nD Cert.RateIdeal.τ).loc Cert.RateIdeal.main_v0_3)),
      θ_run (Cert.RateIdeal.defs (F := Ideal)) (onTc (τ := Cert.RateIdeal.τ) (Cert.RateIdeal.main (F := Ideal))) ⟨m, fun _ => 0, g⟩ (fun r => ∀ c : Dev Cert.RateIdeal.nD,
          r.2.mem ((c.tc : Thread Cert.RateIdeal.nD Cert.RateIdeal.τ).loc Cert.RateIdeal.main_v0_0) = v0 c
          ∧ r.2.mem ((c.tc : Thread Cert.RateIdeal.nD Cert.RateIdeal.τ).loc Cert.RateIdeal.main_v0_1) = v1 c
          ∧ r.2.mem ((c.tc : Thread Cert.RateIdeal.nD Cert.RateIdeal.τ).loc Cert.RateIdeal.main_v0_2) = v2 c
          ∧ r.2.mem ((c.tc : Thread Cert.RateIdeal.nD Cert.RateIdeal.τ).loc Cert.RateIdeal.main_v0_3) = v3 c
          ∧ r.2.mem ((c.tc : Thread Cert.RateIdeal.nD Cert.RateIdeal.τ).loc Cert.RateIdeal.main_arg0) = m ((c.tc : Thread Cert.RateIdeal.nD Cert.RateIdeal.τ).loc Cert.RateIdeal.main_arg0)
          ∧ r.2.mem ((c.tc : Thread Cert.RateIdeal.nD Cert.RateIdeal.τ).loc Cert.RateIdeal.main_arg1) = m ((c.tc : Thread Cert.RateIdeal.nD Cert.RateIdeal.τ).loc Cert.RateIdeal.main_arg1)
          ∧ r.2.mem ((c.tc : Thread Cert.RateIdeal.nD Cert.RateIdeal.τ).loc Cert.RateIdeal.main_arg2) = m ((c.tc : Thread Cert.RateIdeal.nD Cert.RateIdeal.τ).loc Cert.RateIdeal.main_arg2)
          ∧ r.2.mem ((c.tc : Thread Cert.RateIdeal.nD Cert.RateIdeal.τ).loc Cert.RateIdeal.main_arg3) = m ((c.tc : Thread Cert.RateIdeal.nD Cert.RateIdeal.τ).loc Cert.RateIdeal.main_arg3))
      ∧ θ_run (Cert.RateRefIdeal.defs (F := Ideal)) (onTc (τ := Cert.RateRefIdeal.τ) (Cert.RateRefIdeal.main (F := Ideal))) ⟨m', fun _ => 0, g'⟩ (fun r => ∀ c : Dev Cert.RateRefIdeal.nD,
          r.2.mem ((c.tc : Thread Cert.RateRefIdeal.nD Cert.RateRefIdeal.τ).loc Cert.RateRefIdeal.main_arg1) = v0 c
          ∧ r.2.mem ((c.tc : Thread Cert.RateRefIdeal.nD Cert.RateRefIdeal.τ).loc Cert.RateRefIdeal.main_v23) = v1 c
          ∧ r.2.mem ((c.tc : Thread Cert.RateRefIdeal.nD Cert.RateRefIdeal.τ).loc Cert.RateRefIdeal.main_v4) = v2 c
          ∧ r.2.mem ((c.tc : Thread Cert.RateRefIdeal.nD Cert.RateRefIdeal.τ).loc Cert.RateRefIdeal.main_v10) = v3 c
          ∧ r.2.mem ((c.tc : Thread Cert.RateRefIdeal.nD Cert.RateRefIdeal.τ).loc Cert.RateRefIdeal.main_arg0) = m' ((c.tc : Thread Cert.RateRefIdeal.nD Cert.RateRefIdeal.τ).loc Cert.RateRefIdeal.main_arg0)
          ∧ r.2.mem ((c.tc : Thread Cert.RateRefIdeal.nD Cert.RateRefIdeal.τ).loc Cert.RateRefIdeal.main_arg1) = m' ((c.tc : Thread Cert.RateRefIdeal.nD Cert.RateRefIdeal.τ).loc Cert.RateRefIdeal.main_arg1)
          ∧ r.2.mem ((c.tc : Thread Cert.RateRefIdeal.nD Cert.RateRefIdeal.τ).loc Cert.RateRefIdeal.main_arg2) = m' ((c.tc : Thread Cert.RateRefIdeal.nD Cert.RateRefIdeal.τ).loc Cert.RateRefIdeal.main_arg2)
          ∧ r.2.mem ((c.tc : Thread Cert.RateRefIdeal.nD Cert.RateRefIdeal.τ).loc Cert.RateRefIdeal.main_arg3) = m' ((c.tc : Thread Cert.RateRefIdeal.nD Cert.RateRefIdeal.τ).loc Cert.RateRefIdeal.main_arg3))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m' ((c.tc : Thread Cert.TotalRefIdeal.nD Cert.TotalRefIdeal.τ).loc Cert.TotalRefIdeal.main_arg0) = m ((c.tc : Thread Cert.TotalIdeal.nD Cert.TotalIdeal.τ).loc Cert.TotalIdeal.main_arg0)) →
    ∃ (v0 : (c : Dev Cert.TotalIdeal.nD) → Buf (Elt Ideal) ((c.tc : Thread Cert.TotalIdeal.nD Cert.TotalIdeal.τ).loc Cert.TotalIdeal.main_v0)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v0) = v0 c
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalRefIdeal.defs (F := Ideal)) (onTc (τ := Cert.TotalRefIdeal.τ) (Cert.TotalRefIdeal.main (F := Ideal))) ⟨m', fun _ => 0, g'⟩ (fun r => ∀ c : Dev Cert.TotalRefIdeal.nD,
          r.2.mem ((c.tc : Thread Cert.TotalRefIdeal.nD Cert.TotalRefIdeal.τ).loc Cert.TotalRefIdeal.main_v0) = v0 c
          ∧ r.2.mem ((c.tc : Thread Cert.TotalRefIdeal.nD Cert.TotalRefIdeal.τ).loc Cert.TotalRefIdeal.main_arg0) = m' ((c.tc : Thread Cert.TotalRefIdeal.nD Cert.TotalRefIdeal.τ).loc Cert.TotalRefIdeal.main_arg0))

def preserves_Layer_LayerIdeal : Prop :=
  True

def algebraic_LayerIdeal_LayerRefIdeal [hLayerIdeal : Cert.LayerIdeal.Facts] [hLayerRefIdeal : Cert.LayerRefIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)) →
    ∃ (v0 : (c : Dev Cert.LayerIdeal.nD) → Buf (Elt Ideal) ((c.tc : Thread Cert.LayerIdeal.nD Cert.LayerIdeal.τ).loc Cert.LayerIdeal.main_v0_0)) (v1 : (c : Dev Cert.LayerIdeal.nD) → Buf (Elt Ideal) ((c.tc : Thread Cert.LayerIdeal.nD Cert.LayerIdeal.τ).loc Cert.LayerIdeal.main_v0_1)) (v2 : (c : Dev Cert.LayerIdeal.nD) → Buf (Elt Ideal) ((c.tc : Thread Cert.LayerIdeal.nD Cert.LayerIdeal.τ).loc Cert.LayerIdeal.main_v0_2)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v0_0) = v0 c
          ∧ r.2.mem ((c.tc : Thread Cert.LayerIdeal.nD Cert.LayerIdeal.τ).loc Cert.LayerIdeal.main_v0_1) = v1 c
          ∧ r.2.mem ((c.tc : Thread Cert.LayerIdeal.nD Cert.LayerIdeal.τ).loc Cert.LayerIdeal.main_v0_2) = v2 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v23) = v0 c
          ∧ r.2.mem ((c.tc : Thread Cert.LayerRefIdeal.nD Cert.LayerRefIdeal.τ).loc Cert.LayerRefIdeal.main_v4) = v1 c
          ∧ r.2.mem ((c.tc : Thread Cert.LayerRefIdeal.nD Cert.LayerRefIdeal.τ).loc Cert.LayerRefIdeal.main_v10) = v2 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3))

def preserves_Enter_EnterIdeal : Prop :=
  True

def algebraic_EnterIdeal_EnterRefIdeal [hEnterIdeal : Cert.EnterIdeal.Facts] [hEnterRefIdeal : Cert.EnterRefIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterRefIdeal.nD Cert.EnterRefIdeal.τ Cert.EnterRefIdeal.sig) → Buf (Elt Ideal) ℓ) (g' : Dev Cert.EnterRefIdeal.nD → PrngReg), Pre_EnterIdeal m →
    (∀ c : Dev Cert.EnterIdeal.nD,
      m' ((c.tc : Thread Cert.EnterRefIdeal.nD Cert.EnterRefIdeal.τ).loc Cert.EnterRefIdeal.main_arg0) = m ((c.tc : Thread Cert.EnterIdeal.nD Cert.EnterIdeal.τ).loc Cert.EnterIdeal.main_arg0)
      ∧ m' ((c.tc : Thread Cert.EnterRefIdeal.nD Cert.EnterRefIdeal.τ).loc Cert.EnterRefIdeal.main_arg1) = m ((c.tc : Thread Cert.EnterIdeal.nD Cert.EnterIdeal.τ).loc Cert.EnterIdeal.main_arg1)
      ∧ m' ((c.tc : Thread Cert.EnterRefIdeal.nD Cert.EnterRefIdeal.τ).loc Cert.EnterRefIdeal.main_arg2) = m ((c.tc : Thread Cert.EnterIdeal.nD Cert.EnterIdeal.τ).loc Cert.EnterIdeal.main_arg2)
      ∧ m' ((c.tc : Thread Cert.EnterRefIdeal.nD Cert.EnterRefIdeal.τ).loc Cert.EnterRefIdeal.main_arg3) = m ((c.tc : Thread Cert.EnterIdeal.nD Cert.EnterIdeal.τ).loc Cert.EnterIdeal.main_arg3)) →
    ∃ (v0 : (c : Dev Cert.EnterIdeal.nD) → Buf (Elt Ideal) ((c.tc : Thread Cert.EnterIdeal.nD Cert.EnterIdeal.τ).loc Cert.EnterIdeal.main_v0_0)) (v1 : (c : Dev Cert.EnterIdeal.nD) → Buf (Elt Ideal) ((c.tc : Thread Cert.EnterIdeal.nD Cert.EnterIdeal.τ).loc Cert.EnterIdeal.main_v0_1)) (v2 : (c : Dev Cert.EnterIdeal.nD) → Buf (Elt Ideal) ((c.tc : Thread Cert.EnterIdeal.nD Cert.EnterIdeal.τ).loc Cert.EnterIdeal.main_v0_2)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v0_0) = v0 c
          ∧ r.2.mem ((c.tc : Thread Cert.EnterIdeal.nD Cert.EnterIdeal.τ).loc Cert.EnterIdeal.main_v0_1) = v1 c
          ∧ r.2.mem ((c.tc : Thread Cert.EnterIdeal.nD Cert.EnterIdeal.τ).loc Cert.EnterIdeal.main_v0_2) = v2 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
          ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3))
      ∧ θ_run (Cert.EnterRefIdeal.defs (F := Ideal)) (onTc (τ := Cert.EnterRefIdeal.τ) (Cert.EnterRefIdeal.main (F := Ideal))) ⟨m', fun _ => 0, g'⟩ (fun r => ∀ c : Dev Cert.EnterRefIdeal.nD,
          r.2.mem ((c.tc : Thread Cert.EnterRefIdeal.nD Cert.EnterRefIdeal.τ).loc Cert.EnterRefIdeal.main_v23) = v0 c
          ∧ r.2.mem ((c.tc : Thread Cert.EnterRefIdeal.nD Cert.EnterRefIdeal.τ).loc Cert.EnterRefIdeal.main_v4) = v1 c
          ∧ r.2.mem ((c.tc : Thread Cert.EnterRefIdeal.nD Cert.EnterRefIdeal.τ).loc Cert.EnterRefIdeal.main_v10) = v2 c
          ∧ r.2.mem ((c.tc : Thread Cert.EnterRefIdeal.nD Cert.EnterRefIdeal.τ).loc Cert.EnterRefIdeal.main_arg0) = m' ((c.tc : Thread Cert.EnterRefIdeal.nD Cert.EnterRefIdeal.τ).loc Cert.EnterRefIdeal.main_arg0)
          ∧ r.2.mem ((c.tc : Thread Cert.EnterRefIdeal.nD Cert.EnterRefIdeal.τ).loc Cert.EnterRefIdeal.main_arg1) = m' ((c.tc : Thread Cert.EnterRefIdeal.nD Cert.EnterRefIdeal.τ).loc Cert.EnterRefIdeal.main_arg1)
          ∧ r.2.mem ((c.tc : Thread Cert.EnterRefIdeal.nD Cert.EnterRefIdeal.τ).loc Cert.EnterRefIdeal.main_arg2) = m' ((c.tc : Thread Cert.EnterRefIdeal.nD Cert.EnterRefIdeal.τ).loc Cert.EnterRefIdeal.main_arg2)
          ∧ r.2.mem ((c.tc : Thread Cert.EnterRefIdeal.nD Cert.EnterRefIdeal.τ).loc Cert.EnterRefIdeal.main_arg3) = m' ((c.tc : Thread Cert.EnterRefIdeal.nD Cert.EnterRefIdeal.τ).loc Cert.EnterRefIdeal.main_arg3))

def preserves_Leave_LeaveIdeal : Prop :=
  True

def algebraic_LeaveIdeal_LeaveRefIdeal [hLeaveIdeal : Cert.LeaveIdeal.Facts] [hLeaveRefIdeal : Cert.LeaveRefIdeal.Facts] : Prop :=
  ∀ (m : (ℓ : Loc Cert.LeaveIdeal.nD Cert.LeaveIdeal.τ Cert.LeaveIdeal.sig) → Buf (Elt Ideal) ℓ) (g : Dev Cert.LeaveIdeal.nD → PrngReg)
    (m' : (ℓ : Loc Cert.LeaveRefIdeal.nD Cert.LeaveRefIdeal.τ Cert.LeaveRefIdeal.sig) → Buf (Elt Ideal) ℓ) (g' : Dev Cert.LeaveRefIdeal.nD → PrngReg), Pre_LeaveIdeal m →
    (∀ c : Dev Cert.LeaveIdeal.nD,
      m' ((c.tc : Thread Cert.LeaveRefIdeal.nD Cert.LeaveRefIdeal.τ).loc Cert.LeaveRefIdeal.main_arg0) = m ((c.tc : Thread Cert.LeaveIdeal.nD Cert.LeaveIdeal.τ).loc Cert.LeaveIdeal.main_arg0)
      ∧ m' ((c.tc : Thread Cert.LeaveRefIdeal.nD Cert.LeaveRefIdeal.τ).loc Cert.LeaveRefIdeal.main_arg1) = m ((c.tc : Thread Cert.LeaveIdeal.nD Cert.LeaveIdeal.τ).loc Cert.LeaveIdeal.main_arg1)
      ∧ m' ((c.tc : Thread Cert.LeaveRefIdeal.nD Cert.LeaveRefIdeal.τ).loc Cert.LeaveRefIdeal.main_arg2) = m ((c.tc : Thread Cert.LeaveIdeal.nD Cert.LeaveIdeal.τ).loc Cert.LeaveIdeal.main_arg2)
      ∧ m' ((c.tc : Thread Cert.LeaveRefIdeal.nD Cert.LeaveRefIdeal.τ).loc Cert.LeaveRefIdeal.main_arg3) = m ((c.tc : Thread Cert.LeaveIdeal.nD Cert.LeaveIdeal.τ).loc Cert.LeaveIdeal.main_arg3)) →
    ∃ (v0 : (c : Dev Cert.LeaveIdeal.nD) → Buf (Elt Ideal) ((c.tc : Thread Cert.LeaveIdeal.nD Cert.LeaveIdeal.τ).loc Cert.LeaveIdeal.main_v0_0)) (v1 : (c : Dev Cert.LeaveIdeal.nD) → Buf (Elt Ideal) ((c.tc : Thread Cert.LeaveIdeal.nD Cert.LeaveIdeal.τ).loc Cert.LeaveIdeal.main_v0_1)) (v2 : (c : Dev Cert.LeaveIdeal.nD) → Buf (Elt Ideal) ((c.tc : Thread Cert.LeaveIdeal.nD Cert.LeaveIdeal.τ).loc Cert.LeaveIdeal.main_v0_2)),
      θ_run (Cert.LeaveIdeal.defs (F := Ideal)) (onTc (τ := Cert.LeaveIdeal.τ) (Cert.LeaveIdeal.main (F := Ideal))) ⟨m, fun _ => 0, g⟩ (fun r => ∀ c : Dev Cert.LeaveIdeal.nD,
          r.2.mem ((c.tc : Thread Cert.LeaveIdeal.nD Cert.LeaveIdeal.τ).loc Cert.LeaveIdeal.main_v0_0) = v0 c
          ∧ r.2.mem ((c.tc : Thread Cert.LeaveIdeal.nD Cert.LeaveIdeal.τ).loc Cert.LeaveIdeal.main_v0_1) = v1 c
          ∧ r.2.mem ((c.tc : Thread Cert.LeaveIdeal.nD Cert.LeaveIdeal.τ).loc Cert.LeaveIdeal.main_v0_2) = v2 c
          ∧ r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
          ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
          ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
          ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ θ_run (Cert.LeaveRefIdeal.defs (F := Ideal)) (onTc (τ := Cert.LeaveRefIdeal.τ) (Cert.LeaveRefIdeal.main (F := Ideal))) ⟨m', fun _ => 0, g'⟩ (fun r => ∀ c : Dev Cert.LeaveRefIdeal.nD,
          r.2.mem ((c.tc : Thread Cert.LeaveRefIdeal.nD Cert.LeaveRefIdeal.τ).loc Cert.LeaveRefIdeal.main_v23) = v0 c
          ∧ r.2.mem ((c.tc : Thread Cert.LeaveRefIdeal.nD Cert.LeaveRefIdeal.τ).loc Cert.LeaveRefIdeal.main_v4) = v1 c
          ∧ r.2.mem ((c.tc : Thread Cert.LeaveRefIdeal.nD Cert.LeaveRefIdeal.τ).loc Cert.LeaveRefIdeal.main_v10) = v2 c
          ∧ r.2.mem ((c.tc : Thread Cert.LeaveRefIdeal.nD Cert.LeaveRefIdeal.τ).loc Cert.LeaveRefIdeal.main_arg0) = m' ((c.tc : Thread Cert.LeaveRefIdeal.nD Cert.LeaveRefIdeal.τ).loc Cert.LeaveRefIdeal.main_arg0)
          ∧ r.2.mem ((c.tc : Thread Cert.LeaveRefIdeal.nD Cert.LeaveRefIdeal.τ).loc Cert.LeaveRefIdeal.main_arg1) = m' ((c.tc : Thread Cert.LeaveRefIdeal.nD Cert.LeaveRefIdeal.τ).loc Cert.LeaveRefIdeal.main_arg1)
          ∧ r.2.mem ((c.tc : Thread Cert.LeaveRefIdeal.nD Cert.LeaveRefIdeal.τ).loc Cert.LeaveRefIdeal.main_arg2) = m' ((c.tc : Thread Cert.LeaveRefIdeal.nD Cert.LeaveRefIdeal.τ).loc Cert.LeaveRefIdeal.main_arg2)
          ∧ r.2.mem ((c.tc : Thread Cert.LeaveRefIdeal.nD Cert.LeaveRefIdeal.τ).loc Cert.LeaveRefIdeal.main_arg3) = m' ((c.tc : Thread Cert.LeaveRefIdeal.nD Cert.LeaveRefIdeal.τ).loc Cert.LeaveRefIdeal.main_arg3))

def Claim : Prop :=
  ∃ (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hLoss : Cert.Loss.Facts) (hLossIdeal : Cert.LossIdeal.Facts) (hLossRefIdeal : Cert.LossRefIdeal.Facts) (hLast : Cert.Last.Facts) (hLastIdeal : Cert.LastIdeal.Facts) (hLastRefIdeal : Cert.LastRefIdeal.Facts) (hJoin : Cert.Join.Facts) (hJoinIdeal : Cert.JoinIdeal.Facts) (hJoinRefIdeal : Cert.JoinRefIdeal.Facts) (hHead : Cert.Head.Facts) (hHeadIdeal : Cert.HeadIdeal.Facts) (hHeadRefIdeal : Cert.HeadRefIdeal.Facts) (hGate : Cert.Gate.Facts) (hGateIdeal : Cert.GateIdeal.Facts) (hGateRefIdeal : Cert.GateRefIdeal.Facts) (hLow : Cert.Low.Facts) (hLowIdeal : Cert.LowIdeal.Facts) (hLowRefIdeal : Cert.LowRefIdeal.Facts) (hProj : Cert.Proj.Facts) (hProjIdeal : Cert.ProjIdeal.Facts) (hProjRefIdeal : Cert.ProjRefIdeal.Facts) (hFirst : Cert.First.Facts) (hFirstIdeal : Cert.FirstIdeal.Facts) (hFirstRefIdeal : Cert.FirstRefIdeal.Facts) (hRate : Cert.Rate.Facts) (hRateIdeal : Cert.RateIdeal.Facts) (hRateRefIdeal : Cert.RateRefIdeal.Facts) (hTotal : Cert.Total.Facts) (hTotalIdeal : Cert.TotalIdeal.Facts) (hTotalRefIdeal : Cert.TotalRefIdeal.Facts) (hLayer : Cert.Layer.Facts) (hLayerIdeal : Cert.LayerIdeal.Facts) (hLayerRefIdeal : Cert.LayerRefIdeal.Facts) (hEnter : Cert.Enter.Facts) (hEnterIdeal : Cert.EnterIdeal.Facts) (hEnterRefIdeal : Cert.EnterRefIdeal.Facts) (hLeave : Cert.Leave.Facts) (hLeaveIdeal : Cert.LeaveIdeal.Facts) (hLeaveRefIdeal : Cert.LeaveRefIdeal.Facts) (hPre_finite : Cert.Pre_finite.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixRefIdeal (hMixRefIdeal := hMixRefIdeal)
    ∧ quiescent_Loss (hLoss := hLoss)
    ∧ quiescent_LossIdeal (hLossIdeal := hLossIdeal)
    ∧ quiescent_LossRefIdeal (hLossRefIdeal := hLossRefIdeal)
    ∧ quiescent_Last (hLast := hLast)
    ∧ quiescent_LastIdeal (hLastIdeal := hLastIdeal)
    ∧ quiescent_LastRefIdeal (hLastRefIdeal := hLastRefIdeal)
    ∧ quiescent_Join (hJoin := hJoin)
    ∧ quiescent_JoinIdeal (hJoinIdeal := hJoinIdeal)
    ∧ quiescent_JoinRefIdeal (hJoinRefIdeal := hJoinRefIdeal)
    ∧ quiescent_Head (hHead := hHead)
    ∧ quiescent_HeadIdeal (hHeadIdeal := hHeadIdeal)
    ∧ quiescent_HeadRefIdeal (hHeadRefIdeal := hHeadRefIdeal)
    ∧ quiescent_Gate (hGate := hGate)
    ∧ quiescent_GateIdeal (hGateIdeal := hGateIdeal)
    ∧ quiescent_GateRefIdeal (hGateRefIdeal := hGateRefIdeal)
    ∧ quiescent_Low (hLow := hLow)
    ∧ quiescent_LowIdeal (hLowIdeal := hLowIdeal)
    ∧ quiescent_LowRefIdeal (hLowRefIdeal := hLowRefIdeal)
    ∧ quiescent_Proj (hProj := hProj)
    ∧ quiescent_ProjIdeal (hProjIdeal := hProjIdeal)
    ∧ quiescent_ProjRefIdeal (hProjRefIdeal := hProjRefIdeal)
    ∧ quiescent_First (hFirst := hFirst)
    ∧ quiescent_FirstIdeal (hFirstIdeal := hFirstIdeal)
    ∧ quiescent_FirstRefIdeal (hFirstRefIdeal := hFirstRefIdeal)
    ∧ quiescent_Rate (hRate := hRate)
    ∧ quiescent_RateIdeal (hRateIdeal := hRateIdeal)
    ∧ quiescent_RateRefIdeal (hRateRefIdeal := hRateRefIdeal)
    ∧ quiescent_Total (hTotal := hTotal)
    ∧ quiescent_TotalIdeal (hTotalIdeal := hTotalIdeal)
    ∧ quiescent_TotalRefIdeal (hTotalRefIdeal := hTotalRefIdeal)
    ∧ quiescent_Layer (hLayer := hLayer)
    ∧ quiescent_LayerIdeal (hLayerIdeal := hLayerIdeal)
    ∧ quiescent_LayerRefIdeal (hLayerRefIdeal := hLayerRefIdeal)
    ∧ quiescent_Enter (hEnter := hEnter)
    ∧ quiescent_EnterIdeal (hEnterIdeal := hEnterIdeal)
    ∧ quiescent_EnterRefIdeal (hEnterRefIdeal := hEnterRefIdeal)
    ∧ quiescent_Leave (hLeave := hLeave)
    ∧ quiescent_LeaveIdeal (hLeaveIdeal := hLeaveIdeal)
    ∧ quiescent_LeaveRefIdeal (hLeaveRefIdeal := hLeaveRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal (hMixIdeal := hMixIdeal) (hMixRefIdeal := hMixRefIdeal)
    ∧ preserves_Loss_LossIdeal
    ∧ algebraic_LossIdeal_LossRefIdeal (hLossIdeal := hLossIdeal) (hLossRefIdeal := hLossRefIdeal)
    ∧ preserves_Last_LastIdeal
    ∧ algebraic_LastIdeal_LastRefIdeal (hLastIdeal := hLastIdeal) (hLastRefIdeal := hLastRefIdeal)
    ∧ preserves_Join_JoinIdeal
    ∧ algebraic_JoinIdeal_JoinRefIdeal (hJoinIdeal := hJoinIdeal) (hJoinRefIdeal := hJoinRefIdeal)
    ∧ preserves_Head_HeadIdeal
    ∧ algebraic_HeadIdeal_HeadRefIdeal (hHeadIdeal := hHeadIdeal) (hHeadRefIdeal := hHeadRefIdeal)
    ∧ preserves_Gate_GateIdeal
    ∧ algebraic_GateIdeal_GateRefIdeal (hGateIdeal := hGateIdeal) (hGateRefIdeal := hGateRefIdeal)
    ∧ preserves_Low_LowIdeal
    ∧ algebraic_LowIdeal_LowRefIdeal (hLowIdeal := hLowIdeal) (hLowRefIdeal := hLowRefIdeal)
    ∧ preserves_Proj_ProjIdeal
    ∧ algebraic_ProjIdeal_ProjRefIdeal (hProjIdeal := hProjIdeal) (hProjRefIdeal := hProjRefIdeal)
    ∧ preserves_First_FirstIdeal
    ∧ algebraic_FirstIdeal_FirstRefIdeal (hFirstIdeal := hFirstIdeal) (hFirstRefIdeal := hFirstRefIdeal)
    ∧ preserves_Rate_RateIdeal
    ∧ algebraic_RateIdeal_RateRefIdeal (hRateIdeal := hRateIdeal) (hRateRefIdeal := hRateRefIdeal)
    ∧ preserves_Total_TotalIdeal
    ∧ algebraic_TotalIdeal_TotalRefIdeal (hTotalIdeal := hTotalIdeal) (hTotalRefIdeal := hTotalRefIdeal)
    ∧ preserves_Layer_LayerIdeal
    ∧ algebraic_LayerIdeal_LayerRefIdeal (hLayerIdeal := hLayerIdeal) (hLayerRefIdeal := hLayerRefIdeal)
    ∧ preserves_Enter_EnterIdeal
    ∧ algebraic_EnterIdeal_EnterRefIdeal (hEnterIdeal := hEnterIdeal) (hEnterRefIdeal := hEnterRefIdeal)
    ∧ preserves_Leave_LeaveIdeal
    ∧ algebraic_LeaveIdeal_LeaveRefIdeal (hLeaveIdeal := hLeaveIdeal) (hLeaveRefIdeal := hLeaveRefIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S4096x1024 .f32) (main_arg3 : FVec F S1024x2816 .f32) (main_arg4 : FVec F S1024x2816 .f32) (main_arg5 : FVec F S2816x1024 .f32) : IVec S4096x1024 1 × IVec S1x1024 1 × IVec S4096x1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S1280x1024 : Shape := ⟨2, ![1280, 1024]⟩
abbrev S256x1280 : Shape := ⟨2, ![256, 1280]⟩
abbrev S1536x1024 : Shape := ⟨2, ![1536, 1024]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 35
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S4096x1024, .f32⟩
  | .hbm, ⟨31, _⟩ => ⟨S4096x2816, .bf16⟩
  | .hbm, ⟨32, _⟩ => ⟨S4096x2816, .bf16⟩
  | .hbm, ⟨33, _⟩ => ⟨S4096x1024, .bf16⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x2816, .bf16⟩
  | .hbm, ⟨83, _⟩ => ⟨S4096x2816, .bf16⟩
  | .hbm, ⟨84, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Up.lean ====
abbrev S4096x2816 : Shape := ⟨2, ![4096, 2816]⟩
abbrev S4096x1024 : Shape := ⟨2, ![4096, 1024]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x2816, .f32⟩
  | .hbm, ⟨14, _⟩ => ⟨S2816x1024, .f32⟩
  | .hbm, ⟨15, _⟩ => ⟨S4x704x1024, .f32⟩
  | .hbm, ⟨16, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S4096x512 : Shape := ⟨2, ![4096, 512]⟩
abbrev S4x1024x640 : Shape := ⟨3, ![4, 1024, 640]⟩
abbrev S512x1024 : Shape := ⟨2, ![512, 1024]⟩
abbrev S512x512 : Shape := ⟨2, ![512, 512]⟩
abbrev S1024x2560 : Shape := ⟨2, ![1024, 2560]⟩
abbrev S1x1024x640 : Shape := ⟨3, ![1, 1024, 640]⟩
abbrev S1024x640 : Shape := ⟨2, ![1024, 640]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4x1024x640, .bf16⟩
  | .hbm, ⟨9, _⟩ => ⟨S4096x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S4x1024x640, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x2560, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InRefIdeal.lean ====
abbrev S4096x1024 : Shape := ⟨2, ![4096, 1024]⟩
abbrev S1x1024 : Shape := ⟨2, ![1, 1024]⟩
abbrev S4096x512 : Shape := ⟨2, ![4096, 512]⟩
abbrev S4x1024x640 : Shape := ⟨3, ![4, 1024, 640]⟩
abbrev S1024x4x640 : Shape := ⟨3, ![1024, 4, 640]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4x1024x640, .bf16⟩
  | .hbm, ⟨9, _⟩ => ⟨S4x1024x640, .f32⟩
  | .hbm, ⟨10, _⟩ => ⟨S1024x4x640, .f32⟩
  | .hbm, ⟨11, _⟩ => ⟨S1024x2560, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2560, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x2560, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Out.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x512, .f32⟩
  | .hbm, ⟨7, _⟩ => ⟨S4096x512, .f32⟩
  | .hbm, ⟨8, _⟩ => ⟨S4096x1024, .bf16⟩
  | .hbm, ⟨9, _⟩ => ⟨S4096x1024, .bf16⟩
  | .hbm, ⟨10, _⟩ => ⟨S1x512, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512, .f32⟩
  | .local _ .vmem, ⟨18, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S1024x1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x512, .f32⟩
  | .hbm, ⟨61, _⟩ => ⟨S4096x512, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x512, .f32⟩
  | .hbm, ⟨84, _⟩ => ⟨S4096x512, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x1024, .bf16⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Mix.lean ====
abbrev S4096x1024 : Shape := ⟨2, ![4096, 1024]⟩
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MixRefIdeal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1280x1024 : Shape := ⟨2, ![1280, 1024]⟩
abbrev S256x1280 : Shape := ⟨2, ![256, 1280]⟩
abbrev S1536x1024 : Shape := ⟨2, ![1536, 1024]⟩
abbrev S256x1536 : Shape := ⟨2, ![256, 1536]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S4096x1024, .bf16⟩
  | .hbm, ⟨10, _⟩ => ⟨S4096x2816, .bf16⟩
  | .hbm, ⟨11, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S1024x2816, .f32⟩
  | .hbm, ⟨23, _⟩ => ⟨S4096x2816, .f32⟩
  | .hbm, ⟨24, _⟩ => ⟨S2816x1024, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S2816x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x2816, .bf16⟩
  | .hbm, ⟨67, _⟩ => ⟨S4096x2816, .bf16⟩
  | .hbm, ⟨68, _⟩ => ⟨S4096x1024, .bf16⟩
  | .hbm, ⟨69, _⟩ => ⟨S4096x2816, .bf16⟩
  | .hbm, ⟨70, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Last.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Join.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== JoinRefIdeal.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S4x1024x640 : Shape := ⟨3, ![4, 1024, 640]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x640, .bf16⟩
  | .hbm, ⟨3, _⟩ => ⟨S4096x2560, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HeadRefIdeal.lean ====
abbrev S4096x1024 : Shape := ⟨2, ![4096, 1024]⟩
abbrev S1x1024 : Shape := ⟨2, ![1, 1024]⟩
abbrev S4x1024x640 : Shape := ⟨3, ![4, 1024, 640]⟩
abbrev S_ : Shape := ⟨0, ![]⟩
abbrev S4096 : Shape := ⟨1, ![4096]⟩
abbrev S4096x1 : Shape := ⟨2, ![4096, 1]⟩
abbrev S1024x4x640 : Shape := ⟨3, ![1024, 4, 640]⟩
abbrev S1024x2560 : Shape := ⟨2, ![1024, 2560]⟩
abbrev S4096x2560 : Shape := ⟨2, ![4096, 2560]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x640, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1024x640, .f32⟩
  | .hbm, ⟨19, _⟩ => ⟨S1024x4x640, .f32⟩
  | .hbm, ⟨20, _⟩ => ⟨S1024x2560, .f32⟩
  | .hbm, ⟨21, _⟩ => ⟨S4096x2560, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Gate.lean ====
abbrev S4096x1024 : Shape := ⟨2, ![4096, 1024]⟩
abbrev S4x4096x704 : Shape := ⟨3, ![4, 4096, 704]⟩
abbrev S4x1024x704 : Shape := ⟨3, ![4, 1024, 704]⟩
abbrev S512x1024 : Shape := ⟨2, ![512, 1024]⟩
abbrev S1x512x704 : Shape := ⟨3, ![1, 512, 704]⟩
abbrev S1x1024x704 : Shape := ⟨3, ![1, 1024, 704]⟩
abbrev S1024x704 : Shape := ⟨2, ![1024, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateRefIdeal.lean ====
abbrev S4096x1024 : Shape := ⟨2, ![4096, 1024]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x1024, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Low.lean ====
abbrev S4x4096x704 : Shape := ⟨3, ![4, 4096, 704]⟩
abbrev S4096x1024 : Shape := ⟨2, ![4096, 1024]⟩
abbrev S4x704x1024 : Shape := ⟨3, ![4, 704, 1024]⟩
abbrev S1x512x704 : Shape := ⟨3, ![1, 512, 704]⟩
abbrev S512x1024 : Shape := ⟨2, ![512, 1024]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S512x1024, .bf16⟩
  | .local _ .vmem, ⟨3, _⟩ => ⟨S512x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== LowRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S1024x2816, .f32⟩
  | .hbm, ⟨16, _⟩ => ⟨S2816x1024, .f32⟩
  | .hbm, ⟨17, _⟩ => ⟨S4x704x1024, .f32⟩
  | .hbm, ⟨18, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proj.lean ====
abbrev S4096x1024 : Shape := ⟨2, ![4096, 1024]⟩
abbrev S4096x2560 : Shape := ⟨2, ![4096, 2560]⟩
abbrev S4x1024x640 : Shape := ⟨3, ![4, 1024, 640]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .bf16⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== First.lean ====
abbrev S4096x1024 : Shape := ⟨2, ![4096, 1024]⟩
abbrev S1x1024 : Shape := ⟨2, ![1, 1024]⟩
abbrev S4x1024x704 : Shape := ⟨3, ![4, 1024, 704]⟩
abbrev S4x704x1024 : Shape := ⟨3, ![4, 704, 1024]⟩
abbrev S4x4096x704 : Shape := ⟨3, ![4, 4096, 704]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩
abbrev S704x1024 : Shape := ⟨2, ![704, 1024]⟩

abbrev nBuf : Space → Nat
  | .hbm => 10
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4096x1024, .f32⟩
  | .hbm, ⟨6, _⟩ => ⟨S4x4096x704, .f32⟩
  | .hbm, ⟨7, _⟩ => ⟨S4x4096x704, .f32⟩
  | .hbm, ⟨8, _⟩ => ⟨S4096x1024, .bf16⟩
  | .hbm, ⟨9, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S512x1024, .bf16⟩
  | .local _ .vmem, ⟨16, _⟩ => ⟨S512x1024, .bf16⟩
  | .local _ .vmem, ⟨17, _⟩ => ⟨S1x512x704, .bf16⟩
  | .local _ .vmem, ⟨18, _⟩ => ⟨S1x512x704, .bf16⟩
  | .local _ .vmem, ⟨19, _⟩ => ⟨S512x1024, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_29 : BitVec 32 := 0#32
  let v39 : BitVec 1 := Scalar.cmpi .ne v38 c0_i32_29
  v39

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FirstRefIdeal.lean ====
abbrev S4096x1024 : Shape := ⟨2, ![4096, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1024x4x704 : Shape := ⟨3, ![1024, 4, 704]⟩
abbrev S1024x2816 : Shape := ⟨2, ![1024, 2816]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4x1024x704, .f32⟩
  | .hbm, ⟨21, _⟩ => ⟨S1024x4x704, .f32⟩
  | .hbm, ⟨22, _⟩ => ⟨S1024x2816, .f32⟩
  | .hbm, ⟨23, _⟩ => ⟨S4096x2816, .f32⟩
  | .hbm, ⟨24, _⟩ => ⟨S4x1024x704, .f32⟩
  | .hbm, ⟨25, _⟩ => ⟨S1024x4x704, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4x704x1024, .f32⟩
  | .hbm, ⟨39, _⟩ => ⟨S2816x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x4x704, .f32⟩
  | .hbm, ⟨46, _⟩ => ⟨S4x4096x704, .f32⟩
  | .hbm, ⟨47, _⟩ => ⟨S4096x4x704, .f32⟩
  | .hbm, ⟨48, _⟩ => ⟨S4x4096x704, .f32⟩
  | .hbm, ⟨49, _⟩ => ⟨S4096x1024, .bf16⟩
  | .hbm, ⟨50, _⟩ => ⟨S4096x4x704, .f32⟩
  | .hbm, ⟨51, _⟩ => ⟨S4x4096x704, .f32⟩
  | .hbm, ⟨52, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Rate.lean ====
abbrev S568x128 : Shape := ⟨2, ![568, 128]⟩

abbrev nBuf : Space → Nat
  | .hbm => 8
  | .vmem => 8
  | .smem => 0
  | _ => 0

abbrev bufTy : (tb : Table) → Fin (tcTables nBuf tb) → BufTy
  | .hbm, ⟨0, _⟩ => ⟨S568x128, .f32⟩
  | .hbm, ⟨1, _⟩ => ⟨S568x128, .f32⟩
  | .hbm, ⟨2, _⟩ => ⟨S568x128, .f32⟩
  | .hbm, ⟨3, _⟩ => ⟨S568x128, .f32⟩
  | .hbm, ⟨4, _⟩ => ⟨S568x128, .f32⟩
  | .hbm, ⟨5, _⟩ => ⟨S568x128, .f32⟩
  | .hbm, ⟨6, _⟩ => ⟨S568x128, .f32⟩
  | .hbm, ⟨7, _⟩ => ⟨S568x128, .f32⟩
  | .local _ .vmem, ⟨0, _⟩ => ⟨S568x128, .f32⟩
  | .local _ .vmem, ⟨1, _⟩ => ⟨S568x128, .f32⟩
  | .local _ .vmem, ⟨2, _⟩ => ⟨S568x128, .f32⟩
  | .local _ .vmem, ⟨3, _⟩ => ⟨S568x128, .f32⟩
  | .local _ .vmem, ⟨4, _⟩ => ⟨S568x128, .f32⟩
  | .local _ .vmem, ⟨5, _⟩ => ⟨S568x128, .f32⟩
  | .local _ .vmem, ⟨6, _⟩ => ⟨S568x128, .f32⟩
  | .local _ .vmem, ⟨7, _⟩ => ⟨S568x128, .f32⟩
  | _, _ => ⟨S568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S568x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S568x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S568x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S568x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S568x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S568x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S568x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RateRefIdeal.lean ====
abbrev S568x128 : Shape := ⟨2, ![568, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S568x128, .f32⟩
  | .hbm, ⟨1, _⟩ => ⟨S568x128, .f32⟩
  | .hbm, ⟨2, _⟩ => ⟨S568x128, .f32⟩
  | .hbm, ⟨3, _⟩ => ⟨S568x128, .f32⟩
  | .hbm, ⟨4, _⟩ => ⟨S_, .f32⟩
  | .hbm, ⟨5, _⟩ => ⟨S568x128, .f32⟩
  | .hbm, ⟨6, _⟩ => ⟨S568x128, .f32⟩
  | .hbm, ⟨7, _⟩ => ⟨S_, .f32⟩
  | .hbm, ⟨8, _⟩ => ⟨S568x128, .f32⟩
  | .hbm, ⟨9, _⟩ => ⟨S568x128, .f32⟩
  | .hbm, ⟨10, _⟩ => ⟨S568x128, .f32⟩
  | .hbm, ⟨11, _⟩ => ⟨S_, .f32⟩
  | .hbm, ⟨12, _⟩ => ⟨S568x128, .f32⟩
  | .hbm, ⟨13, _⟩ => ⟨S568x128, .f32⟩
  | .hbm, ⟨14, _⟩ => ⟨S568x128, .f32⟩
  | .hbm, ⟨15, _⟩ => ⟨S_, .f32⟩
  | .hbm, ⟨16, _⟩ => ⟨S568x128, .f32⟩
  | .hbm, ⟨17, _⟩ => ⟨S568x128, .f32⟩
  | .hbm, ⟨18, _⟩ => ⟨S568x128, .f32⟩
  | .hbm, ⟨19, _⟩ => ⟨S_, .f32⟩
  | .hbm, ⟨20, _⟩ => ⟨S568x128, .f32⟩
  | .hbm, ⟨21, _⟩ => ⟨S568x128, .f32⟩
  | .hbm, ⟨22, _⟩ => ⟨S_, .f32⟩
  | .hbm, ⟨23, _⟩ => ⟨S568x128, .f32⟩
  | .hbm, ⟨24, _⟩ => ⟨S568x128, .f32⟩
  | .hbm, ⟨25, _⟩ => ⟨S568x128, .f32⟩
  | .hbm, ⟨26, _⟩ => ⟨S_, .f32⟩
  | .hbm, ⟨27, _⟩ => ⟨S568x128, .f32⟩
  | .hbm, ⟨28, _⟩ => ⟨S568x128, .f32⟩
  | .hbm, ⟨29, _⟩ => ⟨S568x128, .f32⟩
  | .hbm, ⟨30, _⟩ => ⟨S_, .f32⟩
  | .hbm, ⟨31, _⟩ => ⟨S568x128, .f32⟩
  | .hbm, ⟨32, _⟩ => ⟨S568x128, .f32⟩
  | .hbm, ⟨33, _⟩ => ⟨S568x128, .f32⟩
  | .hbm, ⟨34, _⟩ => ⟨S_, .f32⟩
  | .hbm, ⟨35, _⟩ => ⟨S568x128, .f32⟩
  | .hbm, ⟨36, _⟩ => ⟨S568x128, .f32⟩
  | _, _ => ⟨S568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Total.lean ====
abbrev S8x584x128 : Shape := ⟨3, ![8, 584, 128]⟩
abbrev S584x128 : Shape := ⟨2, ![584, 128]⟩
abbrev S1x584x128 : Shape := ⟨3, ![1, 584, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x584x128, .f32⟩
  | .hbm, ⟨1, _⟩ => ⟨S584x128, .f32⟩
  | .local _ .vmem, ⟨0, _⟩ => ⟨S8x584x128, .f32⟩
  | .local _ .vmem, ⟨1, _⟩ => ⟨S584x128, .f32⟩
  | _, _ => ⟨S8x584x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x584x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S584x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== TotalRefIdeal.lean ====
abbrev S8x584x128 : Shape := ⟨3, ![8, 584, 128]⟩
abbrev S_ : Shape := ⟨0, ![]⟩
abbrev S584x128 : Shape := ⟨2, ![584, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x584x128, .f32⟩
  | .hbm, ⟨1, _⟩ => ⟨S_, .f32⟩
  | .hbm, ⟨2, _⟩ => ⟨S584x128, .f32⟩
  | _, _ => ⟨S8x584x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Layer.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LayerRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Enter.lean ====
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EnterRefIdeal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Leave.lean ====
abbrev S256x1024 : Shape := ⟨2, ![256, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LeaveRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RateValue.lean ====
/-
  What the optimiser's step for the small weights leaves in its results, and what the sum of the small gradients over the
  devices' slots does.
-/
module

public import proofs.«01_k».proof.Proof.Gen.RateIdeal.Value
public import proofs.«01_k».proof.Proof.Gen.RateRefIdeal.Read
public import proofs.«01_k».proof.Proof.Gen.TotalIdeal.Value
public import proofs.«01_k».proof.Proof.Gen.TotalRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.RateIdeal.Sum

open Cert.RateIdeal Cert.RateIdeal.Gen Cert.RateRefIdeal.Read

/-- The first moment's new value. -/
theorem first (g m : FVec Ideal S568x128 .f32) : k0_pay1 (F := Ideal) g m = val_main_v4 (F := Ideal) g m := by
  funext i
  pointwise [k0_pay1, val_main_v4, val_main_v3, val_main_v2, val_main_v1, val_main_v0, val_main_cst, val_main_cst_0]

/-- The second moment's new value. -/
theorem second (g v : FVec Ideal S568x128 .f32) : k0_pay2 (F := Ideal) g v = val_main_v10 (F := Ideal) g v := by
  funext i
  pointwise [k0_pay2, val_main_v10, val_main_v9, val_main_v8, val_main_v7, val_main_v6, val_main_v5, val_main_cst_1, val_main_cst_2]

/-- The weight's change. -/
theorem delta (w g m v : FVec Ideal S568x128 .f32) :
    k0_pay3 (F := Ideal) g m v w = val_main_v23 (F := Ideal) w g m v := by
  funext i
  pointwise [k0_pay3, first, second, val_main_v23, val_main_v22, val_main_v21, val_main_v20, val_main_v19, val_main_v18,
    val_main_v17, val_main_v16, val_main_v15, val_main_v14, val_main_v13, val_main_v12, val_main_v11, val_main_cst_3,
    val_main_cst_4, val_main_cst_5, val_main_cst_6, val_main_cst_7]

end Cert.RateIdeal.Sum

namespace Cert.TotalIdeal.Sum

open Cert.TotalIdeal Cert.TotalIdeal.Gen Cert.TotalIdeal.Value Cert.TotalRefIdeal.Read

/-- The eight slots' sum, added slot by slot, is the sum over the first axis, at an index. -/
theorem total_at (a : FVec Ideal S8x584x128 .f32) (p : Fin 584) (q : Fin 128) :
    G1 (F := Ideal) a (ix2 p q) = val_main_v0 (F := Ideal) a (ix2 p q) := by
  pointwise [k0_pay1, G1, val_main_v0, val_main_cst]
  simp only [Fin.sum_univ_eight]

/-- The sum of the eight slots. -/
theorem total (a : FVec Ideal S8x584x128 .f32) : G1 (F := Ideal) a = val_main_v0 (F := Ideal) a := by
  funext i
  obtain ⟨p, q, rfl⟩ : ∃ (p : Fin 584) (q : Fin 128), i = ix2 p q :=
    ⟨i 0, i 1, by funext a; revert a; exact Fin.forall_fin_two.mpr ⟨rfl, rfl⟩⟩
  exact total_at a p q

end Cert.TotalIdeal.Sum

end
-- ==== Proof.LargeValue.lean ====
/-
  What the optimiser's step for a large weight leaves in its results, at the three shapes that the step makes the call with.
  The blocks of rows that the call goes through take no part in it: every result is index by index.
-/
module

public import proofs.«01_k».proof.Proof.Gen.LayerIdeal.Value
public import proofs.«01_k».proof.Proof.Gen.LayerRefIdeal.Read
public import proofs.«01_k».proof.Proof.Gen.EnterIdeal.Value
public import proofs.«01_k».proof.Proof.Gen.EnterRefIdeal.Read
public import proofs.«01_k».proof.Proof.Gen.LeaveIdeal.Value
public import proofs.«01_k».proof.Proof.Gen.LeaveRefIdeal.Read
public import Idealize.ShloMosaic.Lib.Pointwise

@[expose] public section

set_option maxRecDepth 16384

noncomputable section

open Idealize.ShloMosaic Idealize.ShloMosaic.TcCoe Idealize.SL.Sem

namespace Cert.LayerIdeal.Sum

open Cert.LayerIdeal Cert.LayerIdeal.Value Cert.LayerRefIdeal.Read

/-- The first moment's new value. -/
theorem first (g m : FVec Ideal S704x1024 .f32) : G5 (F := Ideal) g m = val_main_v4 (F := Ideal) g m := by
  funext i
  pointwise [G5, val_main_v4, val_main_v3, val_main_v2, val_main_v1, val_main_v0, val_main_cst, val_main_cst_0]

/-- The second moment's new value. -/
theorem second (g v : FVec Ideal S704x1024 .f32) : G6 (F := Ideal) g v = val_main_v10 (F := Ideal) g v := by
  funext i
  pointwise [G6, val_main_v10, val_main_v9, val_main_v8, val_main_v7, val_main_v6, val_main_v5, val_main_cst_1, val_main_cst_2]

/-- The weight's change. -/
theorem delta (w g m v : FVec Ideal S704x1024 .f32) :
    G4 (F := Ideal) g m v w = val_main_v23 (F := Ideal) w g m v := by
  funext i
  pointwise [G4, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3, val_main_cst_4, val_main_cst_5, val_main_cst_6, val_main_cst_7]

end Cert.LayerIdeal.Sum

namespace Cert.EnterIdeal.Sum

open Cert.EnterIdeal Cert.EnterIdeal.Value Cert.EnterRefIdeal.Read

/-- The first moment's new value. -/
theorem first (g m : FVec Ideal S1024x640 .f32) : G5 (F := Ideal) g m = val_main_v4 (F := Ideal) g m := by
  funext i
  pointwise [G5, val_main_v4, val_main_v3, val_main_v2, val_main_v1, val_main_v0, val_main_cst, val_main_cst_0]

/-- The second moment's new value. -/
theorem second (g v : FVec Ideal S1024x640 .f32) : G6 (F := Ideal) g v = val_main_v10 (F := Ideal) g v := by
  funext i
  pointwise [G6, val_main_v10, val_main_v9, val_main_v8, val_main_v7, val_main_v6, val_main_v5, val_main_cst_1, val_main_cst_2]

/-- The weight's change. -/
theorem delta (w g m v : FVec Ideal S1024x640 .f32) :
    G4 (F := Ideal) g m v w = val_main_v23 (F := Ideal) w g m v := by
  funext i
  pointwise [G4, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3, val_main_cst_4, val_main_cst_5, val_main_cst_6, val_main_cst_7]

end Cert.EnterIdeal.Sum

namespace Cert.LeaveIdeal.Sum

open Cert.LeaveIdeal Cert.LeaveIdeal.Value Cert.LeaveRefIdeal.Read

/-- The first moment's new value. -/
theorem first (g m : FVec Ideal S256x1024 .f32) : G5 (F := Ideal) g m = val_main_v4 (F := Ideal) g m := by
  funext i
  pointwise [G5, val_main_v4, val_main_v3, val_main_v2, val_main_v1, val_main_v0, val_main_cst, val_main_cst_0]

/-- The second moment's new value. -/
theorem second (g v : FVec Ideal S256x1024 .f32) : G6 (F := Ideal) g v = val_main_v10 (F := Ideal) g v := by
  funext i
  pointwise [G6, val_main_v10, val_main_v9, val_main_v8, val_main_v7, val_main_v6, val_main_v5, val_main_cst_1, val_main_cst_2]

/-- The weight's change. -/
theorem delta (w g m v : FVec Ideal S256x1024 .f32) :
    G4 (F := Ideal) g m v w = val_main_v23 (F := Ideal) w g m v := by
  funext i
  pointwise [G4, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2,
    val_main_cst_3, val_main_cst_4, val_main_cst_5, val_main_cst_6, val_main_cst_7]

end Cert.LeaveIdeal.Sum

end
-- ==== Proof.FfnReads.lean ====
/-
  What the feed-forward backward kernel reads at a grid point: rows 256 t to 256 t + 255 of the activations, of the
  output's gradient and of the two hidden products, and the weights whole.
-/
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Sum

open Cert.FfnIdeal Cert.FfnIdeal.Gen Cert.FfnRefIdeal.Read

variable (m : (ℓ : Loc nD τ sig) → Buf (Elt Ideal) ℓ)

/-- The tile of each operand a point reads, and the tile of each result it writes. -/
theorem tile_of : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- The argument arrays, as a device finds them. -/
abbrev ax (c : Dev nD) : FVec Ideal S4096x1024 .f32 := m ((c : Thread nD τ).loc main_arg0)
abbrev an (c : Dev nD) : FVec Ideal S1x1024 .f32 := m ((c : Thread nD τ).loc main_arg1)
abbrev ay (c : Dev nD) : FVec Ideal S4096x1024 .f32 := m ((c : Thread nD τ).loc main_arg2)
abbrev ag (c : Dev nD) : FVec Ideal S1024x2816 .f32 := m ((c : Thread nD τ).loc main_arg3)
abbrev au (c : Dev nD) : FVec Ideal S1024x2816 .f32 := m ((c : Thread nD τ).loc main_arg4)
abbrev ad (c : Dev nD) : FVec Ideal S2816x1024 .f32 := m ((c : Thread nD τ).loc main_arg5)

/-- The row of the whole arrays that row `p` of point `t`'s blocks is. -/
def row (t : Fin cfg0.N) (p : Fin 256) : Fin 4096 :=
  ⟨t.val * 256 + p.val, by have := lt_of_lt_of_eq t.isLt N_0; have := p.isLt; omega⟩

theorem read_x (c : Dev nD) (t : Fin cfg0.N) (p : Fin 256) (d : Fin 1024) :
    iblk m c 0 t (ix2 p d) = ax m c (ix2 (row t p) d) := by
  blk_ext [iblk, V, tile_of t, row]

theorem read_n (c : Dev nD) (t : Fin cfg0.N) (d : Fin 1024) : iblk m c 1 t (ix2 0 d) = an m c (ix2 0 d) := by
  blk_ext [iblk, V, tile_of t]

theorem read_y (c : Dev nD) (t : Fin cfg0.N) (p : Fin 256) (d : Fin 1024) :
    iblk m c 2 t (ix2 p d) = ay m c (ix2 (row t p) d) := by
  blk_ext [iblk, V, tile_of t, row]

theorem gate_entry (c : Dev nD) (s : Fin 4096) (f : Fin 2816) :
    V m c main_v14 (ix2 s f) = val_main_v15 (F := Ideal) (ax m c) (an m c) (ag m c) (ix2 s f) := by
  entry_read
  pointwise [val_main_v15, val_main_v14, val_main_v13, val_main_v12, val_main_v11, val_main_v7, val_main_v6, val_main_v5, val_main_v4, val_main_v3, val_main_v2, val_main_v1, val_main_v0, val_main_cst, val_main_cst_0, val_main_cst_1]

theorem up_entry (c : Dev nD) (s : Fin 4096) (f : Fin 2816) :
    V m c main_v15 (ix2 s f) = val_main_v16 (F := Ideal) (ax m c) (an m c) (au m c) (ix2 s f) := by
  entry_read
  pointwise [val_main_v16, val_main_v14, val_main_v13, val_main_v12, val_main_v11, val_main_v7, val_main_v6, val_main_v5, val_main_v4, val_main_v3, val_main_v2, val_main_v1, val_main_v0, val_main_cst, val_main_cst_0, val_main_cst_1]

theorem wg_entry (c : Dev nD) (f : Fin 2816) (d : Fin 1024) : V m c main_v17 (ix2 f d) = ag m c (ix2 d f) := by
  entry_read
  pointwise

theorem wu_entry (c : Dev nD) (f : Fin 2816) (d : Fin 1024) : V m c main_v19 (ix2 f d) = au m c (ix2 d f) := by
  entry_read
  pointwise

theorem wd_entry (c : Dev nD) (f : Fin 2816) (d : Fin 1024) : V m c main_v20 (ix2 f d) = ad m c (ix2 f d) := by
  entry_read
  pointwise

theorem read_g (c : Dev nD) (t : Fin cfg0.N) (p : Fin 256) (f : Fin 2816) :
    iblk m c 3 t (ix2 p f) = val_main_v15 (F := Ideal) (ax m c) (an m c) (ag m c) (ix2 (row t p) f) := by
  rw [← gate_entry]
  blk_ext [iblk, tile_of t, row]

theorem read_u (c : Dev nD) (t : Fin cfg0.N) (p : Fin 256) (f : Fin 2816) :
    iblk m c 4 t (ix2 p f) = val_main_v16 (F := Ideal) (ax m c) (an m c) (au m c) (ix2 (row t p) f) := by
  rw [← up_entry]
  blk_ext [iblk, tile_of t, row]

theorem read_wg (c : Dev nD) (t : Fin cfg0.N) (f : Fin 2816) (d : Fin 1024) : iblk m c 5 t (ix2 f d) = ag m c (ix2 d f) := by
  rw [← wg_entry]
  blk_ext [iblk, tile_of t]

theorem read_wu (c : Dev nD) (t : Fin cfg0.N) (f : Fin 2816) (d : Fin 1024) : iblk m c 6 t (ix2 f d) = au m c (ix2 d f) := by
  rw [← wu_entry]
  blk_ext [iblk, tile_of t]

theorem read_wd (c : Dev nD) (t : Fin cfg0.N) (f : Fin 2816) (d : Fin 1024) : iblk m c 7 t (ix2 f d) = ad m c (ix2 f d) := by
  rw [← wd_entry]
  blk_ext [iblk, tile_of t]

end Cert.FfnIdeal.Sum

end
-- ==== Proof.Ext.lean ====
/-
  Facts about extended reals that several of the value proofs share: the literals of the programs as reals, and a
  finite non-negative factor drawn out of a sum.
-/
module

public import Idealize.ShloMosaic.Lib.Pointwise

@[expose] public section

noncomputable section

open Idealize.ShloMosaic

namespace Cert.Ext

/-- The literal one half. -/
theorem half : Ideal.ofBits .f32 0x3F000000#32 = (((1 : ℝ) / 2 : ℝ) : EReal) := by
  simp [Ideal.ofBits, Ideal.ieee]
  rw [← EReal.coe_mul]
  congr 1
  norm_num

/-- A finite non-negative factor may be drawn out of a sum. -/
theorem sum_mul_real {n : ℕ} (f : Fin n → EReal) (r : ℝ) (hr : 0 ≤ r) :
    (∑ k, f k) * (r : EReal) = ∑ k, f k * (r : EReal) := by
  have h0 : (0 : EReal) ≤ (r : EReal) := by exact_mod_cast hr
  have go : ∀ s : Finset (Fin n), (∑ k ∈ s, f k) * (r : EReal) = ∑ k ∈ s, f k * (r : EReal) := by
    classical
    intro s
    induction s using Finset.induction_on with
    | empty => simp
    | insert a s ha ih =>
      rw [Finset.sum_insert ha, Finset.sum_insert ha, EReal.right_distrib_of_nonneg_of_ne_top h0 (EReal.coe_ne_top r), ih]
  exact go Finset.univ

end Cert.Ext

end
-- ==== Proof.Reals.lean ====
/-
  Extended reals that are real numbers: the operations of the programs keep them real, and identities of real numbers
  then hold of them.
-/
module

public import Idealize.ShloMosaic.PureOps.Ideal
public import proofs.«01_k».proof.Proof.Ext

@[expose] public section

noncomputable section

namespace Cert.Ext

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {n : ℕ} {f : Fin n → EReal} (h : ∀ k, IsReal (f k)) : IsReal (∑ k, f k) := by
  choose g hg using h
  refine ⟨∑ k, g k, ?_⟩
  simp only [hg]
  exact (map_sum (⟨⟨fun r : ℝ => (r : EReal), rfl⟩, fun a b => EReal.coe_add a b⟩ : ℝ →+ EReal) g Finset.univ).symm

/-- What is strictly between the two infinities is a real number. -/
theorem IsReal.of_abs_lt {z : EReal} (h1 : z ≠ ⊥) (h2 : z ≠ ⊤) : IsReal z :=
  ⟨z.toReal, (EReal.coe_toReal h2 h1).symm⟩

/-- The logistic function of a real number is real. -/
theorem IsReal.sigmoid {z : EReal} (h : IsReal z) : IsReal (Ideal.div 1 (1 + Ideal.exp (-z))) := by
  obtain ⟨x, rfl⟩ := h
  have hp : (1 + Real.exp (-x)) ≠ 0 := by positivity
  rw [← EReal.coe_neg, Ideal.exp_coe, ← EReal.coe_one, ← EReal.coe_add, Ideal.div_coe hp, ← EReal.coe_mul]
  exact IsReal.coe _

/-- The word 1024. -/
theorem w1024 : Ideal.ofBits .f32 1149239296#32 = ((1024 : ℝ) : EReal) := by
  simp [Ideal.ofBits, Ideal.ieee]
  rw [← EReal.coe_mul]
  congr 1
  norm_num

/-- The word for minus one half. -/
theorem neg_half : Ideal.ofBits .f32 0xBF000000#32 = ((-(1 / 2) : ℝ) : EReal) := by
  simp [Ideal.ofBits, Ideal.ieee]
  rw [← EReal.coe_mul]
  congr 1
  norm_num

/-- The small number added to a mean square is positive. -/
theorem eps_pos : ∃ e : ℝ, 0 < e ∧ Ideal.ofBits .f32 897988541#32 = (e : EReal) := by
  refine ⟨8796093 * (2 : ℝ) ^ (-43 : ℤ), by positivity, ?_⟩
  simp [Ideal.ofBits, Ideal.ieee]

/-- A mean square of real numbers, with the small number added, is a positive real number `v`, its root's reciprocal
    is real, and dividing that by `v` gives its cube. -/
theorem norm_real {n : ℕ} {f : Fin n → EReal} (h : ∀ k, IsReal (f k)) :
    ∃ r : ℝ, Ideal.rsqrt (Ideal.div (∑ k, f k * f k) (Ideal.ofBits .f32 1149239296#32) + Ideal.ofBits .f32 897988541#32) = (r : EReal)
      ∧ Ideal.div (r : EReal) (Ideal.div (∑ k, f k * f k) (Ideal.ofBits .f32 1149239296#32) + Ideal.ofBits .f32 897988541#32)
        = ((r * r * r : ℝ) : EReal) := by
  choose g hg using h
  obtain ⟨e, he, hw⟩ := eps_pos
  have hs : (∑ k, f k * f k) = ((∑ k, g k * g k : ℝ) : EReal) := by
    simp only [hg, ← EReal.coe_mul]
    exact (map_sum (⟨⟨fun r : ℝ => (r : EReal), rfl⟩, fun a b => EReal.coe_add a b⟩ : ℝ →+ EReal) (fun k => g k * g k) Finset.univ).symm
  have hv : 0 < (∑ k, g k * g k) * (1 / 1024) + e := by
    have : 0 ≤ ∑ k, g k * g k := Finset.sum_nonneg fun k _ => mul_self_nonneg _
    positivity
  rw [hs, w1024, hw, Ideal.div_coe (by norm_num), ← EReal.coe_mul, ← EReal.coe_add]
  generalize (∑ k, g k * g k) * (1 / 1024) + e = v at hv
  have hr : Real.sqrt v ≠ 0 := (Real.sqrt_pos.mpr hv).ne'
  refine ⟨(Real.sqrt v)⁻¹, by rw [Ideal.rsqrt_coe, if_neg (not_lt.mpr hv.le), if_neg hv.ne'], ?_⟩
  rw [Ideal.div_coe hv.ne', ← EReal.coe_mul]
  congr 1
  field_simp
  exact Real.sq_sqrt hv.le

/-- The gradient of a gate's logistic-linear unit, written with one product or with two. -/
theorem gate_grad {a u g s : EReal} (ha : IsReal a) (hu : IsReal u) (hg : IsReal g) (hs : IsReal s) :
    a * u * (s * (1 + g * (1 - s))) = a * u * s + g * (a * u) * (s * (1 - s)) := by
  obtain ⟨a, rfl⟩ := ha
  obtain ⟨u, rfl⟩ := hu
  obtain ⟨g, rfl⟩ := hg
  obtain ⟨s, rfl⟩ := hs
  rw [← EReal.coe_one]
  simp only [← EReal.coe_mul, ← EReal.coe_add, ← EReal.coe_sub]
  congr 1
  ring

/-- The gradient of a normalised row at one channel: the factor of the whole row once, or halved and twice. -/
theorem norm_grad {y t r x S : EReal} {q : EReal} {ρ : ℝ} (hr : r = (ρ : EReal)) (hq : q = ((ρ * ρ * ρ : ℝ) : EReal))
    (ht : IsReal t) (hx : IsReal x) (hS : IsReal S) :
    y + (r * t - x * (r * r * r * Ideal.div S (Ideal.ofBits .f32 1149239296#32)))
      = y + (t * r + x * Ideal.div (S * (Ideal.ofBits .f32 0xBF000000#32 * q)) (Ideal.ofBits .f32 1149239296#32)
          + Ideal.div (S * (Ideal.ofBits .f32 0xBF000000#32 * q)) (Ideal.ofBits .f32 1149239296#32) * x) := by
  obtain ⟨t, rfl⟩ := ht
  obtain ⟨x, rfl⟩ := hx
  obtain ⟨S, rfl⟩ := hS
  rw [hr, hq, w1024, neg_half]
  simp only [Ideal.div_coe (show (1024 : ℝ) ≠ 0 by norm_num), ← EReal.coe_mul, ← EReal.coe_add, ← EReal.coe_sub]
  congr 2
  ring

end Cert.Ext

end
-- ==== Proof.FfnBlocks.lean ====
/-
  What one grid point of the feed-forward backward kernel computes, row by row, in the reference's words: the two hidden
  gradients, the gradient of the normalised input, the gradient of the input and the point's part of the norm's scale.
-/
module

public import proofs.«01_k».proof.Proof.FfnReads
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnIdeal.Sum

open Cert.FfnIdeal Cert.FfnIdeal.Gen Cert.FfnRefIdeal.Read Cert.Ext

/-! ## The reference at an index -/

section Reference

variable (x y : FVec Ideal S4096x1024 .f32) (n : FVec Ideal S1x1024 .f32) (g u : FVec Ideal S1024x2816 .f32) (w : FVec Ideal S2816x1024 .f32)

/-- The logistic function. -/
abbrev sg (z : EReal) : EReal := Ideal.div 1 (1 + Ideal.exp (-z))

theorem ref_r (s : Fin 4096) : val_main_v7 (F := Ideal) x (ix2 s 0)
    = Ideal.rsqrt (Ideal.div (∑ k : Fin 1024, x (ix2 s k) * x (ix2 s k)) (Ideal.ofBits .f32 1149239296#32) + Ideal.ofBits .f32 897988541#32) := by
  pointwise [val_main_v7, val_main_v6, val_main_v5, val_main_v4, val_main_v3, val_main_v2, val_main_v1, val_main_v0, val_main_cst, val_main_cst_0, val_main_cst_1]

theorem ref_v (s : Fin 4096) : val_main_v6 (F := Ideal) x (ix2 s 0)
    = Ideal.div (∑ k : Fin 1024, x (ix2 s k) * x (ix2 s k)) (Ideal.ofBits .f32 1149239296#32) + Ideal.ofBits .f32 897988541#32 := by
  pointwise [val_main_v6, val_main_v5, val_main_v4, val_main_v3, val_main_v2, val_main_v1, val_main_v0, val_main_cst, val_main_cst_0, val_main_cst_1]

theorem ref_g (s : Fin 4096) (f : Fin 2816) : val_main_v15 (F := Ideal) x n g (ix2 s f)
    = ∑ k : Fin 1024, x (ix2 s k) * val_main_v7 (F := Ideal) x (ix2 s 0) * n (ix2 0 k) * g (ix2 k f) := by
  pointwise [val_main_v15, val_main_v14, val_main_v13, val_main_v12, val_main_v11]

theorem ref_u (s : Fin 4096) (f : Fin 2816) : val_main_v16 (F := Ideal) x n u (ix2 s f)
    = ∑ k : Fin 1024, x (ix2 s k) * val_main_v7 (F := Ideal) x (ix2 s 0) * n (ix2 0 k) * u (ix2 k f) := by
  pointwise [val_main_v16, val_main_v14, val_main_v13, val_main_v12, val_main_v11]

/-- The gradient of the hidden product: half the output's gradient times the down projection. -/
theorem ref_a (s : Fin 4096) (f : Fin 2816) : val_main_v24 (F := Ideal) y w (ix2 s f)
    = Ideal.ofBits .f32 0x3F000000#32 * ∑ k : Fin 1024, y (ix2 s k) * w (ix2 f k) := by
  have e : val_main_v24 (F := Ideal) y w (ix2 s f) = ∑ k : Fin 1024, Ideal.ofBits .f32 0x3F000000#32 * y (ix2 s k) * w (ix2 f k) := by
    pointwise [val_main_v24, val_main_v23, val_main_v22, val_main_cst_4]
  rw [e, mul_comm, half, sum_mul_real _ _ (by norm_num)]
  exact Finset.sum_congr rfl fun k _ => by rw [mul_assoc, mul_comm]

theorem ref_du (s : Fin 4096) (f : Fin 2816) : val_main_v25 (F := Ideal) x n y g w (ix2 s f)
    = val_main_v15 (F := Ideal) x n g (ix2 s f) * sg (val_main_v15 (F := Ideal) x n g (ix2 s f)) * val_main_v24 (F := Ideal) y w (ix2 s f) := by
  pointwise [val_main_v25, val_main_v17_0, val_main_v17_2, val_main_call0_v4, val_main_call0_v3, val_main_call0_v2, val_main_call0_v1, val_main_call0_v0, val_main_call0_cst, val_main_call0_cst_0]

theorem ref_dg (s : Fin 4096) (f : Fin 2816) : val_main_v27 (F := Ideal) x n y g u w (ix2 s f)
    = val_main_v24 (F := Ideal) y w (ix2 s f) * val_main_v16 (F := Ideal) x n u (ix2 s f) * sg (val_main_v15 (F := Ideal) x n g (ix2 s f))
      + val_main_v15 (F := Ideal) x n g (ix2 s f) * (val_main_v24 (F := Ideal) y w (ix2 s f) * val_main_v16 (F := Ideal) x n u (ix2 s f))
        * (sg (val_main_v15 (F := Ideal) x n g (ix2 s f)) * (1 - sg (val_main_v15 (F := Ideal) x n g (ix2 s f)))) := by
  pointwise [val_main_v27, val_main_call1_v1, val_main_call1_v2, val_main_call1_v0, val_main_v26, val_main_v17_1, val_main_v17_2, val_main_call0_v7, val_main_call0_v6, val_main_call0_v4, val_main_call0_v3, val_main_call0_v2, val_main_call0_v1, val_main_call0_v0, val_main_call0_cst, val_main_call0_cst_0, val_main_call0_cst_1]

theorem ref_dh (s : Fin 4096) (d : Fin 1024) : val_main_v30 (F := Ideal) x n y g u w (ix2 s d)
    = (∑ f : Fin 2816, val_main_v25 (F := Ideal) x n y g w (ix2 s f) * u (ix2 d f))
      + ∑ f : Fin 2816, val_main_v27 (F := Ideal) x n y g u w (ix2 s f) * g (ix2 d f) := by
  pointwise [val_main_v30, val_main_v29, val_main_v28]

theorem ref_dn (d : Fin 1024) : val_main_v33 (F := Ideal) x n y g u w (ix2 0 d)
    = ∑ s : Fin 4096, val_main_v30 (F := Ideal) x n y g u w (ix2 s d) * x (ix2 s d) * val_main_v7 (F := Ideal) x (ix2 s 0) := by
  have e : val_main_v33 (F := Ideal) x n y g u w (ix2 0 d)
      = ∑ s : Fin 4096, x (ix2 s d) * val_main_v7 (F := Ideal) x (ix2 s 0) * val_main_v30 (F := Ideal) x n y g u w (ix2 s d) := by
    pointwise [val_main_v33, val_main_v32, val_main_v31, val_main_v12, val_main_v11, val_main_cst_5]
  rw [e]
  exact Finset.sum_congr rfl fun s _ => by rw [mul_comm, mul_assoc]

theorem ref_dx (s : Fin 4096) (d : Fin 1024) : val_main_v50 (F := Ideal) x n y g u w (ix2 s d)
    = y (ix2 s d) + (val_main_v30 (F := Ideal) x n y g u w (ix2 s d) * n (ix2 0 d) * val_main_v7 (F := Ideal) x (ix2 s 0)
      + x (ix2 s d) * Ideal.div ((∑ k : Fin 1024, val_main_v30 (F := Ideal) x n y g u w (ix2 s k) * n (ix2 0 k) * x (ix2 s k))
          * (Ideal.ofBits .f32 0xBF000000#32 * Ideal.div (val_main_v7 (F := Ideal) x (ix2 s 0)) (val_main_v6 (F := Ideal) x (ix2 s 0)))) (Ideal.ofBits .f32 1149239296#32)
      + Ideal.div ((∑ k : Fin 1024, val_main_v30 (F := Ideal) x n y g u w (ix2 s k) * n (ix2 0 k) * x (ix2 s k))
          * (Ideal.ofBits .f32 0xBF000000#32 * Ideal.div (val_main_v7 (F := Ideal) x (ix2 s 0)) (val_main_v6 (F := Ideal) x (ix2 s 0)))) (Ideal.ofBits .f32 1149239296#32)
        * x (ix2 s d)) := by
  have e : ∀ k : Fin 1024, x (ix2 s k) * (val_main_v30 (F := Ideal) x n y g u w (ix2 s k) * n (ix2 0 k))
      = val_main_v30 (F := Ideal) x n y g u w (ix2 s k) * n (ix2 0 k) * x (ix2 s k) := fun k => mul_comm _ _
  simp only [← e]
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v10, val_main_v9, val_main_v8, val_main_cst_2, val_main_cst_6, val_main_cst_7, val_main_cst_8]
  simp

end Reference

/-! ## The kernel's terms at an index -/

theorem lo_du (D : FVec Ideal S256x1024 .f32) (W : FVec Ideal S1280x1024 .bf16) (G : FVec Ideal S256x1280 .bf16) (p : Fin 256) (f : Fin 1280) :
    k0_pay9 (F := Ideal) D W G (ix2 p f)
      = Ideal.ofBits .f32 0x3F000000#32 * (∑ k : Fin 1024, D (ix2 p k) * W (ix2 f k)) * (G (ix2 p f) * sg (G (ix2 p f))) := by
  pointwise [k0_pay9, k0_pay8, k0_pay7, k0_pay6, k0_pay4]
  simp only [zero_sub]

theorem lo_dg (D : FVec Ideal S256x1024 .f32) (W : FVec Ideal S1280x1024 .bf16) (G U : FVec Ideal S256x1280 .bf16) (p : Fin 256) (f : Fin 1280) :
    k0_pay10 (F := Ideal) D W G U (ix2 p f)
      = Ideal.ofBits .f32 0x3F000000#32 * (∑ k : Fin 1024, D (ix2 p k) * W (ix2 f k)) * U (ix2 p f)
        * (sg (G (ix2 p f)) * (1 + G (ix2 p f) * (1 - sg (G (ix2 p f))))) := by
  pointwise [k0_pay10, k0_pay8, k0_pay7, k0_pay6, k0_pay4]
  simp only [zero_sub]

theorem hi_du (D : FVec Ideal S256x1024 .f32) (W : FVec Ideal S1536x1024 .bf16) (G : FVec Ideal S256x1536 .bf16) (p : Fin 256) (f : Fin 1536) :
    k0_pay15 (F := Ideal) (k0_pay4 D) W G (ix2 p f)
      = Ideal.ofBits .f32 0x3F000000#32 * (∑ k : Fin 1024, D (ix2 p k) * W (ix2 f k)) * (G (ix2 p f) * sg (G (ix2 p f))) := by
  pointwise [k0_pay15, k0_pay14, k0_pay13, k0_pay12, k0_pay4]
  simp only [zero_sub]

theorem hi_dg (D : FVec Ideal S256x1024 .f32) (W : FVec Ideal S1536x1024 .bf16) (G U : FVec Ideal S256x1536 .bf16) (p : Fin 256) (f : Fin 1536) :
    k0_pay16 (F := Ideal) (k0_pay4 D) W G U (ix2 p f)
      = Ideal.ofBits .f32 0x3F000000#32 * (∑ k : Fin 1024, D (ix2 p k) * W (ix2 f k)) * U (ix2 p f)
        * (sg (G (ix2 p f)) * (1 + G (ix2 p f) * (1 - sg (G (ix2 p f))))) := by
  pointwise [k0_pay16, k0_pay14, k0_pay13, k0_pay12, k0_pay4]
  simp only [zero_sub]

theorem lo_dh (du dg : FVec Ideal S256x1280 .bf16) (wg wu : FVec Ideal S1280x1024 .bf16) (p : Fin 256) (d : Fin 1024) :
    k0_pay11 (F := Ideal) k0_pay5 du dg wg wu (ix2 p d)
      = (∑ f : Fin 1280, dg (ix2 p f) * wg (ix2 f d)) + ∑ f : Fin 1280, du (ix2 p f) * wu (ix2 f d) := by
  pointwise [k0_pay11, k0_pay5]

theorem hi_dh (acc : FVec Ideal S256x1024 .f32) (du dg : FVec Ideal S256x1536 .bf16) (wg wu : FVec Ideal S1536x1024 .bf16) (p : Fin 256) (d : Fin 1024) :
    k0_pay17 (F := Ideal) acc du dg wg wu (ix2 p d)
      = acc (ix2 p d) + (∑ f : Fin 1536, dg (ix2 p f) * wg (ix2 f d)) + ∑ f : Fin 1536, du (ix2 p f) * wu (ix2 f d) := by
  pointwise [k0_pay17]

theorem inv_root (X : FVec Ideal S256x1024 .f32) (p : Fin 256) : k0_pay18 (F := Ideal) X (ix2 p 0)
    = Ideal.rsqrt (Ideal.div (∑ k : Fin 1024, X (ix2 p k) * X (ix2 p k)) (Ideal.ofBits .f32 1149239296#32) + Ideal.ofBits .f32 897988541#32) := by
  pointwise [k0_pay18]

theorem out_dx (Y acc : FVec Ideal S256x1024 .f32) (du dg : FVec Ideal S256x1536 .bf16) (wg wu : FVec Ideal S1536x1024 .bf16) (X : FVec Ideal S256x1024 .f32) (N : FVec Ideal S1x1024 .f32) (p : Fin 256) (d : Fin 1024) :
    k0_pay1 (F := Ideal) Y (k0_pay19 acc du dg wg wu X N) (ix2 p d)
      = Y (ix2 p d) + (k0_pay18 (F := Ideal) X (ix2 p 0) * (k0_pay17 (F := Ideal) acc du dg wg wu (ix2 p d) * N (ix2 0 d))
        - X (ix2 p d) * (k0_pay18 (F := Ideal) X (ix2 p 0) * k0_pay18 (F := Ideal) X (ix2 p 0) * k0_pay18 (F := Ideal) X (ix2 p 0)
          * Ideal.div (∑ k : Fin 1024, k0_pay17 (F := Ideal) acc du dg wg wu (ix2 p k) * N (ix2 0 k) * X (ix2 p k)) (Ideal.ofBits .f32 1149239296#32))) := by
  pointwise [k0_pay1, k0_pay19]

theorem out_dn (acc : FVec Ideal S256x1024 .f32) (du dg : FVec Ideal S256x1536 .bf16) (wg wu : FVec Ideal S1536x1024 .bf16) (X : FVec Ideal S256x1024 .f32) (N : FVec Ideal S1x1024 .f32) (d : Fin 1024) :
    k0_pay3 (F := Ideal) (k0_pay20 acc du dg wg wu X) N (ix2 0 d)
      = N (ix2 0 d) + ∑ p : Fin 256, k0_pay17 (F := Ideal) acc du dg wg wu (ix2 p d) * X (ix2 p d) * k0_pay18 (F := Ideal) X (ix2 p 0) := by
  pointwise [k0_pay3, k0_pay20]

/-! ## A point's blocks in the reference's words -/

section Blocks

variable (m : (ℓ : Loc nD τ sig) → Buf (Elt Ideal) ℓ)

/-- The first 1280 and the last 1536 of the 2816 hidden units. -/
def lo (f : Fin 1280) : Fin 2816 := ⟨f.val, by have := f.isLt; omega⟩
def hi (f : Fin 1536) : Fin 2816 := ⟨1280 + f.val, by have := f.isLt; omega⟩

/-- What a point reads of its blocks: the two ranges of hidden units, of a matrix of rows and of a weight. -/
def loRows (b : FVec Ideal S256x2816 .bf16) : FVec Ideal S256x1280 .bf16 := View.ld (Val := Elt Ideal) (e' := .bf16) b (Rect.unit (s := S256x2816) ![0, 0] ![256, 1280] inb_S256x2816_S256x1280_0_0)
def hiRows (b : FVec Ideal S256x2816 .bf16) : FVec Ideal S256x1536 .bf16 := View.ld (Val := Elt Ideal) (e' := .bf16) b (Rect.unit (s := S256x2816) ![0, 1280] ![256, 1536] inb_S256x2816_S256x1536_0_1280)
def loWeight (b : FVec Ideal S2816x1024 .bf16) : FVec Ideal S1280x1024 .bf16 := View.ld (Val := Elt Ideal) (e' := .bf16) b (Rect.unit (s := S2816x1024) ![0, 0] ![1280, 1024] inb_S2816x1024_S1280x1024_0_0)
def hiWeight (b : FVec Ideal S2816x1024 .bf16) : FVec Ideal S1536x1024 .bf16 := View.ld (Val := Elt Ideal) (e' := .bf16) b (Rect.unit (s := S2816x1024) ![1280, 0] ![1536, 1024] inb_S2816x1024_S1536x1024_1280_0)

theorem loRows_at (b : FVec Ideal S256x2816 .bf16) (p : Fin 256) (f : Fin 1280) : loRows b (ix2 p f) = b (ix2 p (lo f)) := by
  have e : (View.ld (Val := Elt Ideal) (e' := .bf16) b (Rect.unit (s := S256x2816) ![0, 0] ![256, 1280] inb_S256x2816_S256x1280_0_0)) (ix2 p f) = b (ix2 p (lo f)) := by
    pointwise [View.ld, lo]
  exact e
theorem hiRows_at (b : FVec Ideal S256x2816 .bf16) (p : Fin 256) (f : Fin 1536) : hiRows b (ix2 p f) = b (ix2 p (hi f)) := by
  have e : (View.ld (Val := Elt Ideal) (e' := .bf16) b (Rect.unit (s := S256x2816) ![0, 1280] ![256, 1536] inb_S256x2816_S256x1536_0_1280)) (ix2 p f) = b (ix2 p (hi f)) := by
    pointwise [View.ld, hi]
  exact e
theorem loWeight_at (b : FVec Ideal S2816x1024 .bf16) (f : Fin 1280) (d : Fin 1024) : loWeight b (ix2 f d) = b (ix2 (lo f) d) := by
  have e : (View.ld (Val := Elt Ideal) (e' := .bf16) b (Rect.unit (s := S2816x1024) ![0, 0] ![1280, 1024] inb_S2816x1024_S1280x1024_0_0)) (ix2 f d) = b (ix2 (lo f) d) := by
    pointwise [View.ld, lo]
  exact e
theorem hiWeight_at (b : FVec Ideal S2816x1024 .bf16) (f : Fin 1536) (d : Fin 1024) : hiWeight b (ix2 f d) = b (ix2 (hi f) d) := by
  have e : (View.ld (Val := Elt Ideal) (e' := .bf16) b (Rect.unit (s := S2816x1024) ![1280, 0] ![1536, 1024] inb_S2816x1024_S1536x1024_1280_0)) (ix2 f d) = b (ix2 (hi f) d) := by
    pointwise [View.ld, hi]
  exact e

/-- The arguments of a device are real numbers. -/
structure Finite (c : Dev nD) : Prop where
  x : ∀ s d, IsReal (ax m c (ix2 s d))
  n : ∀ d, IsReal (an m c (ix2 0 d))
  y : ∀ s d, IsReal (ay m c (ix2 s d))
  g : ∀ d f, IsReal (ag m c (ix2 d f))
  u : ∀ d f, IsReal (au m c (ix2 d f))
  w : ∀ f d, IsReal (ad m c (ix2 f d))

variable {m}

theorem Finite.r {c : Dev nD} (F : Finite m c) (s : Fin 4096) : IsReal (val_main_v7 (F := Ideal) (ax m c) (ix2 s 0)) := by
  obtain ⟨r, h, _⟩ := norm_real (f := fun k : Fin 1024 => ax m c (ix2 s k)) (F.x s)
  exact ⟨r, (ref_r _ s).trans h⟩

theorem Finite.gate {c : Dev nD} (F : Finite m c) (s : Fin 4096) (f : Fin 2816) :
    IsReal (val_main_v15 (F := Ideal) (ax m c) (an m c) (ag m c) (ix2 s f)) := by
  rw [ref_g]
  exact IsReal.sum fun k => (((F.x s k).mul (F.r s)).mul (F.n k)).mul (F.g k f)

theorem Finite.up {c : Dev nD} (F : Finite m c) (s : Fin 4096) (f : Fin 2816) :
    IsReal (val_main_v16 (F := Ideal) (ax m c) (an m c) (au m c) (ix2 s f)) := by
  rw [ref_u]
  exact IsReal.sum fun k => (((F.x s k).mul (F.r s)).mul (F.n k)).mul (F.u k f)

theorem Finite.a {c : Dev nD} (F : Finite m c) (s : Fin 4096) (f : Fin 2816) :
    IsReal (val_main_v24 (F := Ideal) (ay m c) (ad m c) (ix2 s f)) := by
  rw [ref_a, half]
  exact (IsReal.coe _).mul (IsReal.sum fun k => (F.y s k).mul (F.w f k))

theorem Finite.one : IsReal 1 := ⟨1, rfl⟩

theorem Finite.one_sub {z : EReal} (h : IsReal z) : IsReal (1 - z) := by
  obtain ⟨r, rfl⟩ := h
  exact ⟨1 - r, by rw [EReal.coe_sub, EReal.coe_one]⟩

theorem Finite.du {c : Dev nD} (F : Finite m c) (s : Fin 4096) (f : Fin 2816) :
    IsReal (val_main_v25 (F := Ideal) (ax m c) (an m c) (ay m c) (ag m c) (ad m c) (ix2 s f)) := by
  rw [ref_du]
  exact ((F.gate s f).mul (F.gate s f).sigmoid).mul (F.a s f)

theorem Finite.dg {c : Dev nD} (F : Finite m c) (s : Fin 4096) (f : Fin 2816) :
    IsReal (val_main_v27 (F := Ideal) (ax m c) (an m c) (ay m c) (ag m c) (au m c) (ad m c) (ix2 s f)) := by
  rw [ref_dg]
  have hs := (F.gate s f).sigmoid
  exact (((F.a s f).mul (F.up s f)).mul hs).add (((F.gate s f).mul ((F.a s f).mul (F.up s f))).mul (hs.mul (Finite.one_sub hs)))

theorem Finite.dh {c : Dev nD} (F : Finite m c) (s : Fin 4096) (d : Fin 1024) :
    IsReal (val_main_v30 (F := Ideal) (ax m c) (an m c) (ay m c) (ag m c) (au m c) (ad m c) (ix2 s d)) := by
  rw [ref_dh]
  exact (IsReal.sum fun f => (F.du s f).mul (F.u d f)).add (IsReal.sum fun f => (F.dg s f).mul (F.g d f))

variable (m)

/-- The up projection's gradient in the first range of hidden units. -/
theorem du_lo (c : Dev nD) (t : Fin cfg0.N) (p : Fin 256) (f : Fin 1280) :
    k0_pay9 (F := Ideal) (iblk m c 2 t) (loWeight (iblk m c 7 t)) (loRows (iblk m c 3 t)) (ix2 p f)
      = val_main_v25 (F := Ideal) (ax m c) (an m c) (ay m c) (ag m c) (ad m c) (ix2 (row t p) (lo f)) := by
  rw [lo_du, ref_du, ref_a]
  simp only [loRows_at, loWeight_at, read_y, read_g, read_wd]
  exact mul_comm _ _

theorem du_hi (c : Dev nD) (t : Fin cfg0.N) (p : Fin 256) (f : Fin 1536) :
    k0_pay15 (F := Ideal) (k0_pay4 (iblk m c 2 t)) (hiWeight (iblk m c 7 t)) (hiRows (iblk m c 3 t)) (ix2 p f)
      = val_main_v25 (F := Ideal) (ax m c) (an m c) (ay m c) (ag m c) (ad m c) (ix2 (row t p) (hi f)) := by
  rw [hi_du, ref_du, ref_a]
  simp only [hiRows_at, hiWeight_at, read_y, read_g, read_wd]
  exact mul_comm _ _

/-- The gate's gradient in the first range of hidden units. -/
theorem dg_lo (c : Dev nD) (F : Finite m c) (t : Fin cfg0.N) (p : Fin 256) (f : Fin 1280) :
    k0_pay10 (F := Ideal) (iblk m c 2 t) (loWeight (iblk m c 7 t)) (loRows (iblk m c 3 t)) (loRows (iblk m c 4 t)) (ix2 p f)
      = val_main_v27 (F := Ideal) (ax m c) (an m c) (ay m c) (ag m c) (au m c) (ad m c) (ix2 (row t p) (lo f)) := by
  rw [lo_dg, ref_dg]
  simp only [loRows_at, loWeight_at, read_y, read_g, read_u, read_wd]
  rw [← ref_a]
  exact gate_grad (F.a _ _) (F.up _ _) (F.gate _ _) (F.gate _ _).sigmoid

theorem dg_hi (c : Dev nD) (F : Finite m c) (t : Fin cfg0.N) (p : Fin 256) (f : Fin 1536) :
    k0_pay16 (F := Ideal) (k0_pay4 (iblk m c 2 t)) (hiWeight (iblk m c 7 t)) (hiRows (iblk m c 3 t)) (hiRows (iblk m c 4 t)) (ix2 p f)
      = val_main_v27 (F := Ideal) (ax m c) (an m c) (ay m c) (ag m c) (au m c) (ad m c) (ix2 (row t p) (hi f)) := by
  rw [hi_dg, ref_dg]
  simp only [hiRows_at, hiWeight_at, read_y, read_g, read_u, read_wd]
  rw [← ref_a]
  exact gate_grad (F.a _ _) (F.up _ _) (F.gate _ _) (F.gate _ _).sigmoid

/-- The gradient of the normalised input, as a point computes it. -/
abbrev hidden (c : Dev nD) (t : Fin cfg0.N) : FVec Ideal S256x1024 .f32 :=
  k0_pay17 (F := Ideal)
    (k0_pay11 k0_pay5 (k0_pay9 (iblk m c 2 t) (loWeight (iblk m c 7 t)) (loRows (iblk m c 3 t)))
      (k0_pay10 (iblk m c 2 t) (loWeight (iblk m c 7 t)) (loRows (iblk m c 3 t)) (loRows (iblk m c 4 t)))
      (loWeight (iblk m c 5 t)) (loWeight (iblk m c 6 t)))
    (k0_pay15 (k0_pay4 (iblk m c 2 t)) (hiWeight (iblk m c 7 t)) (hiRows (iblk m c 3 t)))
    (k0_pay16 (k0_pay4 (iblk m c 2 t)) (hiWeight (iblk m c 7 t)) (hiRows (iblk m c 3 t)) (hiRows (iblk m c 4 t)))
    (hiWeight (iblk m c 5 t)) (hiWeight (iblk m c 6 t))

theorem dh_at (c : Dev nD) (F : Finite m c) (t : Fin cfg0.N) (p : Fin 256) (d : Fin 1024) :
    hidden m c t (ix2 p d) = val_main_v30 (F := Ideal) (ax m c) (an m c) (ay m c) (ag m c) (au m c) (ad m c) (ix2 (row t p) d) := by
  have e : hidden m c t (ix2 p d)
      = (∑ f : Fin 1280, val_main_v27 (F := Ideal) (ax m c) (an m c) (ay m c) (ag m c) (au m c) (ad m c) (ix2 (row t p) (lo f)) * ag m c (ix2 d (lo f)))
        + (∑ f : Fin 1280, val_main_v25 (F := Ideal) (ax m c) (an m c) (ay m c) (ag m c) (ad m c) (ix2 (row t p) (lo f)) * au m c (ix2 d (lo f)))
        + (∑ f : Fin 1536, val_main_v27 (F := Ideal) (ax m c) (an m c) (ay m c) (ag m c) (au m c) (ad m c) (ix2 (row t p) (hi f)) * ag m c (ix2 d (hi f)))
        + ∑ f : Fin 1536, val_main_v25 (F := Ideal) (ax m c) (an m c) (ay m c) (ag m c) (ad m c) (ix2 (row t p) (hi f)) * au m c (ix2 d (hi f)) := by
    refine (hi_dh _ _ _ _ _ _ _).trans ?_
    rw [lo_dh]
    simp only [du_lo, du_hi, dg_lo m c F, dg_hi m c F, loWeight_at, hiWeight_at, read_wg, read_wu]
  rw [e, ref_dh, Fin.sum_univ_two_halves 1280 1536 rfl, Fin.sum_univ_two_halves (f := fun f : Fin 2816 =>
    val_main_v27 (F := Ideal) (ax m c) (an m c) (ay m c) (ag m c) (au m c) (ad m c) (ix2 (row t p) f) * ag m c (ix2 d f)) 1280 1536 rfl]
  unfold lo hi
  abel

/-- The input's gradient at one row and channel. -/
theorem dx_at (c : Dev nD) (F : Finite m c) (t : Fin cfg0.N) (p : Fin 256) (d : Fin 1024) :
    k0_pay1 (F := Ideal) (iblk m c 2 t) (k0_pay19 (k0_pay11 k0_pay5 (k0_pay9 (iblk m c 2 t) (loWeight (iblk m c 7 t)) (loRows (iblk m c 3 t)))
        (k0_pay10 (iblk m c 2 t) (loWeight (iblk m c 7 t)) (loRows (iblk m c 3 t)) (loRows (iblk m c 4 t)))
        (loWeight (iblk m c 5 t)) (loWeight (iblk m c 6 t)))
      (k0_pay15 (k0_pay4 (iblk m c 2 t)) (hiWeight (iblk m c 7 t)) (hiRows (iblk m c 3 t)))
      (k0_pay16 (k0_pay4 (iblk m c 2 t)) (hiWeight (iblk m c 7 t)) (hiRows (iblk m c 3 t)) (hiRows (iblk m c 4 t)))
      (hiWeight (iblk m c 5 t)) (hiWeight (iblk m c 6 t)) (iblk m c 0 t) (iblk m c 1 t)) (ix2 p d)
      = val_main_v50 (F := Ideal) (ax m c) (an m c) (ay m c) (ag m c) (au m c) (ad m c) (ix2 (row t p) d) := by
  have er : k0_pay18 (F := Ideal) (iblk m c 0 t) (ix2 p 0) = val_main_v7 (F := Ideal) (ax m c) (ix2 (row t p) 0) := by
    rw [inv_root, ref_r]
    simp only [read_x]
  refine (out_dx _ _ _ _ _ _ _ _ _ _).trans ?_
  rw [er, ref_dx]
  simp only [dh_at m c F, read_x, read_n, read_y]
  obtain ⟨ρ, h1, h2⟩ := norm_real (f := fun k : Fin 1024 => ax m c (ix2 (row t p) k)) (F.x (row t p))
  have hr : val_main_v7 (F := Ideal) (ax m c) (ix2 (row t p) 0) = (ρ : EReal) := (ref_r _ _).trans h1
  refine norm_grad hr ?_ ((F.dh _ _).mul (F.n _)) (F.x _ _) (IsReal.sum fun k => ((F.dh _ _).mul (F.n _)).mul (F.x _ _))
  rw [hr, ref_v]
  exact h2

/-- What a point adds to the gradient of the norm's scale. -/
theorem dn_at (c : Dev nD) (F : Finite m c) (t : Fin cfg0.N) (N : FVec Ideal S1x1024 .f32) (d : Fin 1024) :
    k0_pay3 (F := Ideal) (k0_pay20 (k0_pay11 k0_pay5 (k0_pay9 (iblk m c 2 t) (loWeight (iblk m c 7 t)) (loRows (iblk m c 3 t)))
        (k0_pay10 (iblk m c 2 t) (loWeight (iblk m c 7 t)) (loRows (iblk m c 3 t)) (loRows (iblk m c 4 t)))
        (loWeight (iblk m c 5 t)) (loWeight (iblk m c 6 t)))
      (k0_pay15 (k0_pay4 (iblk m c 2 t)) (hiWeight (iblk m c 7 t)) (hiRows (iblk m c 3 t)))
      (k0_pay16 (k0_pay4 (iblk m c 2 t)) (hiWeight (iblk m c 7 t)) (hiRows (iblk m c 3 t)) (hiRows (iblk m c 4 t)))
      (hiWeight (iblk m c 5 t)) (hiWeight (iblk m c 6 t)) (iblk m c 0 t)) N (ix2 0 d)
      = N (ix2 0 d) + ∑ p : Fin 256, val_main_v30 (F := Ideal) (ax m c) (an m c) (ay m c) (ag m c) (au m c) (ad m c) (ix2 (row t p) d) * ax m c (ix2 (row t p) d)
          * val_main_v7 (F := Ideal) (ax m c) (ix2 (row t p) 0) := by
  refine (out_dn _ _ _ _ _ _ _ _).trans (congrArg (N (ix2 0 d) + ·) (Finset.sum_congr rfl fun p _ => ?_))
  have er : k0_pay18 (F := Ideal) (iblk m c 0 t) (ix2 p 0) = val_main_v7 (F := Ideal) (ax m c) (ix2 (row t p) 0) := by
    rw [inv_root, ref_r]
    simp only [read_x]
  rw [er]
  refine Ideal.mul_congr (Ideal.mul_congr (dh_at m c F t p d) (read_x m c t p d)) rfl

end Blocks

end Cert.FfnIdeal.Sum

end
-- ==== Proof.FfnValue.lean ====
/-
  What the feed-forward backward kernel leaves in its five results: the gradient of the block's input, the two hidden
  gradients, the incoming gradient in the narrow format and the gradient of the norm's scale, each the reference's.
-/
module

public import proofs.«01_k».proof.Proof.FfnBlocks

@[expose] public section

set_option maxRecDepth 16384

noncomputable section

open Idealize.ShloMosaic Idealize.ShloMosaic.TcCoe Idealize.SL.Sem
open Idealize.ShloMosaic.Pipeline (Dat)

namespace Cert.FfnIdeal.Sum

open Cert.FfnIdeal Cert.FfnIdeal.Gen Cert.FfnRefIdeal.Read Cert.Ext

variable (m : (ℓ : Loc nD τ sig) → Buf (Elt Ideal) ℓ)

/-- The gradient of the block's input. -/
theorem final_dx (c : Dev nD) (F : Finite m c) : (dats m 0 c).arrAt 8 cfg0.N
    = val_main_v50 (F := Ideal) (ax m c) (an m c) (ay m c) (ag m c) (au m c) (ad m c) := by
  refine (dats m 0 c).arrAt_eq_of_covers 8 _ (by decide +kernel) fun t hf y => ?_
  have hy : y = ix2 (y 0) (y 1) := by
    funext a; revert a; exact Fin.forall_fin_two.mpr ⟨rfl, rfl⟩
  have key := (dx_at m c F t (y 0) (y 1)).trans (show _ = val_main_v50 (F := Ideal) (ax m c) (an m c) (ay m c) (ag m c) (au m c) (ad m c)
    ((((cfg0.win 8).blk t).view).emb y) by blk_ext [tile_of t, row])
  by_cases h0 : t.val % 16 = 0
  · rw [after0_8, outsAt0_A m c t h0]
    frame_out
    try simp only [read_unread_whole]
    try simp (disch := decide) only [View.readCov_fill]
    exact (congrArg _ hy).trans key
  · rw [after0_8, outsAt0_B m c t h0]
    frame_out
    try simp only [read_unread_whole]
    try simp (disch := decide) only [View.readCov_fill]
    exact (congrArg _ hy).trans key

/-- The incoming gradient in the narrow format. -/
theorem final_dy (c : Dev nD) : (dats m 0 c).arrAt 11 cfg0.N = val_main_v53 (F := Ideal) (ay m c) := by
  refine (dats m 0 c).arrAt_eq_of_covers 11 _ (by decide +kernel) fun t hf y => ?_
  by_cases h0 : t.val % 16 = 0
  · rw [after0_11, outsAt0_A m c t h0]
    frame_out
    blk_ext [val_main_v53, k0_pay4, iblk, V, tile_of t]
  · rw [after0_11, outsAt0_B m c t h0]
    frame_out
    blk_ext [val_main_v53, k0_pay4, iblk, V, tile_of t]

/-- The gradient of the up projection's product. -/
theorem final_du (c : Dev nD) : (dats m 0 c).arrAt 10 cfg0.N
    = val_main_v52 (F := Ideal) (ax m c) (an m c) (ay m c) (ag m c) (ad m c) := by
  refine (dats m 0 c).arrAt_eq_of_covers 10 _ (by decide +kernel) fun t hf y => ?_
  have e : ∀ i, val_main_v52 (F := Ideal) (ax m c) (an m c) (ay m c) (ag m c) (ad m c) i = val_main_v25 (F := Ideal) (ax m c) (an m c) (ay m c) (ag m c) (ad m c) i := fun i => rfl
  by_cases h0 : t.val % 16 = 0
  · rw [after0_10, outsAt0_A m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((du_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((du_lo m c t (x 0) (x 1)).trans (Eq.trans ?_ (e _).symm))
      have q0 : (y 0).val = (x 0).val := h0
      have q1 : (y 1).val = (x 1).val := h1
      blk_ext [tile_of t, row, lo] <;> omega
  · rw [after0_10, outsAt0_B m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((du_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((du_lo m c t (x 0) (x 1)).trans (Eq.trans ?_ (e _).symm))
      have q0 : (y 0).val = (x 0).val := h0
      have q1 : (y 1).val = (x 1).val := h1
      blk_ext [tile_of t, row, lo] <;> omega

/-- The gradient of the gate's product. -/
theorem final_dg (c : Dev nD) (F : Finite m c) : (dats m 0 c).arrAt 9 cfg0.N
    = val_main_v51 (F := Ideal) (ax m c) (an m c) (ay m c) (ag m c) (au m c) (ad m c) := by
  refine (dats m 0 c).arrAt_eq_of_covers 9 _ (by decide +kernel) fun t hf y => ?_
  have e : ∀ i, val_main_v51 (F := Ideal) (ax m c) (an m c) (ay m c) (ag m c) (au m c) (ad m c) i = val_main_v27 (F := Ideal) (ax m c) (an m c) (ay m c) (ag m c) (au m c) (ad m c) i := fun i => rfl
  by_cases h0 : t.val % 16 = 0
  · rw [after0_9, outsAt0_A m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((dg_hi m c F t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((dg_lo m c F t (x 0) (x 1)).trans (Eq.trans ?_ (e _).symm))
      have q0 : (y 0).val = (x 0).val := h0
      have q1 : (y 1).val = (x 1).val := h1
      blk_ext [tile_of t, row, lo] <;> omega
  · rw [after0_9, outsAt0_B m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((dg_hi m c F t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((dg_lo m c F t (x 0) (x 1)).trans (Eq.trans ?_ (e _).symm))
      have q0 : (y 0).val = (x 0).val := h0
      have q1 : (y 1).val = (x 1).val := h1
      blk_ext [tile_of t, row, lo] <;> omega

/-- The sums over rows a point adds to the gradient of the norm's scale. -/
abbrev part (c : Dev nD) (t : Fin cfg0.N) (d : Fin 1024) : EReal :=
  ∑ p : Fin 256, val_main_v30 (F := Ideal) (ax m c) (an m c) (ay m c) (ag m c) (au m c) (ad m c) (ix2 (row t p) d) * ax m c (ix2 (row t p) d)
    * val_main_v7 (F := Ideal) (ax m c) (ix2 (row t p) 0)

theorem start (d : Fin 1024) : k0_pay2 (F := Ideal) (ix2 0 d) = 0 := by
  pointwise [k0_pay2]

theorem first (c : Dev nD) (F : Finite m c) (t : Fin cfg0.N) (h0 : t.val % 16 = 0) (d : Fin 1024) :
    (outsAt0 m c t.val t.isLt).2.2.2.2 (ix2 0 d) = 0 + part m c t d := by
  rw [outsAt0_A m c t h0]
  frame_out
  try simp only [read_unread_whole]
  try simp (disch := decide) only [View.readCov_fill]
  exact (dn_at m c F t _ d).trans (congrArg (· + part m c t d) (start d))

theorem later (c : Dev nD) (F : Finite m c) (t : Fin cfg0.N) (h0 : ¬t.val % 16 = 0) (d : Fin 1024) :
    (outsAt0 m c t.val t.isLt).2.2.2.2 (ix2 0 d)
      = (outsAt0 m c (t.val - 1) (Nat.lt_of_le_of_lt (Nat.sub_le _ _) t.isLt)).2.2.2.2 (ix2 0 d) + part m c t d := by
  rw [outsAt0_B m c t h0]
  frame_out
  try simp only [read_unread_whole]
  try simp (disch := decide) only [View.readCov_fill]
  exact dn_at m c F t _ d

/-- After the last point: the sum over all rows. -/
theorem total (c : Dev nD) (F : Finite m c) (t : Fin cfg0.N) (ht : t.val % 16 = 15) (d : Fin 1024) :
    (outsAt0 m c t.val t.isLt).2.2.2.2 (ix2 0 d)
      = val_main_v33 (F := Ideal) (ax m c) (an m c) (ay m c) (ag m c) (au m c) (ad m c) (ix2 0 d) := by
  have hN : t.val < 16 := lt_of_lt_of_eq t.isLt N_0
  have sum := Pipeline.eq_sum_fin_of_reset_step_apply_last (fun n h (d : Fin 1024) => (outsAt0 m c n h).2.2.2.2 (ix2 0 d)) 16 (fun _ => 0) (part m c)
    (fun t h d => first m c F t h d) (fun t h d => later m c F t h d) (le_of_eq N_0) t (by show t.val + 1 = grid0.N; rw [N_0]; omega) d
  refine sum.trans ((zero_add _).trans ?_)
  rw [ref_dn, Fin.sum_univ_tiles 16 256 rfl]
  rfl

/-- The gradient of the norm's scale. -/
theorem final_dn (c : Dev nD) (F : Finite m c) : (dats m 0 c).arrAt 12 cfg0.N
    = val_main_v33 (F := Ideal) (ax m c) (an m c) (ay m c) (ag m c) (au m c) (ad m c) := by
  refine (dats m 0 c).arrAt_eq_of_covers 12 _ (by decide +kernel) fun t hf y => ?_
  have hy : y = ix2 0 (y 1) := by
    funext a; revert a; exact Fin.forall_fin_two.mpr ⟨Fin.ext (by have h : (y 0).val < 1 := (y 0).isLt; show (y 0).val = 0; omega), rfl⟩
  rw [after0_12]
  refine (congrArg _ hy).trans ((total m c F t ((flush0_12 t).mp hf) (y 1)).trans ?_)
  blk_ext [tile_of t]

end Cert.FfnIdeal.Sum

end
-- ==== Proof.FfnFinite.lean ====
/-
  The precondition of the feed-forward backward kernel, that every argument is below infinity in absolute value, says of
  the extended reals that every argument is a real number.
-/
module

public import proofs.«01_k».proof.Defs
public import proofs.«01_k».proof.Proof.Gen.Pre_finite
public import proofs.«01_k».proof.Proof.FfnBlocks

@[expose] public section

set_option maxRecDepth 16384

noncomputable section

open Idealize.ShloMosaic Idealize.ShloMosaic.TcCoe Idealize.SL.Sem

namespace Cert.FfnIdeal.Sum

open Cert.FfnIdeal Cert.FfnIdeal.Gen Cert.Ext

theorem top_word : Ideal.ofBits .f32 0x7F800000#32 = ⊤ := by
  simp [Ideal.ofBits, Ideal.ieee]

theorem real_of_below {S : Shape} (v : FVec Ideal S .f32) (b) (i : S.Idx)
    (h : cmpf .olt (Host.absf v) (broadcastInDim S ![] b (constant (F := Ideal) Cert.Pre_finite.S_ .f32 0x7F800000#32)) = fun _ => 1#1) :
    IsReal (v i) := by
  have e : BitVec.ofBool (decide (max (v i) (-(v i)) < Ideal.ofBits .f32 0x7F800000#32)) = 1#1 := congrFun h i
  rw [top_word] at e
  have lt : max (v i) (-(v i)) < (⊤ : EReal) := by
    by_contra hn
    rw [decide_eq_false hn] at e
    exact absurd e (by decide)
  have ⟨h1, h2⟩ := max_lt_iff.mp lt
  refine IsReal.of_abs_lt (fun hb => ?_) (ne_of_lt h1)
  rw [hb, EReal.neg_bot] at h2
  exact absurd h2 (lt_irrefl _)

theorem finite_of_pre {m : (ℓ : Loc nD τ sig) → Buf (Elt Ideal) ℓ} (h : Cert.Pre_FfnIdeal_finite m) (c : Dev nD) : Finite m c := by
  obtain ⟨h0, h1, h2, h3, h4, h5⟩ := h c
  exact ⟨fun s d => real_of_below _ _ _ h0, fun d => real_of_below _ _ _ h1, fun s d => real_of_below _ _ _ h2,
    fun d f => real_of_below _ _ _ h3, fun d f => real_of_below _ _ _ h4, fun f d => real_of_below _ _ _ h5⟩

end Cert.FfnIdeal.Sum

end
-- ==== Proof.UpValue.lean ====
/-
  What the weight gradient kernel of the gate and up projections leaves in its result: for every hidden unit and model
  channel the sum over all 4096 rows of gradient times activation, which is what the reference's product computes.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpIdeal.Sum

open Cert.UpIdeal Cert.UpIdeal.Gen

variable (m : (ℓ : Loc nD τ sig) → Buf (Elt Ideal) ℓ)

/-- The tile of each operand a point reads, and the tile of the result it writes. -/
theorem tile_of : ∀ t : Fin cfg0.N, win0_0.index t = ![t.val % 2, t.val / 2] ∧ win0_1.index t = ![t.val % 2, 0]
    ∧ win0_2.index t = ![t.val / 2, 0, 0] ∧ t.val / 2 < 2 :=
  (by decide +kernel : ∀ t : Fin grid0.N, _)

/-- One point adds the product of its two row tiles to the running sum. -/
theorem add_tile (acc : FVec Ideal S1408x1024 .f32) (a : FVec Ideal S2048x1408 .bf16) (b : FVec Ideal S2048x1024 .bf16)
    (p : Fin 1408) (q : Fin 1024) :
    k0_pay2 (F := Ideal) acc a b (ix2 p q) = acc (ix2 p q) + ∑ k : Fin 2048, a (ix2 k p) * b (ix2 k q) := by
  pointwise [k0_pay2]

/-- The running sum starts at zero. -/
theorem start (p : Fin 1408) (q : Fin 1024) : k0_pay1 (F := Ideal) (ix2 p q) = 0 := by
  pointwise [k0_pay1]

/-- The reference's result at an index: the sum over all rows. -/
theorem ref_at (X : FVec Ideal S4096x2816 .bf16) (Y : FVec Ideal S4096x1024 .bf16) (j : S4x704x1024.Idx) :
    Cert.UpRefIdeal.Read.val_main_v8 (F := Ideal) X Y j
      = ∑ k : Fin 4096, X (ix2 k ⟨(j 0).val * 704 + (j 1).val, by
          have h0 : (j 0).val < 4 := (j 0).isLt; have h1 : (j 1).val < 704 := (j 1).isLt; omega⟩) * Y (ix2 k (j 2)) := by
  pointwise [Cert.UpRefIdeal.Read.val_main_v8, Cert.UpRefIdeal.Read.val_main_v7, Cert.UpRefIdeal.Read.val_main_v6, Cert.UpRefIdeal.Read.val_main_v5, Cert.UpRefIdeal.Read.val_main_v4, Cert.UpRefIdeal.Read.val_main_v3, Cert.UpRefIdeal.Read.val_main_v1]

/-- After the second point of a run the scratch holds, at a hidden unit and a channel, the sum over all 4096 rows. -/
theorem both (c : Dev nD) (t : Fin cfg0.N) (ht : t.val % 2 = 1) (p : Fin 1408) (q : Fin 1024) (j : S4x704x1024.Idx)
    (h0 : (j 0).val * 704 + (j 1).val = t.val / 2 * 1408 + p.val) (h2 : (j 2).val = q.val) :
    k0_pay2 (F := Ideal) (outsAt0 m c (t.val - 1) (lt_of_le_of_lt (Nat.sub_le _ _) t.isLt)).2 (iblk m c 0 t) (iblk m c 1 t) (ix2 p q)
      = Cert.UpRefIdeal.Read.val_main_v8 (F := Ideal) (m ((c : Thread nD τ).loc main_arg0)) (m ((c : Thread nD τ).loc main_arg1)) j := by
  have hN : t.val < 4 := lt_of_lt_of_eq t.isLt N_0
  have hs : t.val - 1 < cfg0.N := lt_of_le_of_lt (Nat.sub_le _ _) t.isLt
  have e : (outsAt0 m c (t.val - 1) hs).2 = k0_pay2 (F := Ideal) (k0_pay1 (F := Ideal)) (iblk m c 0 ⟨t.val - 1, hs⟩) (iblk m c 1 ⟨t.val - 1, hs⟩) := by
    rw [outsAt0_A m c ⟨t.val - 1, hs⟩ (by show (t.val - 1) % 2 = 0; omega) (by show ¬(t.val - 1) % 2 = 1; omega)]
    frame_out
  rw [e, ref_at, add_tile, add_tile, start, zero_add, Fin.sum_univ_two_halves 2048 2048 rfl]
  refine Ideal.add_congr ?_ ?_
  · refine Finset.sum_congr rfl fun k _ => ?_
    refine Ideal.mul_congr ?_ ?_ <;> blk_ext [iblk, V, tile_of ⟨t.val - 1, hs⟩]
  · refine Finset.sum_congr rfl fun k _ => ?_
    refine Ideal.mul_congr ?_ ?_ <;> blk_ext [iblk, V, tile_of t]

/-- The result array is the reference's. -/
theorem final (c : Dev nD) : (dats m 0 c).arrAt 2 cfg0.N
    = Cert.UpRefIdeal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hN : t.val < 4 := lt_of_lt_of_eq t.isLt N_0
  rw [after0_2, outsAt0_B m c t (by omega) ht]
  frame_out
  simp only [read_unread_whole]
  simp (disch := decide) only [View.readCov_fill]
  canon_tiles x h
  all_goals
    open_payloads
    pointwise
    refine (add_tile _ _ _ _ _).symm.trans (both m c t ht _ _ _ ?_ ?_)
  all_goals (blk_simp [tile_of t] <;> try (dsimp only; omega))

end Cert.UpIdeal.Sum

end
-- ==== Proof.DownValue.lean ====
/-
  What the weight gradient kernel of the down projection leaves in its result: for every hidden unit and model
  channel the sum over all 4096 rows of activation times gradient, halved, which is what the
  reference's product with the halved gradient computes.
-/
module

public import proofs.«01_k».proof.Proof.Ext
public import proofs.«01_k».proof.Proof.Gen.DownIdeal.Value
public import proofs.«01_k».proof.Proof.Gen.DownRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Sum

open Cert.DownIdeal Cert.DownIdeal.Gen

variable (m : (ℓ : Loc nD τ sig) → Buf (Elt Ideal) ℓ)

/-- The tile of each operand a point reads, and the tile of the result it writes. -/
theorem tile_of : ∀ t : Fin cfg0.N, win0_0.index t = ![t.val % 2, t.val / 2] ∧ win0_1.index t = ![t.val % 2, 0]
    ∧ win0_2.index t = ![t.val / 2, 0, 0] ∧ t.val / 2 < 2 :=
  (by decide +kernel : ∀ t : Fin grid0.N, _)

/-- One point adds the product of its two row tiles to the running sum. -/
theorem add_tile (acc : FVec Ideal S1408x1024 .f32) (a : FVec Ideal S2048x1408 .bf16) (b : FVec Ideal S2048x1024 .bf16)
    (p : Fin 1408) (q : Fin 1024) :
    k0_pay2 (F := Ideal) acc a b (ix2 p q) = acc (ix2 p q) + ∑ k : Fin 2048, a (ix2 k p) * b (ix2 k q) := by
  pointwise [k0_pay2]

/-- The running sum starts at zero. -/
theorem start (p : Fin 1408) (q : Fin 1024) : k0_pay1 (F := Ideal) (ix2 p q) = 0 := by
  pointwise [k0_pay1]

/-- The reference's result at an index: the sum over all rows. -/
theorem ref_at (X : FVec Ideal S4096x2816 .bf16) (Y : FVec Ideal S4096x1024 .bf16) (j : S4x704x1024.Idx) :
    Cert.DownRefIdeal.Read.val_main_v11 (F := Ideal) X Y j
      = (∑ k : Fin 4096, X (ix2 k ⟨(j 0).val * 704 + (j 1).val, by
          have h0 : (j 0).val < 4 := (j 0).isLt; have h1 : (j 1).val < 704 := (j 1).isLt; omega⟩) * Y (ix2 k (j 2)))
        * Ideal.ofBits .f32 0x3F000000#32 := by
  pointwise [Cert.DownRefIdeal.Read.val_main_v11, Cert.DownRefIdeal.Read.val_main_v10, Cert.DownRefIdeal.Read.val_main_v9, Cert.DownRefIdeal.Read.val_main_v8, Cert.DownRefIdeal.Read.val_main_v7, Cert.DownRefIdeal.Read.val_main_v6, Cert.DownRefIdeal.Read.val_main_cst_1, Cert.DownRefIdeal.Read.val_main_v5, Cert.DownRefIdeal.Read.val_main_v1]
  rw [Cert.Ext.half, Cert.Ext.sum_mul_real _ _ (by norm_num)]
  refine Finset.sum_congr rfl fun k _ => ?_
  ac_rfl

/-- After the second point of a run the scratch holds, at a hidden unit and a channel, the sum over all 4096 rows. -/
theorem both (c : Dev nD) (t : Fin cfg0.N) (ht : t.val % 2 = 1) (p : Fin 1408) (q : Fin 1024) (j : S4x704x1024.Idx)
    (h0 : (j 0).val * 704 + (j 1).val = t.val / 2 * 1408 + p.val) (h2 : (j 2).val = q.val) :
    k0_pay2 (F := Ideal) (outsAt0 m c (t.val - 1) (lt_of_le_of_lt (Nat.sub_le _ _) t.isLt)).2 (iblk m c 0 t) (iblk m c 1 t) (ix2 p q) * Ideal.ofBits .f32 0x3F000000#32
      = Cert.DownRefIdeal.Read.val_main_v11 (F := Ideal) (m ((c : Thread nD τ).loc main_arg0)) (m ((c : Thread nD τ).loc main_arg1)) j := by
  have hN : t.val < 4 := lt_of_lt_of_eq t.isLt N_0
  have hs : t.val - 1 < cfg0.N := lt_of_le_of_lt (Nat.sub_le _ _) t.isLt
  have e : (outsAt0 m c (t.val - 1) hs).2 = k0_pay2 (F := Ideal) (k0_pay1 (F := Ideal)) (iblk m c 0 ⟨t.val - 1, hs⟩) (iblk m c 1 ⟨t.val - 1, hs⟩) := by
    rw [outsAt0_A m c ⟨t.val - 1, hs⟩ (by show (t.val - 1) % 2 = 0; omega) (by show ¬(t.val - 1) % 2 = 1; omega)]
    frame_out
  rw [e, ref_at, add_tile, add_tile, start, zero_add, Fin.sum_univ_two_halves 2048 2048 rfl]
  refine Ideal.mul_congr (Ideal.add_congr ?_ ?_) rfl
  · refine Finset.sum_congr rfl fun k _ => ?_
    refine Ideal.mul_congr ?_ ?_ <;> blk_ext [iblk, V, tile_of ⟨t.val - 1, hs⟩]
  · refine Finset.sum_congr rfl fun k _ => ?_
    refine Ideal.mul_congr ?_ ?_ <;> blk_ext [iblk, V, tile_of t]

/-- The result array is the reference's. -/
theorem final (c : Dev nD) : (dats m 0 c).arrAt 2 cfg0.N
    = Cert.DownRefIdeal.Read.val_main_v11 (F := Ideal) (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hN : t.val < 4 := lt_of_lt_of_eq t.isLt N_0
  rw [after0_2, outsAt0_B m c t (by omega) ht]
  frame_out
  simp only [read_unread_whole]
  simp (disch := decide) only [View.readCov_fill]
  canon_tiles x h
  all_goals
    open_payloads
    pointwise
    refine (Ideal.mul_congr (add_tile _ _ _ _ _).symm rfl).trans (both m c t ht _ _ _ ?_ ?_)
  all_goals (blk_simp [tile_of t] <;> try (dsimp only; omega))

end Cert.DownIdeal.Sum

end
-- ==== Proof.Norm.lean ====
/-
  The gradient of a row normalised by its mean square, written with one factor for the whole row or with half of it
  twice: the two are the same extended real, whatever the row holds.
-/
module

public import proofs.«01_k».proof.Proof.Reals

@[expose] public section

noncomputable section

namespace Cert.Ext

open Idealize.ShloMosaic

/-- The word 512. -/
theorem w512 : Ideal.ofBits .f32 0x44000000#32 = ((512 : ℝ) : EReal) := by
  simp [Ideal.ofBits, Ideal.ieee]
  rw [← EReal.coe_mul]
  congr 1
  norm_num

theorem mul_self_nonneg_ext (a : EReal) : 0 ≤ a * a := by
  rcases le_total 0 a with h | h
  · exact mul_nonneg h h
  · have e : a * a = (-a) * (-a) := by rw [EReal.neg_mul, mul_comm a (-a), EReal.neg_mul, neg_neg]
    have h' : 0 ≤ -a := by simpa using EReal.neg_le_neg_iff.mpr h
    rw [e]
    exact mul_nonneg h' h'

/-- A sum of squares is a real number or infinite; over a positive count and with a positive number added, its root's
    reciprocal is a real number, and dividing that by it gives its cube. -/
theorem norm_any {n : ℕ} (f : Fin n → EReal) {W : EReal} {N : ℝ} (hN : 0 < N) (hW : W = (N : EReal)) :
    ∃ r : ℝ, Ideal.rsqrt (Ideal.div (∑ k, f k * f k) W + Ideal.ofBits .f32 897988541#32) = (r : EReal)
      ∧ Ideal.div (r : EReal) (Ideal.div (∑ k, f k * f k) W + Ideal.ofBits .f32 897988541#32) = ((r * r * r : ℝ) : EReal) := by
  obtain ⟨e, he, hw⟩ := eps_pos
  have hs : 0 ≤ ∑ k, f k * f k := Finset.sum_nonneg fun k _ => mul_self_nonneg_ext _
  generalize (∑ k, f k * f k) = s at hs
  rw [hW, hw, Ideal.div_coe hN.ne']
  have hN' : (0 : ℝ) < 1 / N := by positivity
  induction s using EReal.rec with
  | bot => exact absurd hs (by simp)
  | top =>
    rw [EReal.top_mul_of_pos (by exact_mod_cast hN'), EReal.top_add_coe]
    refine ⟨0, rfl, ?_⟩
    simp [Ideal.div]
  | coe s =>
    have h0 : 0 ≤ s := by exact_mod_cast hs
    rw [← EReal.coe_mul, ← EReal.coe_add]
    have hv : 0 < s * (1 / N) + e := by positivity
    generalize s * (1 / N) + e = v at hv
    have hr : Real.sqrt v ≠ 0 := (Real.sqrt_pos.mpr hv).ne'
    refine ⟨(Real.sqrt v)⁻¹, by rw [Ideal.rsqrt_coe, if_neg (not_lt.mpr hv.le), if_neg hv.ne'], ?_⟩
    rw [Ideal.div_coe hv.ne', ← EReal.coe_mul]
    congr 1
    field_simp
    exact Real.sq_sqrt hv.le

/-- Minus a half, twice. -/
theorem neg_half_twice (w : EReal) : ((-(1 / 2) : ℝ) : EReal) * w + ((-(1 / 2) : ℝ) : EReal) * w = -w := by
  have h : (-(1 / 2) : ℝ) < 0 := by norm_num
  induction w using EReal.rec with
  | bot => rw [EReal.coe_mul_bot_of_neg h]; rfl
  | top => rw [EReal.coe_mul_top_of_neg h]; rfl
  | coe w =>
    rw [← EReal.coe_mul, ← EReal.coe_add, ← EReal.coe_neg]
    congr 1
    ring

/-- The gradient of a normalised row at one channel. -/
theorem norm_grad_any {t r x S q W : EReal} {ρ N : ℝ} (hN : 0 < N) (hW : W = (N : EReal))
    (hr : r = (ρ : EReal)) (hq : q = ((ρ * ρ * ρ : ℝ) : EReal)) :
    r * t - x * (r * r * r * Ideal.div S W)
      = t * r + x * Ideal.div (S * (Ideal.ofBits .f32 0xBF000000#32 * q)) W
          + Ideal.div (S * (Ideal.ofBits .f32 0xBF000000#32 * q)) W * x := by
  have e : r * r * r = q := by rw [hr, hq, EReal.coe_mul, EReal.coe_mul]
  rw [e, hW, neg_half, Ideal.div_coe hN.ne', Ideal.div_coe hN.ne', sub_eq_add_neg, ← neg_half_twice, add_assoc]
  have e1 : x * (S * (((-(1 / 2) : ℝ) : EReal) * q) * ((1 / N : ℝ) : EReal)) = ((-(1 / 2) : ℝ) : EReal) * (x * (q * (S * ((1 / N : ℝ) : EReal)))) := by
    ac_rfl
  have e2 : S * (((-(1 / 2) : ℝ) : EReal) * q) * ((1 / N : ℝ) : EReal) * x = ((-(1 / 2) : ℝ) : EReal) * (x * (q * (S * ((1 / N : ℝ) : EReal)))) := by
    ac_rfl
  rw [e1, e2, mul_comm r t]

end Cert.Ext

end
-- ==== Proof.InBlocks.lean ====
/-
  What one grid point of the gradient of the mixer's input projections computes, row by row, in the reference's words:
  the weights laid out side by side, the gradient of the normalised input, the gradient of the input and the point's part
  of the norm's scale.
-/
module

public import proofs.«01_k».proof.Proof.Gen.InIdeal.Value
public import proofs.«01_k».proof.Proof.Gen.InRefIdeal.Read
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.InIdeal.Sum

open Cert.InIdeal Cert.InIdeal.Gen Cert.InRefIdeal.Read Cert.Ext

variable (m : (ℓ : Loc nD τ sig) → Buf (Elt Ideal) ℓ)

/-- The tile of each operand a point reads, and the tile of each result it writes. -/
theorem tile_of : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0, 0] ∧ win0_9.index t = ![t.val, 0]
    ∧ win0_10.index t = ![0, 0] ∧ t.val < 8 :=
  (by decide +kernel : ∀ t : Fin grid0.N, _)

/-- The argument arrays, as a device finds them. -/
abbrev ax (c : Dev nD) : FVec Ideal S4096x1024 .f32 := m ((c : Thread nD τ).loc main_arg0)
abbrev an (c : Dev nD) : FVec Ideal S1x1024 .f32 := m ((c : Thread nD τ).loc main_arg1)
abbrev ay (c : Dev nD) : FVec Ideal S4096x1024 .f32 := m ((c : Thread nD τ).loc main_arg2)
abbrev d0 (c : Dev nD) : FVec Ideal S4096x512 .bf16 := m ((c : Thread nD τ).loc main_arg3)
abbrev d1 (c : Dev nD) : FVec Ideal S4096x512 .bf16 := m ((c : Thread nD τ).loc main_arg4)
abbrev d2 (c : Dev nD) : FVec Ideal S4096x512 .bf16 := m ((c : Thread nD τ).loc main_arg5)
abbrev d3 (c : Dev nD) : FVec Ideal S4096x512 .bf16 := m ((c : Thread nD τ).loc main_arg6)
abbrev d4 (c : Dev nD) : FVec Ideal S4096x512 .bf16 := m ((c : Thread nD τ).loc main_arg7)
abbrev aw (c : Dev nD) : FVec Ideal S4x1024x640 .bf16 := m ((c : Thread nD τ).loc main_arg8)

/-- The row of the whole arrays that row `p` of point `t`'s blocks is. -/
def row (t : Fin cfg0.N) (p : Fin 512) : Fin 4096 :=
  ⟨t.val * 512 + p.val, by have := lt_of_lt_of_eq t.isLt N_0; have := p.isLt; omega⟩

theorem read_x (c : Dev nD) (t : Fin cfg0.N) (p : Fin 512) (d : Fin 1024) : iblk m c 0 t (ix2 p d) = ax m c (ix2 (row t p) d) := by
  blk_ext [iblk, V, tile_of t, row]

theorem read_n (c : Dev nD) (t : Fin cfg0.N) (d : Fin 1024) : iblk m c 1 t (ix2 0 d) = an m c (ix2 0 d) := by
  blk_ext [iblk, V, tile_of t]

theorem read_y (c : Dev nD) (t : Fin cfg0.N) (p : Fin 512) (d : Fin 1024) : iblk m c 2 t (ix2 p d) = ay m c (ix2 (row t p) d) := by
  blk_ext [iblk, V, tile_of t, row]

theorem read_d0 (c : Dev nD) (t : Fin cfg0.N) (p : Fin 512) (d : Fin 512) : iblk m c 3 t (ix2 p d) = d0 m c (ix2 (row t p) d) := by
  blk_ext [iblk, V, tile_of t, row]

theorem read_d1 (c : Dev nD) (t : Fin cfg0.N) (p : Fin 512) (d : Fin 512) : iblk m c 4 t (ix2 p d) = d1 m c (ix2 (row t p) d) := by
  blk_ext [iblk, V, tile_of t, row]

theorem read_d2 (c : Dev nD) (t : Fin cfg0.N) (p : Fin 512) (d : Fin 512) : iblk m c 5 t (ix2 p d) = d2 m c (ix2 (row t p) d) := by
  blk_ext [iblk, V, tile_of t, row]

theorem read_d3 (c : Dev nD) (t : Fin cfg0.N) (p : Fin 512) (d : Fin 512) : iblk m c 6 t (ix2 p d) = d3 m c (ix2 (row t p) d) := by
  blk_ext [iblk, V, tile_of t, row]

theorem read_d4 (c : Dev nD) (t : Fin cfg0.N) (p : Fin 512) (d : Fin 512) : iblk m c 7 t (ix2 p d) = d4 m c (ix2 (row t p) d) := by
  blk_ext [iblk, V, tile_of t, row]

theorem read_w (c : Dev nD) (t : Fin cfg0.N) (i : Fin 4) (d : Fin 1024) (e : Fin 640) : iblk m c 8 t (ix3 i d e) = aw m c (ix3 i d e) := by
  blk_ext [iblk, V, tile_of t]

/-! ## The weights side by side -/

theorem piece0 (b : FVec Ideal S4x1024x640 .bf16) (d : Fin 1024) (e : Fin 640) :
    k0_pay4 (F := Ideal) (View.ld (Val := Elt Ideal) (e' := .bf16) b (Rect.unit (s := S4x1024x640) ![0, 0, 0] ![1, 1024, 640] inb_S4x1024x640_S1x1024x640_0_0_0)) (ix2 d e) = b (ix3 0 d e) := by
  pointwise [k0_pay4, View.ld]

theorem ref_piece0 (b : FVec Ideal S4x1024x640 .bf16) (d : Fin 1024) (f : Fin 2560) (e : Fin 640) (h : f.val = 0 + e.val) :
    val_main_v2 (F := Ideal) b (ix2 d f) = b (ix3 0 d e) := by
  have lt : 0 + e.val < 2560 := by have := e.isLt; omega
  have hf : f = ⟨0 + e.val, lt⟩ := Fin.ext h
  rw [hf]
  clear hf h
  pointwise [val_main_v2, val_main_v1, val_main_v0]
  exact congrArg₂ (fun i k => b (ix3 i d k)) (Fin.ext (by show e.val / 640 = 0; have := e.isLt; omega)) (Fin.ext (by show e.val % 640 = e.val; have := e.isLt; omega))

theorem piece1 (b : FVec Ideal S4x1024x640 .bf16) (d : Fin 1024) (e : Fin 640) :
    k0_pay5 (F := Ideal) (View.ld (Val := Elt Ideal) (e' := .bf16) b (Rect.unit (s := S4x1024x640) ![1, 0, 0] ![1, 1024, 640] inb_S4x1024x640_S1x1024x640_1_0_0)) (ix2 d e) = b (ix3 1 d e) := by
  pointwise [k0_pay5, View.ld]

theorem ref_piece1 (b : FVec Ideal S4x1024x640 .bf16) (d : Fin 1024) (f : Fin 2560) (e : Fin 640) (h : f.val = 640 + e.val) :
    val_main_v2 (F := Ideal) b (ix2 d f) = b (ix3 1 d e) := by
  have lt : 640 + e.val < 2560 := by have := e.isLt; omega
  have hf : f = ⟨640 + e.val, lt⟩ := Fin.ext h
  rw [hf]
  clear hf h
  pointwise [val_main_v2, val_main_v1, val_main_v0]
  exact congrArg (fun i => b (ix3 i d e)) (Fin.ext (by show (640 + e.val) / 640 = 1; have := e.isLt; omega))

theorem piece2 (b : FVec Ideal S4x1024x640 .bf16) (d : Fin 1024) (e : Fin 640) :
    k0_pay6 (F := Ideal) (View.ld (Val := Elt Ideal) (e' := .bf16) b (Rect.unit (s := S4x1024x640) ![2, 0, 0] ![1, 1024, 640] inb_S4x1024x640_S1x1024x640_2_0_0)) (ix2 d e) = b (ix3 2 d e) := by
  pointwise [k0_pay6, View.ld]

theorem ref_piece2 (b : FVec Ideal S4x1024x640 .bf16) (d : Fin 1024) (f : Fin 2560) (e : Fin 640) (h : f.val = 1280 + e.val) :
    val_main_v2 (F := Ideal) b (ix2 d f) = b (ix3 2 d e) := by
  have lt : 1280 + e.val < 2560 := by have := e.isLt; omega
  have hf : f = ⟨1280 + e.val, lt⟩ := Fin.ext h
  rw [hf]
  clear hf h
  pointwise [val_main_v2, val_main_v1, val_main_v0]
  exact congrArg (fun i => b (ix3 i d e)) (Fin.ext (by show (1280 + e.val) / 640 = 2; have := e.isLt; omega))

theorem piece3 (b : FVec Ideal S4x1024x640 .bf16) (d : Fin 1024) (e : Fin 640) :
    k0_pay7 (F := Ideal) (View.ld (Val := Elt Ideal) (e' := .bf16) b (Rect.unit (s := S4x1024x640) ![3, 0, 0] ![1, 1024, 640] inb_S4x1024x640_S1x1024x640_3_0_0)) (ix2 d e) = b (ix3 3 d e) := by
  pointwise [k0_pay7, View.ld]

theorem ref_piece3 (b : FVec Ideal S4x1024x640 .bf16) (d : Fin 1024) (f : Fin 2560) (e : Fin 640) (h : f.val = 1920 + e.val) :
    val_main_v2 (F := Ideal) b (ix2 d f) = b (ix3 3 d e) := by
  have lt : 1920 + e.val < 2560 := by have := e.isLt; omega
  have hf : f = ⟨1920 + e.val, lt⟩ := Fin.ext h
  rw [hf]
  clear hf h
  pointwise [val_main_v2, val_main_v1, val_main_v0]
  exact congrArg (fun i => b (ix3 i d e)) (Fin.ext (by show (1920 + e.val) / 640 = 3; have := e.isLt; omega))

/-- What the first point's four stores leave of the weights, read back. -/
theorem laid (c : Dev nD) (t : Fin cfg0.N) (y : S1024x2560.Idx) :
    View.canon (Val := Elt Ideal) (e := .bf16) [⟨Rect.unit (s := S1024x2560) ![0, 1920] ![1024, 640] inb_S1024x2560_S1024x640_0_1920, k0_pay7 (F := Ideal) (View.ld (Val := Elt Ideal) (e' := .bf16) (iblk m c 8 t) (Rect.unit (s := S4x1024x640) ![3, 0, 0] ![1, 1024, 640] inb_S4x1024x640_S1x1024x640_3_0_0))⟩,
      ⟨Rect.unit (s := S1024x2560) ![0, 1280] ![1024, 640] inb_S1024x2560_S1024x640_0_1280, k0_pay6 (F := Ideal) (View.ld (Val := Elt Ideal) (e' := .bf16) (iblk m c 8 t) (Rect.unit (s := S4x1024x640) ![2, 0, 0] ![1, 1024, 640] inb_S4x1024x640_S1x1024x640_2_0_0))⟩,
      ⟨Rect.unit (s := S1024x2560) ![0, 640] ![1024, 640] inb_S1024x2560_S1024x640_0_640, k0_pay5 (F := Ideal) (View.ld (Val := Elt Ideal) (e' := .bf16) (iblk m c 8 t) (Rect.unit (s := S4x1024x640) ![1, 0, 0] ![1, 1024, 640] inb_S4x1024x640_S1x1024x640_1_0_0))⟩,
      ⟨Rect.unit (s := S1024x2560) ![0, 0] ![1024, 640] inb_S1024x2560_S1024x640_0_0, k0_pay4 (F := Ideal) (View.ld (Val := Elt Ideal) (e' := .bf16) (iblk m c 8 t) (Rect.unit (s := S4x1024x640) ![0, 0, 0] ![1, 1024, 640] inb_S4x1024x640_S1x1024x640_0_0_0))⟩] y
      = val_main_v2 (F := Ideal) (aw m c) y := by
  have hy : y = ix2 (y 0) (y 1) := by
    funext a; revert a; exact Fin.forall_fin_two.mpr ⟨rfl, rfl⟩
  canon_tiles x h using (View.cover_of_tiledBy _ ![1024, 640] (by sl_kernel_rfl) _)
  · have hx : x = ix2 (y 0) (x 1) := by
      funext a; revert a; exact Fin.forall_fin_two.mpr ⟨Fin.ext h0.symm, rfl⟩
    refine (congrArg _ hx).trans ((piece3 _ (y 0) (x 1)).trans ((read_w m c t 3 (y 0) (x 1)).trans (Eq.trans ?_ (congrArg _ hy.symm))))
    exact (ref_piece3 _ (y 0) (y 1) (x 1) (by exact h1)).symm
  · have hx : x = ix2 (y 0) (x 1) := by
      funext a; revert a; exact Fin.forall_fin_two.mpr ⟨Fin.ext h0.symm, rfl⟩
    refine (congrArg _ hx).trans ((piece2 _ (y 0) (x 1)).trans ((read_w m c t 2 (y 0) (x 1)).trans (Eq.trans ?_ (congrArg _ hy.symm))))
    exact (ref_piece2 _ (y 0) (y 1) (x 1) (by exact h1)).symm
  · have hx : x = ix2 (y 0) (x 1) := by
      funext a; revert a; exact Fin.forall_fin_two.mpr ⟨Fin.ext h0.symm, rfl⟩
    refine (congrArg _ hx).trans ((piece1 _ (y 0) (x 1)).trans ((read_w m c t 1 (y 0) (x 1)).trans (Eq.trans ?_ (congrArg _ hy.symm))))
    exact (ref_piece1 _ (y 0) (y 1) (x 1) (by exact h1)).symm
  · have hx : x = ix2 (y 0) (x 1) := by
      funext a; revert a; exact Fin.forall_fin_two.mpr ⟨Fin.ext h0.symm, rfl⟩
    refine (congrArg _ hx).trans ((piece0 _ (y 0) (x 1)).trans ((read_w m c t 0 (y 0) (x 1)).trans (Eq.trans ?_ (congrArg _ hy.symm))))
    exact (ref_piece0 _ (y 0) (y 1) (x 1) (by rw [Nat.zero_add]; exact h1)).symm

theorem stored (c : Dev nD) (t : Fin cfg0.N) :
    (View.whole cc0_scratch0).readCov (Val := Elt Ideal) [⟨Rect.unit (s := S1024x2560) ![0, 1920] ![1024, 640] inb_S1024x2560_S1024x640_0_1920, k0_pay7 (F := Ideal) (View.ld (Val := Elt Ideal) (e' := .bf16) (iblk m c 8 t) (Rect.unit (s := S4x1024x640) ![3, 0, 0] ![1, 1024, 640] inb_S4x1024x640_S1x1024x640_3_0_0))⟩,
      ⟨Rect.unit (s := S1024x2560) ![0, 1280] ![1024, 640] inb_S1024x2560_S1024x640_0_1280, k0_pay6 (F := Ideal) (View.ld (Val := Elt Ideal) (e' := .bf16) (iblk m c 8 t) (Rect.unit (s := S4x1024x640) ![2, 0, 0] ![1, 1024, 640] inb_S4x1024x640_S1x1024x640_2_0_0))⟩,
      ⟨Rect.unit (s := S1024x2560) ![0, 640] ![1024, 640] inb_S1024x2560_S1024x640_0_640, k0_pay5 (F := Ideal) (View.ld (Val := Elt Ideal) (e' := .bf16) (iblk m c 8 t) (Rect.unit (s := S4x1024x640) ![1, 0, 0] ![1, 1024, 640] inb_S4x1024x640_S1x1024x640_1_0_0))⟩,
      ⟨Rect.unit (s := S1024x2560) ![0, 0] ![1024, 640] inb_S1024x2560_S1024x640_0_0, k0_pay4 (F := Ideal) (View.ld (Val := Elt Ideal) (e' := .bf16) (iblk m c 8 t) (Rect.unit (s := S4x1024x640) ![0, 0, 0] ![1, 1024, 640] inb_S4x1024x640_S1x1024x640_0_0_0))⟩]
      (Rect.unit (s := S1024x2560) ![0, 0] ![1024, 2560] inb_S1024x2560_S1024x2560_0_0).toLoadRect
      = val_main_v2 (F := Ideal) (aw m c) := by
  funext y
  rw [View.readCov_eq_canon']
  refine (laid m c t _).trans (congrArg _ ?_)
  exact Rect.emb_unit_full (s := S1024x2560) inb_S1024x2560_S1024x2560_0_0 y

/-! ## The five gradients side by side -/

/-- Five rows of 512 entries, side by side, at an index. -/
def pick (v0 v1 v2 v3 v4 : Fin 512 → EReal) (e : Fin 2560) : EReal :=
  if h0 : e.val < 512 then v0 ⟨e.val, h0⟩
  else if h1 : e.val - 512 < 512 then v1 ⟨e.val - 512, h1⟩
  else if h2 : e.val - 512 - 512 < 512 then v2 ⟨e.val - 512 - 512, h2⟩
  else if h3 : e.val - 512 - 512 - 512 < 512 then v3 ⟨e.val - 512 - 512 - 512, h3⟩
  else v4 ⟨e.val - 512 - 512 - 512 - 512, by have := e.isLt; omega⟩

theorem prod_at (v0 v1 v2 v3 v4 : FVec Ideal S512x512 .bf16) (w : FVec Ideal S1024x2560 .bf16) (p : Fin 512) (d : Fin 1024) :
    k0_pay8 (F := Ideal) v0 v1 v2 v3 v4 w (ix2 p d)
      = ∑ e : Fin 2560, pick (fun k => v0 (ix2 p k)) (fun k => v1 (ix2 p k)) (fun k => v2 (ix2 p k)) (fun k => v3 (ix2 p k)) (fun k => v4 (ix2 p k)) e * w (ix2 d e) := by
  pointwise [k0_pay8]
  rfl

theorem ref_prod (v0 v1 v2 v3 v4 : FVec Ideal S4096x512 .bf16) (w : FVec Ideal S4x1024x640 .bf16) (s : Fin 4096) (d : Fin 1024) :
    val_main_v25 (F := Ideal) v0 v1 v2 v3 v4 w (ix2 s d)
      = ∑ e : Fin 2560, pick (fun k => v0 (ix2 s k)) (fun k => v1 (ix2 s k)) (fun k => v2 (ix2 s k)) (fun k => v3 (ix2 s k)) (fun k => v4 (ix2 s k)) e * val_main_v2 (F := Ideal) w (ix2 d e) := by
  pointwise [val_main_v25, val_main_v24, val_main_v23, val_main_v22, val_main_v21, val_main_v20, val_main_v19]
  rfl

/-! ## The norm's gradient -/

/-- A row's mean square with the small number added. -/
def mean {S : Shape} (v : S.Idx → EReal) (f : Fin 1024 → S.Idx) : EReal :=
  Ideal.div (∑ k : Fin 1024, v (f k) * v (f k)) (Ideal.ofBits .f32 1149239296#32) + Ideal.ofBits .f32 897988541#32

section Reference

variable (x y : FVec Ideal S4096x1024 .f32) (n : FVec Ideal S1x1024 .f32) (v0 v1 v2 v3 v4 : FVec Ideal S4096x512 .bf16) (w : FVec Ideal S4x1024x640 .bf16)

theorem ref_mean (s : Fin 4096) : val_main_v9 (F := Ideal) x (ix2 s 0) = mean x (fun k => ix2 s k) := by
  unfold mean
  pointwise [val_main_v9, val_main_v8, val_main_v7, val_main_v6, val_main_v5, val_main_v4, val_main_v3, val_main_cst, val_main_cst_0, val_main_cst_1]

theorem ref_root (s : Fin 4096) : val_main_v10 (F := Ideal) x (ix2 s 0) = Ideal.rsqrt (mean x (fun k => ix2 s k)) := by
  rw [← ref_mean]
  pointwise [val_main_v10]

theorem ref_scale (d : Fin 1024) : val_main_v28 (F := Ideal) x v0 v1 v2 v3 v4 w (ix2 0 d)
    = ∑ s : Fin 4096, val_main_v25 (F := Ideal) v0 v1 v2 v3 v4 w (ix2 s d) * x (ix2 s d) * val_main_v10 (F := Ideal) x (ix2 s 0) := by
  have e : val_main_v28 (F := Ideal) x v0 v1 v2 v3 v4 w (ix2 0 d)
      = ∑ s : Fin 4096, x (ix2 s d) * val_main_v10 (F := Ideal) x (ix2 s 0) * val_main_v25 (F := Ideal) v0 v1 v2 v3 v4 w (ix2 s d) := by
    pointwise [val_main_v28, val_main_v27, val_main_v26, val_main_v15, val_main_v14, val_main_cst_3]
  rw [e]
  exact Finset.sum_congr rfl fun s _ => by rw [mul_comm, mul_assoc]

theorem ref_grad (s : Fin 4096) (d : Fin 1024) : val_main_v45 (F := Ideal) x n y v0 v1 v2 v3 v4 w (ix2 s d)
    = y (ix2 s d) + (val_main_v25 (F := Ideal) v0 v1 v2 v3 v4 w (ix2 s d) * n (ix2 0 d) * val_main_v10 (F := Ideal) x (ix2 s 0)
      + x (ix2 s d) * Ideal.div ((∑ k : Fin 1024, val_main_v25 (F := Ideal) v0 v1 v2 v3 v4 w (ix2 s k) * n (ix2 0 k) * x (ix2 s k))
          * (Ideal.ofBits .f32 0xBF000000#32 * Ideal.div (val_main_v10 (F := Ideal) x (ix2 s 0)) (val_main_v9 (F := Ideal) x (ix2 s 0)))) (Ideal.ofBits .f32 1149239296#32)
      + Ideal.div ((∑ k : Fin 1024, val_main_v25 (F := Ideal) v0 v1 v2 v3 v4 w (ix2 s k) * n (ix2 0 k) * x (ix2 s k))
          * (Ideal.ofBits .f32 0xBF000000#32 * Ideal.div (val_main_v10 (F := Ideal) x (ix2 s 0)) (val_main_v9 (F := Ideal) x (ix2 s 0)))) (Ideal.ofBits .f32 1149239296#32)
        * x (ix2 s d)) := by
  have e : ∀ k : Fin 1024, x (ix2 s k) * (val_main_v25 (F := Ideal) v0 v1 v2 v3 v4 w (ix2 s k) * n (ix2 0 k))
      = val_main_v25 (F := Ideal) v0 v1 v2 v3 v4 w (ix2 s k) * n (ix2 0 k) * x (ix2 s k) := fun k => mul_comm _ _
  simp only [← e]
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v13, val_main_v12, val_main_v11, val_main_cst_2, val_main_cst_4, val_main_cst_5, val_main_cst_6]
  simp

end Reference

theorem point_root (X : FVec Ideal S512x1024 .f32) (p : Fin 512) : k0_pay9 (F := Ideal) X (ix2 p 0) = Ideal.rsqrt (mean X (fun k => ix2 p k)) := by
  unfold mean
  pointwise [k0_pay9]

theorem point_grad (v0 v1 v2 v3 v4 : FVec Ideal S512x512 .bf16) (w : FVec Ideal S1024x2560 .bf16) (X Y : FVec Ideal S512x1024 .f32) (N : FVec Ideal S1x1024 .f32) (p : Fin 512) (d : Fin 1024) :
    k0_pay1 (F := Ideal) X (k0_pay11 v0 v1 v2 v3 v4 w X N) (k0_pay12 v0 v1 v2 v3 v4 w X N) Y (ix2 p d)
      = Y (ix2 p d) + (k0_pay9 (F := Ideal) X (ix2 p 0) * (k0_pay8 (F := Ideal) v0 v1 v2 v3 v4 w (ix2 p d) * N (ix2 0 d))
        - X (ix2 p d) * (k0_pay9 (F := Ideal) X (ix2 p 0) * k0_pay9 (F := Ideal) X (ix2 p 0) * k0_pay9 (F := Ideal) X (ix2 p 0)
          * Ideal.div (∑ k : Fin 1024, k0_pay8 (F := Ideal) v0 v1 v2 v3 v4 w (ix2 p k) * N (ix2 0 k) * X (ix2 p k)) (Ideal.ofBits .f32 1149239296#32))) := by
  pointwise [k0_pay1, k0_pay11, k0_pay12, k0_pay10]

theorem point_scale (D X : FVec Ideal S512x1024 .f32) (z : FVec Ideal S512x1 .f32) (L : FVec Ideal S1x1024 .f32) (d : Fin 1024) :
    k0_pay2 (F := Ideal) D X z L (ix2 0 d) = L (ix2 0 d) + ∑ p : Fin 512, D (ix2 p d) * X (ix2 p d) * z (ix2 p 0) := by
  pointwise [k0_pay2]

theorem zero_scale (d : Fin 1024) : k0_pay3 (F := Ideal) (ix2 0 d) = 0 := by
  pointwise [k0_pay3]

theorem same_root (c : Dev nD) (t : Fin cfg0.N) (p : Fin 512) :
    k0_pay9 (F := Ideal) (iblk m c 0 t) (ix2 p 0) = val_main_v10 (F := Ideal) (ax m c) (ix2 (row t p) 0) := by
  rw [point_root, ref_root]
  unfold mean
  simp only [read_x]

/-- The gradient of the normalised input. -/
theorem hidden_at (c : Dev nD) (t : Fin cfg0.N) (p : Fin 512) (d : Fin 1024) :
    k0_pay8 (F := Ideal) (iblk m c 3 t) (iblk m c 4 t) (iblk m c 5 t) (iblk m c 6 t) (iblk m c 7 t) (val_main_v2 (F := Ideal) (aw m c)) (ix2 p d) = val_main_v25 (F := Ideal) (d0 m c) (d1 m c) (d2 m c) (d3 m c) (d4 m c) (aw m c) (ix2 (row t p) d) := by
  rw [prod_at, ref_prod]
  simp only [read_d0, read_d1, read_d2, read_d3, read_d4]

/-- The gradient of the input. -/
theorem grad_at (c : Dev nD) (t : Fin cfg0.N) (p : Fin 512) (d : Fin 1024) :
    k0_pay1 (F := Ideal) (iblk m c 0 t) (k0_pay11 (iblk m c 3 t) (iblk m c 4 t) (iblk m c 5 t) (iblk m c 6 t) (iblk m c 7 t) (val_main_v2 (F := Ideal) (aw m c)) (iblk m c 0 t) (iblk m c 1 t)) (k0_pay12 (iblk m c 3 t) (iblk m c 4 t) (iblk m c 5 t) (iblk m c 6 t) (iblk m c 7 t) (val_main_v2 (F := Ideal) (aw m c)) (iblk m c 0 t) (iblk m c 1 t)) (iblk m c 2 t) (ix2 p d)
      = val_main_v45 (F := Ideal) (ax m c) (an m c) (ay m c) (d0 m c) (d1 m c) (d2 m c) (d3 m c) (d4 m c) (aw m c) (ix2 (row t p) d) := by
  rw [point_grad, ref_grad, same_root]
  simp only [hidden_at, read_x, read_n, read_y]
  obtain ⟨ρ, h1, h2⟩ := norm_any (fun k : Fin 1024 => ax m c (ix2 (row t p) k)) (by norm_num) w1024
  have hr : val_main_v10 (F := Ideal) (ax m c) (ix2 (row t p) 0) = (ρ : EReal) := (ref_root _ _).trans h1
  refine congrArg _ (norm_grad_any (by norm_num) w1024 hr ?_)
  rw [hr, ref_mean]
  exact h2

/-- What a point adds to the gradient of the scale. -/
def part (c : Dev nD) (t : Fin cfg0.N) (d : Fin 1024) : EReal :=
  ∑ p : Fin 512, val_main_v25 (F := Ideal) (d0 m c) (d1 m c) (d2 m c) (d3 m c) (d4 m c) (aw m c) (ix2 (row t p) d) * ax m c (ix2 (row t p) d) * val_main_v10 (F := Ideal) (ax m c) (ix2 (row t p) 0)

theorem scale_at (c : Dev nD) (t : Fin cfg0.N) (L : FVec Ideal S1x1024 .f32) (d : Fin 1024) :
    k0_pay2 (F := Ideal) (k0_pay8 (iblk m c 3 t) (iblk m c 4 t) (iblk m c 5 t) (iblk m c 6 t) (iblk m c 7 t) (val_main_v2 (F := Ideal) (aw m c))) (iblk m c 0 t) (k0_pay9 (iblk m c 0 t)) L (ix2 0 d) = L (ix2 0 d) + part m c t d := by
  rw [point_scale]
  unfold part
  simp only [hidden_at, same_root, read_x]

end Cert.InIdeal.Sum

end
-- ==== Proof.InValue.lean ====
/-
  What the gradient of the mixer's input projections leaves in its results: the gradient of the input for every row, and
  the gradient of the norm's scale summed over all rows.
-/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.InIdeal.Sum

open Cert.InIdeal Cert.InIdeal.Gen Cert.InRefIdeal.Read Cert.Ext

variable (m : (ℓ : Loc nD τ sig) → Buf (Elt Ideal) ℓ)

/-- After every point the scratch holds the weights side by side. -/
theorem kept (c : Dev nD) : ∀ (k : ℕ) (t : Fin cfg0.N), t.val = k → (outsAt0 m c t.val t.isLt).2.2 = val_main_v2 (F := Ideal) (aw m c) := by
  intro k
  induction k with
  | zero =>
    intro t ht
    funext z
    rw [outsAt0_A m c t (by rw [ht])]
    frame_out
    exact laid m c t z
  | succ k ih =>
    intro t ht
    have hN : t.val < 8 := lt_of_lt_of_eq t.isLt N_0
    have h0 : ¬t.val % 8 = 0 := by omega
    funext z
    rw [outsAt0_B m c t h0]
    frame_out
    exact congrFun (ih ⟨t.val - 1, Nat.lt_of_le_of_lt (Nat.sub_le _ _) t.isLt⟩ (by show t.val - 1 = k; omega)) z

/-- So a later point finds them there. -/
theorem found (c : Dev nD) (t : Fin cfg0.N) :
    (outsAt0 m c (t.val - 1) (Nat.lt_of_le_of_lt (Nat.sub_le _ _) t.isLt)).2.2 = val_main_v2 (F := Ideal) (aw m c) :=
  kept m c (t.val - 1) ⟨t.val - 1, Nat.lt_of_le_of_lt (Nat.sub_le _ _) t.isLt⟩ rfl

theorem grad_of (c : Dev nD) (t : Fin cfg0.N) (W : FVec Ideal S1024x2560 .bf16) (hW : W = val_main_v2 (F := Ideal) (aw m c)) (p : Fin 512) (d : Fin 1024) :
    k0_pay1 (F := Ideal) (iblk m c 0 t) (k0_pay11 (iblk m c 3 t) (iblk m c 4 t) (iblk m c 5 t) (iblk m c 6 t) (iblk m c 7 t) W (iblk m c 0 t) (iblk m c 1 t)) (k0_pay12 (iblk m c 3 t) (iblk m c 4 t) (iblk m c 5 t) (iblk m c 6 t) (iblk m c 7 t) W (iblk m c 0 t) (iblk m c 1 t)) (iblk m c 2 t) (ix2 p d)
      = val_main_v45 (F := Ideal) (ax m c) (an m c) (ay m c) (d0 m c) (d1 m c) (d2 m c) (d3 m c) (d4 m c) (aw m c) (ix2 (row t p) d) := by
  rw [hW]
  exact grad_at m c t p d

theorem scale_of (c : Dev nD) (t : Fin cfg0.N) (W : FVec Ideal S1024x2560 .bf16) (hW : W = val_main_v2 (F := Ideal) (aw m c)) (L : FVec Ideal S1x1024 .f32) (d : Fin 1024) :
    k0_pay2 (F := Ideal) (k0_pay8 (iblk m c 3 t) (iblk m c 4 t) (iblk m c 5 t) (iblk m c 6 t) (iblk m c 7 t) W) (iblk m c 0 t) (k0_pay9 (iblk m c 0 t)) L (ix2 0 d) = L (ix2 0 d) + part m c t d := by
  rw [hW]
  exact scale_at m c t L d

/-- The gradient of the input. -/
theorem final_dx (c : Dev nD) : (dats m 0 c).arrAt 9 cfg0.N
    = val_main_v45 (F := Ideal) (ax m c) (an m c) (ay m c) (d0 m c) (d1 m c) (d2 m c) (d3 m c) (d4 m c) (aw m c) := by
  refine (dats m 0 c).arrAt_eq_of_covers 9 _ (by decide +kernel) fun t hf y => ?_
  have hy : y = ix2 (y 0) (y 1) := by
    funext a; revert a; exact Fin.forall_fin_two.mpr ⟨rfl, rfl⟩
  have key : val_main_v45 (F := Ideal) (ax m c) (an m c) (ay m c) (d0 m c) (d1 m c) (d2 m c) (d3 m c) (d4 m c) (aw m c) (ix2 (row t (y 0)) (y 1)) = val_main_v45 (F := Ideal) (ax m c) (an m c) (ay m c) (d0 m c) (d1 m c) (d2 m c) (d3 m c) (d4 m c) (aw m c)
    ((((cfg0.win 9).blk t).view).emb y) := by blk_ext [tile_of t, row]
  by_cases h0 : t.val % 8 = 0
  · rw [after0_9, outsAt0_A m c t h0]
    frame_out
    try simp only [read_unread_whole]
    exact (congrArg _ hy).trans ((grad_of m c t _ (stored m c t) (y 0) (y 1)).trans key)
  · rw [after0_9, outsAt0_B m c t h0]
    frame_out
    try simp only [read_unread_whole]
    exact (congrArg _ hy).trans ((grad_of m c t _ (found m c t) (y 0) (y 1)).trans key)

theorem first (c : Dev nD) (t : Fin cfg0.N) (h0 : t.val % 8 = 0) (d : Fin 1024) :
    (outsAt0 m c t.val t.isLt).2.1 (ix2 0 d) = 0 + part m c t d := by
  rw [outsAt0_A m c t h0]
  frame_out
  try simp only [read_unread_whole]
  try simp (disch := decide) only [View.readCov_fill]
  exact (scale_of m c t _ (stored m c t) _ d).trans (congrArg (· + part m c t d) (zero_scale d))

theorem later (c : Dev nD) (t : Fin cfg0.N) (h0 : ¬t.val % 8 = 0) (d : Fin 1024) :
    (outsAt0 m c t.val t.isLt).2.1 (ix2 0 d)
      = (outsAt0 m c (t.val - 1) (Nat.lt_of_le_of_lt (Nat.sub_le _ _) t.isLt)).2.1 (ix2 0 d) + part m c t d := by
  rw [outsAt0_B m c t h0]
  frame_out
  try simp only [read_unread_whole]
  exact scale_of m c t _ (found m c t) _ d

/-- After the last point: the sum over all rows. -/
theorem total (c : Dev nD) (t : Fin cfg0.N) (ht : t.val % 8 = 7) (d : Fin 1024) :
    (outsAt0 m c t.val t.isLt).2.1 (ix2 0 d) = val_main_v28 (F := Ideal) (ax m c) (d0 m c) (d1 m c) (d2 m c) (d3 m c) (d4 m c) (aw m c) (ix2 0 d) := by
  have hN : t.val < 8 := lt_of_lt_of_eq t.isLt N_0
  have sum := Pipeline.eq_sum_fin_of_reset_step_apply_last (fun n h (d : Fin 1024) => (outsAt0 m c n h).2.1 (ix2 0 d)) 8 (fun _ => 0) (part m c)
    (fun t h d => first m c t h d) (fun t h d => later m c t h d) (le_of_eq N_0) t (by show t.val + 1 = grid0.N; rw [N_0]; omega) d
  refine sum.trans ((zero_add _).trans ?_)
  rw [ref_scale, Fin.sum_univ_tiles 8 512 rfl]
  rfl

/-- The gradient of the norm's scale. -/
theorem final_dn (c : Dev nD) : (dats m 0 c).arrAt 10 cfg0.N
    = val_main_v28 (F := Ideal) (ax m c) (d0 m c) (d1 m c) (d2 m c) (d3 m c) (d4 m c) (aw m c) := by
  refine (dats m 0 c).arrAt_eq_of_covers 10 _ (by decide +kernel) fun t hf y => ?_
  have hy : y = ix2 0 (y 1) := by
    funext a; revert a; exact Fin.forall_fin_two.mpr ⟨Fin.ext (by have h : (y 0).val < 1 := (y 0).isLt; show (y 0).val = 0; omega), rfl⟩
  rw [after0_10]
  refine (congrArg _ hy).trans ((total m c t ((flush0_10 t).mp hf) (y 1)).trans ?_)
  blk_ext [tile_of t]

end Cert.InIdeal.Sum

end
-- ==== Proof.OutBlocks.lean ====
/-
  What one grid point of the mixer's output gradient computes, row by row, in the reference's words.
-/
module

public import proofs.«01_k».proof.Proof.Gen.OutIdeal.Value
public import proofs.«01_k».proof.Proof.Gen.OutRefIdeal.Read
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Sum

open Cert.OutIdeal Cert.OutIdeal.Gen Cert.OutRefIdeal.Read Cert.Ext

variable (m : (ℓ : Loc nD τ sig) → Buf (Elt Ideal) ℓ)

/-- The tile of each operand a point reads, and the tile of each result it writes. -/
theorem tile_of : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![0, 0] ∧ win0_11.index t = ![0, 0] ∧ t.val < 8 :=
  (by decide +kernel : ∀ t : Fin grid0.N, _)

/-- The argument arrays, as a device finds them. -/
abbrev ax (c : Dev nD) : FVec Ideal S4096x1024 .f32 := m ((c : Thread nD τ).loc main_arg0)
abbrev ar (c : Dev nD) : FVec Ideal S4096x512 .f32 := m ((c : Thread nD τ).loc main_arg1)
abbrev aa (c : Dev nD) : FVec Ideal S4096x512 .f32 := m ((c : Thread nD τ).loc main_arg2)
abbrev nr (c : Dev nD) : FVec Ideal S1x512 .f32 := m ((c : Thread nD τ).loc main_arg3)
abbrev na (c : Dev nD) : FVec Ideal S1x512 .f32 := m ((c : Thread nD τ).loc main_arg4)
abbrev aw (c : Dev nD) : FVec Ideal S1024x1024 .bf16 := m ((c : Thread nD τ).loc main_arg5)

/-- The row of the whole arrays that row `p` of point `t`'s blocks is. -/
def row (t : Fin cfg0.N) (p : Fin 512) : Fin 4096 :=
  ⟨t.val * 512 + p.val, by have := lt_of_lt_of_eq t.isLt N_0; have := p.isLt; omega⟩

theorem read_x (c : Dev nD) (t : Fin cfg0.N) (p : Fin 512) (d : Fin 1024) : iblk m c 0 t (ix2 p d) = ax m c (ix2 (row t p) d) := by
  blk_ext [iblk, V, tile_of t, row]

theorem read_r (c : Dev nD) (t : Fin cfg0.N) (p : Fin 512) (d : Fin 512) : iblk m c 1 t (ix2 p d) = ar m c (ix2 (row t p) d) := by
  blk_ext [iblk, V, tile_of t, row]

theorem read_a (c : Dev nD) (t : Fin cfg0.N) (p : Fin 512) (d : Fin 512) : iblk m c 2 t (ix2 p d) = aa m c (ix2 (row t p) d) := by
  blk_ext [iblk, V, tile_of t, row]

theorem read_nr (c : Dev nD) (t : Fin cfg0.N) (d : Fin 512) : iblk m c 3 t (ix2 0 d) = nr m c (ix2 0 d) := by
  blk_ext [iblk, V, tile_of t]

theorem read_na (c : Dev nD) (t : Fin cfg0.N) (d : Fin 512) : iblk m c 4 t (ix2 0 d) = na m c (ix2 0 d) := by
  blk_ext [iblk, V, tile_of t]

theorem read_w (c : Dev nD) (t : Fin cfg0.N) (e d : Fin 1024) : iblk m c 5 t (ix2 e d) = aw m c (ix2 e d) := by
  blk_ext [iblk, V, tile_of t]

/-- The two halves of the output weights' rows. -/
def top (e : Fin 512) : Fin 1024 := ⟨e.val, by have := e.isLt; omega⟩
def bottom (e : Fin 512) : Fin 1024 := ⟨512 + e.val, by have := e.isLt; omega⟩

/-- A row's mean square with the small number added. -/
def mean {S : Shape} (v : S.Idx → EReal) (f : Fin 512 → S.Idx) : EReal :=
  Ideal.div (∑ k : Fin 512, v (f k) * v (f k)) (Ideal.ofBits .f32 0x44000000#32) + Ideal.ofBits .f32 897988541#32

/-- The incoming gradient times the transposed weights, as a point computes it. -/
theorem prod_at (X : FVec Ideal S512x1024 .f32) (W : FVec Ideal S1024x1024 .bf16) (p : Fin 512) (q : Fin 1024) :
    k0_pay6 (F := Ideal) X W (ix2 p q) = ∑ k : Fin 1024, X (ix2 p k) * W (ix2 q k) := by
  pointwise [k0_pay6, k0_pay5]

theorem zero_r (q : Fin 512) : k0_pay1 (F := Ideal) (ix2 0 q) = 0 := by
  pointwise [k0_pay1]

theorem zero_a (q : Fin 512) : k0_pay2 (F := Ideal) (ix2 0 q) = 0 := by
  pointwise [k0_pay2]

/-! ## The first mixer output -/

section HalfR

variable (X : FVec Ideal S4096x1024 .f32) (R : FVec Ideal S4096x512 .f32) (N : FVec Ideal S1x512 .f32) (W : FVec Ideal S1024x1024 .bf16)

theorem mean_r (s : Fin 4096) : val_main_v7 (F := Ideal) R (ix2 s 0) = mean R (fun k => ix2 s k) := by
  unfold mean
  pointwise [val_main_v7, val_main_v6, val_main_v5, val_main_v4, val_main_v3, val_main_v2, val_main_v1, val_main_cst, val_main_cst_0, val_main_cst_1]

theorem root_r (s : Fin 4096) : val_main_v8 (F := Ideal) R (ix2 s 0) = Ideal.rsqrt (mean R (fun k => ix2 s k)) := by
  rw [← mean_r]
  pointwise [val_main_v8]

theorem ref_prod_r (s : Fin 4096) (q : Fin 512) : val_main_v34 (F := Ideal) X W (ix2 s q) = ∑ k : Fin 1024, X (ix2 s k) * W (ix2 (top q) k) := by
  pointwise [val_main_v34, val_main_v33, val_main_v0, top]

theorem ref_norm_r (s : Fin 4096) (q : Fin 512) : val_main_v15 (F := Ideal) R N (ix2 s q)
    = R (ix2 s q) * val_main_v8 (F := Ideal) R (ix2 s 0) * N (ix2 0 q) := by
  pointwise [val_main_v15, val_main_v14, val_main_v13, val_main_v12]

theorem ref_scale_r (q : Fin 512) : val_main_v57 (F := Ideal) X R W (ix2 0 q)
    = ∑ s : Fin 4096, val_main_v34 (F := Ideal) X W (ix2 s q) * R (ix2 s q) * val_main_v8 (F := Ideal) R (ix2 s 0) := by
  have e : val_main_v57 (F := Ideal) X R W (ix2 0 q)
      = ∑ s : Fin 4096, R (ix2 s q) * val_main_v8 (F := Ideal) R (ix2 s 0) * val_main_v34 (F := Ideal) X W (ix2 s q) := by
    pointwise [val_main_v57, val_main_v56, val_main_v55, val_main_v13, val_main_v12, val_main_cst_11]
  rw [e]
  exact Finset.sum_congr rfl fun s _ => by rw [mul_comm, mul_assoc]

theorem ref_grad_r (s : Fin 4096) (q : Fin 512) : val_main_v73 (F := Ideal) X R N W (ix2 s q)
    = val_main_v34 (F := Ideal) X W (ix2 s q) * N (ix2 0 q) * val_main_v8 (F := Ideal) R (ix2 s 0)
      + R (ix2 s q) * Ideal.div ((∑ k : Fin 512, val_main_v34 (F := Ideal) X W (ix2 s k) * N (ix2 0 k) * R (ix2 s k))
          * (Ideal.ofBits .f32 0xBF000000#32 * Ideal.div (val_main_v8 (F := Ideal) R (ix2 s 0)) (val_main_v7 (F := Ideal) R (ix2 s 0)))) (Ideal.ofBits .f32 0x44000000#32)
      + Ideal.div ((∑ k : Fin 512, val_main_v34 (F := Ideal) X W (ix2 s k) * N (ix2 0 k) * R (ix2 s k))
          * (Ideal.ofBits .f32 0xBF000000#32 * Ideal.div (val_main_v8 (F := Ideal) R (ix2 s 0)) (val_main_v7 (F := Ideal) R (ix2 s 0)))) (Ideal.ofBits .f32 0x44000000#32)
        * R (ix2 s q) := by
  have e : ∀ k : Fin 512, R (ix2 s k) * (val_main_v34 (F := Ideal) X W (ix2 s k) * N (ix2 0 k))
      = val_main_v34 (F := Ideal) X W (ix2 s k) * N (ix2 0 k) * R (ix2 s k) := fun k => mul_comm _ _
  simp only [← e]
  pointwise [val_main_v73, val_main_v72, val_main_v71, val_main_v70, val_main_v69, val_main_v68, val_main_v67, val_main_v66, val_main_v65, val_main_v64, val_main_v63, val_main_v62, val_main_v61, val_main_v60, val_main_v59, val_main_v58, val_main_v11, val_main_v10, val_main_v9, val_main_cst_2, val_main_cst_12, val_main_cst_13, val_main_cst_14]
  simp

end HalfR

theorem point_root_r (R : FVec Ideal S512x512 .f32) (p : Fin 512) : k0_pay7 (F := Ideal) R (ix2 p 0) = Ideal.rsqrt (mean R (fun k => ix2 p k)) := by
  unfold mean
  pointwise [k0_pay7]

theorem point_grad_r (D : FVec Ideal S512x1024 .f32) (R : FVec Ideal S512x512 .f32) (z : FVec Ideal S512x1 .f32) (N : FVec Ideal S1x512 .f32) (p q : Fin 512) :
    k0_pay14 (F := Ideal) D R z N (ix2 p q)
      = z (ix2 p 0) * (D (ix2 p (top q)) * N (ix2 0 q)) - R (ix2 p q) * (z (ix2 p 0) * z (ix2 p 0) * z (ix2 p 0)
          * Ideal.div (∑ k : Fin 512, D (ix2 p (top k)) * N (ix2 0 k) * R (ix2 p k)) (Ideal.ofBits .f32 0x44000000#32)) := by
  pointwise [k0_pay14, k0_pay13, top]

theorem point_scale_r (D : FVec Ideal S512x1024 .f32) (R : FVec Ideal S512x512 .f32) (z : FVec Ideal S512x1 .f32) (L : FVec Ideal S1x512 .f32) (q : Fin 512) :
    k0_pay3 (F := Ideal) (k0_pay15 D R z) L (ix2 0 q) = L (ix2 0 q) + ∑ p : Fin 512, D (ix2 p (top q)) * R (ix2 p q) * z (ix2 p 0) := by
  pointwise [k0_pay3, k0_pay15, k0_pay13, top]

theorem prod_r (c : Dev nD) (t : Fin cfg0.N) (p q : Fin 512) :
    k0_pay6 (F := Ideal) (iblk m c 0 t) (iblk m c 5 t) (ix2 p (top q)) = val_main_v34 (F := Ideal) (ax m c) (aw m c) (ix2 (row t p) q) := by
  rw [prod_at, ref_prod_r]
  simp only [read_x, read_w]

theorem same_root_r (c : Dev nD) (t : Fin cfg0.N) (p : Fin 512) :
    k0_pay7 (F := Ideal) (iblk m c 1 t) (ix2 p 0) = val_main_v8 (F := Ideal) (ar m c) (ix2 (row t p) 0) := by
  rw [point_root_r, root_r]
  unfold mean
  simp only [read_r]

theorem grad_r (c : Dev nD) (t : Fin cfg0.N) (p q : Fin 512) :
    k0_pay14 (F := Ideal) (k0_pay6 (iblk m c 0 t) (iblk m c 5 t)) (iblk m c 1 t) (k0_pay7 (iblk m c 1 t)) (iblk m c 3 t) (ix2 p q)
      = val_main_v73 (F := Ideal) (ax m c) (ar m c) (nr m c) (aw m c) (ix2 (row t p) q) := by
  rw [point_grad_r, ref_grad_r, same_root_r]
  simp only [prod_r, read_r, read_nr]
  obtain ⟨ρ, h1, h2⟩ := norm_any (fun k : Fin 512 => ar m c (ix2 (row t p) k)) (by norm_num) w512
  have hr : val_main_v8 (F := Ideal) (ar m c) (ix2 (row t p) 0) = (ρ : EReal) := (root_r _ _).trans h1
  refine norm_grad_any (by norm_num) w512 hr ?_
  rw [hr, mean_r]
  exact h2

/-- What a point adds to the gradient of the scale. -/
def part_r (c : Dev nD) (t : Fin cfg0.N) (q : Fin 512) : EReal :=
  ∑ p : Fin 512, val_main_v34 (F := Ideal) (ax m c) (aw m c) (ix2 (row t p) q) * ar m c (ix2 (row t p) q) * val_main_v8 (F := Ideal) (ar m c) (ix2 (row t p) 0)

theorem scale_r (c : Dev nD) (t : Fin cfg0.N) (L : FVec Ideal S1x512 .f32) (q : Fin 512) :
    k0_pay3 (F := Ideal) (k0_pay15 (k0_pay6 (iblk m c 0 t) (iblk m c 5 t)) (iblk m c 1 t) (k0_pay7 (iblk m c 1 t))) L (ix2 0 q)
      = L (ix2 0 q) + part_r m c t q := by
  rw [point_scale_r]
  unfold part_r
  simp only [prod_r, same_root_r, read_r]

/-! ## The second mixer output -/

section HalfA

variable (X : FVec Ideal S4096x1024 .f32) (R : FVec Ideal S4096x512 .f32) (N : FVec Ideal S1x512 .f32) (W : FVec Ideal S1024x1024 .bf16)

theorem mean_a (s : Fin 4096) : val_main_v22 (F := Ideal) R (ix2 s 0) = mean R (fun k => ix2 s k) := by
  unfold mean
  pointwise [val_main_v22, val_main_v21, val_main_v20, val_main_v19, val_main_v18, val_main_v17, val_main_v16, val_main_cst_3, val_main_cst_4, val_main_cst_5]

theorem root_a (s : Fin 4096) : val_main_v23 (F := Ideal) R (ix2 s 0) = Ideal.rsqrt (mean R (fun k => ix2 s k)) := by
  rw [← mean_a]
  pointwise [val_main_v23]

theorem ref_prod_a (s : Fin 4096) (q : Fin 512) : val_main_v35 (F := Ideal) X W (ix2 s q) = ∑ k : Fin 1024, X (ix2 s k) * W (ix2 (bottom q) k) := by
  pointwise [val_main_v35, val_main_v33, val_main_v0, bottom]

theorem ref_norm_a (s : Fin 4096) (q : Fin 512) : val_main_v30 (F := Ideal) R N (ix2 s q)
    = R (ix2 s q) * val_main_v23 (F := Ideal) R (ix2 s 0) * N (ix2 0 q) := by
  pointwise [val_main_v30, val_main_v29, val_main_v28, val_main_v27]

theorem ref_scale_a (q : Fin 512) : val_main_v38 (F := Ideal) X R W (ix2 0 q)
    = ∑ s : Fin 4096, val_main_v35 (F := Ideal) X W (ix2 s q) * R (ix2 s q) * val_main_v23 (F := Ideal) R (ix2 s 0) := by
  have e : val_main_v38 (F := Ideal) X R W (ix2 0 q)
      = ∑ s : Fin 4096, R (ix2 s q) * val_main_v23 (F := Ideal) R (ix2 s 0) * val_main_v35 (F := Ideal) X W (ix2 s q) := by
    pointwise [val_main_v38, val_main_v37, val_main_v36, val_main_v28, val_main_v27, val_main_cst_7]
  rw [e]
  exact Finset.sum_congr rfl fun s _ => by rw [mul_comm, mul_assoc]

theorem ref_grad_a (s : Fin 4096) (q : Fin 512) : val_main_v54 (F := Ideal) X R N W (ix2 s q)
    = val_main_v35 (F := Ideal) X W (ix2 s q) * N (ix2 0 q) * val_main_v23 (F := Ideal) R (ix2 s 0)
      + R (ix2 s q) * Ideal.div ((∑ k : Fin 512, val_main_v35 (F := Ideal) X W (ix2 s k) * N (ix2 0 k) * R (ix2 s k))
          * (Ideal.ofBits .f32 0xBF000000#32 * Ideal.div (val_main_v23 (F := Ideal) R (ix2 s 0)) (val_main_v22 (F := Ideal) R (ix2 s 0)))) (Ideal.ofBits .f32 0x44000000#32)
      + Ideal.div ((∑ k : Fin 512, val_main_v35 (F := Ideal) X W (ix2 s k) * N (ix2 0 k) * R (ix2 s k))
          * (Ideal.ofBits .f32 0xBF000000#32 * Ideal.div (val_main_v23 (F := Ideal) R (ix2 s 0)) (val_main_v22 (F := Ideal) R (ix2 s 0)))) (Ideal.ofBits .f32 0x44000000#32)
        * R (ix2 s q) := by
  have e : ∀ k : Fin 512, R (ix2 s k) * (val_main_v35 (F := Ideal) X W (ix2 s k) * N (ix2 0 k))
      = val_main_v35 (F := Ideal) X W (ix2 s k) * N (ix2 0 k) * R (ix2 s k) := fun k => mul_comm _ _
  simp only [← e]
  pointwise [val_main_v54, val_main_v53, val_main_v52, val_main_v51, val_main_v50, val_main_v49, val_main_v48, val_main_v47, val_main_v46, val_main_v45, val_main_v44, val_main_v43, val_main_v42, val_main_v41, val_main_v40, val_main_v39, val_main_v26, val_main_v25, val_main_v24, val_main_cst_6, val_main_cst_8, val_main_cst_9, val_main_cst_10]
  simp

end HalfA

theorem point_root_a (R : FVec Ideal S512x512 .f32) (p : Fin 512) : k0_pay8 (F := Ideal) R (ix2 p 0) = Ideal.rsqrt (mean R (fun k => ix2 p k)) := by
  unfold mean
  pointwise [k0_pay8]

theorem point_grad_a (D : FVec Ideal S512x1024 .f32) (R : FVec Ideal S512x512 .f32) (z : FVec Ideal S512x1 .f32) (N : FVec Ideal S1x512 .f32) (p q : Fin 512) :
    k0_pay17 (F := Ideal) D R z N (ix2 p q)
      = z (ix2 p 0) * (D (ix2 p (bottom q)) * N (ix2 0 q)) - R (ix2 p q) * (z (ix2 p 0) * z (ix2 p 0) * z (ix2 p 0)
          * Ideal.div (∑ k : Fin 512, D (ix2 p (bottom k)) * N (ix2 0 k) * R (ix2 p k)) (Ideal.ofBits .f32 0x44000000#32)) := by
  pointwise [k0_pay17, k0_pay16, bottom]

theorem point_scale_a (D : FVec Ideal S512x1024 .f32) (R : FVec Ideal S512x512 .f32) (z : FVec Ideal S512x1 .f32) (L : FVec Ideal S1x512 .f32) (q : Fin 512) :
    k0_pay4 (F := Ideal) (k0_pay18 D R z) L (ix2 0 q) = L (ix2 0 q) + ∑ p : Fin 512, D (ix2 p (bottom q)) * R (ix2 p q) * z (ix2 p 0) := by
  pointwise [k0_pay4, k0_pay18, k0_pay16, bottom]

theorem prod_a (c : Dev nD) (t : Fin cfg0.N) (p q : Fin 512) :
    k0_pay6 (F := Ideal) (iblk m c 0 t) (iblk m c 5 t) (ix2 p (bottom q)) = val_main_v35 (F := Ideal) (ax m c) (aw m c) (ix2 (row t p) q) := by
  rw [prod_at, ref_prod_a]
  simp only [read_x, read_w]

theorem same_root_a (c : Dev nD) (t : Fin cfg0.N) (p : Fin 512) :
    k0_pay8 (F := Ideal) (iblk m c 2 t) (ix2 p 0) = val_main_v23 (F := Ideal) (aa m c) (ix2 (row t p) 0) := by
  rw [point_root_a, root_a]
  unfold mean
  simp only [read_a]

theorem grad_a (c : Dev nD) (t : Fin cfg0.N) (p q : Fin 512) :
    k0_pay17 (F := Ideal) (k0_pay6 (iblk m c 0 t) (iblk m c 5 t)) (iblk m c 2 t) (k0_pay8 (iblk m c 2 t)) (iblk m c 4 t) (ix2 p q)
      = val_main_v54 (F := Ideal) (ax m c) (aa m c) (na m c) (aw m c) (ix2 (row t p) q) := by
  rw [point_grad_a, ref_grad_a, same_root_a]
  simp only [prod_a, read_a, read_na]
  obtain ⟨ρ, h1, h2⟩ := norm_any (fun k : Fin 512 => aa m c (ix2 (row t p) k)) (by norm_num) w512
  have hr : val_main_v23 (F := Ideal) (aa m c) (ix2 (row t p) 0) = (ρ : EReal) := (root_a _ _).trans h1
  refine norm_grad_any (by norm_num) w512 hr ?_
  rw [hr, mean_a]
  exact h2

/-- What a point adds to the gradient of the scale. -/
def part_a (c : Dev nD) (t : Fin cfg0.N) (q : Fin 512) : EReal :=
  ∑ p : Fin 512, val_main_v35 (F := Ideal) (ax m c) (aw m c) (ix2 (row t p) q) * aa m c (ix2 (row t p) q) * val_main_v23 (F := Ideal) (aa m c) (ix2 (row t p) 0)

theorem scale_a (c : Dev nD) (t : Fin cfg0.N) (L : FVec Ideal S1x512 .f32) (q : Fin 512) :
    k0_pay4 (F := Ideal) (k0_pay18 (k0_pay6 (iblk m c 0 t) (iblk m c 5 t)) (iblk m c 2 t) (k0_pay8 (iblk m c 2 t))) L (ix2 0 q)
      = L (ix2 0 q) + part_a m c t q := by
  rw [point_scale_a]
  unfold part_a
  simp only [prod_a, same_root_a, read_a]

/-! ## The normalised outputs side by side -/

theorem point_norm_r (R : FVec Ideal S512x512 .f32) (N : FVec Ideal S1x512 .f32) (p q : Fin 512) :
    k0_pay9 (F := Ideal) R N (ix2 p q) = R (ix2 p q) * k0_pay7 (F := Ideal) R (ix2 p 0) * N (ix2 0 q) := by
  pointwise [k0_pay9]

theorem point_norm_a (R : FVec Ideal S512x512 .f32) (N : FVec Ideal S1x512 .f32) (p q : Fin 512) :
    k0_pay12 (F := Ideal) (k0_pay10 R) (k0_pay11 N) (ix2 p q) = R (ix2 p q) * k0_pay8 (F := Ideal) R (ix2 p 0) * N (ix2 0 q) := by
  pointwise [k0_pay12, k0_pay11, k0_pay10]

theorem side_r (R A : FVec Ideal S4096x512 .f32) (N M : FVec Ideal S1x512 .f32) (s : Fin 4096) (q : Fin 512) :
    val_main_v31 (F := Ideal) R A N M (ix2 s (top q)) = val_main_v15 (F := Ideal) R N (ix2 s q) := by
  have he : q.val < 512 := q.isLt
  unfold val_main_v31
  generalize val_main_v15 (F := Ideal) R N = P
  generalize val_main_v30 (F := Ideal) A M = Q
  pointwise [top, he]

theorem side_a (R A : FVec Ideal S4096x512 .f32) (N M : FVec Ideal S1x512 .f32) (s : Fin 4096) (q : Fin 512) :
    val_main_v31 (F := Ideal) R A N M (ix2 s (bottom q)) = val_main_v30 (F := Ideal) A M (ix2 s q) := by
  have he : ¬ 512 + q.val < 512 := by omega
  unfold val_main_v31
  generalize val_main_v15 (F := Ideal) R N = P
  generalize val_main_v30 (F := Ideal) A M = Q
  pointwise [bottom, he]

theorem norm_r (c : Dev nD) (t : Fin cfg0.N) (p q : Fin 512) :
    k0_pay9 (F := Ideal) (iblk m c 1 t) (iblk m c 3 t) (ix2 p q)
      = val_main_v31 (F := Ideal) (ar m c) (aa m c) (nr m c) (na m c) (ix2 (row t p) (top q)) := by
  rw [point_norm_r, side_r, ref_norm_r, same_root_r]
  simp only [read_r, read_nr]

theorem norm_a (c : Dev nD) (t : Fin cfg0.N) (p q : Fin 512) :
    k0_pay12 (F := Ideal) (k0_pay10 (iblk m c 2 t)) (k0_pay11 (iblk m c 4 t)) (ix2 p q)
      = val_main_v31 (F := Ideal) (ar m c) (aa m c) (nr m c) (na m c) (ix2 (row t p) (bottom q)) := by
  rw [point_norm_a, side_a, ref_norm_a, same_root_a]
  simp only [read_a, read_na]

/-- The gradient on its way in, as a point rounds it. -/
theorem copy_at (c : Dev nD) (t : Fin cfg0.N) (p : Fin 512) (q : Fin 1024) :
    k0_pay5 (F := Ideal) (iblk m c 0 t) (ix2 p q) = ax m c (ix2 (row t p) q) :=
  (show k0_pay5 (F := Ideal) (iblk m c 0 t) (ix2 p q) = iblk m c 0 t (ix2 p q) from rfl).trans (read_x m c t p q)

end Cert.OutIdeal.Sum

end
-- ==== Proof.OutValue.lean ====
/-
  What the gradient of the mixer's output projection leaves in its results: the gradients of the two mixer outputs, the
  normalised outputs side by side, the incoming gradient, and the gradients of the two scales summed over all rows.
-/
module

public import proofs.«01_k».proof.Proof.OutBlocks

@[expose] public section

set_option maxRecDepth 16384

noncomputable section

open Idealize.ShloMosaic Idealize.ShloMosaic.TcCoe Idealize.SL.Sem
open Idealize.ShloMosaic.Pipeline (Dat)

namespace Cert.OutIdeal.Sum

open Cert.OutIdeal Cert.OutIdeal.Gen Cert.OutRefIdeal.Read Cert.Ext

variable (m : (ℓ : Loc nD τ sig) → Buf (Elt Ideal) ℓ)

/-- The first mixer output's gradient. -/
theorem final_dyr (c : Dev nD) : (dats m 0 c).arrAt 6 cfg0.N
    = val_main_v73 (F := Ideal) (ax m c) (ar m c) (nr m c) (aw m c) := by
  refine (dats m 0 c).arrAt_eq_of_covers 6 _ (by decide +kernel) fun t hf y => ?_
  have hy : y = ix2 (y 0) (y 1) := by
    funext a; revert a; exact Fin.forall_fin_two.mpr ⟨rfl, rfl⟩
  have key := (grad_r m c t (y 0) (y 1)).trans (show _ = val_main_v73 (F := Ideal) (ax m c) (ar m c) (nr m c) (aw m c)
    ((((cfg0.win 6).blk t).view).emb y) by blk_ext [tile_of t, row])
  by_cases h0 : t.val % 8 = 0
  · rw [after0_6, outsAt0_A m c t h0]
    frame_out
    try simp only [read_unread_whole]
    try simp (disch := decide) only [View.readCov_fill]
    exact (congrArg _ hy).trans key
  · rw [after0_6, outsAt0_B m c t h0]
    frame_out
    try simp only [read_unread_whole]
    try simp (disch := decide) only [View.readCov_fill]
    exact (congrArg _ hy).trans key

/-- The second mixer output's gradient. -/
theorem final_dya (c : Dev nD) : (dats m 0 c).arrAt 7 cfg0.N
    = val_main_v54 (F := Ideal) (ax m c) (aa m c) (na m c) (aw m c) := by
  refine (dats m 0 c).arrAt_eq_of_covers 7 _ (by decide +kernel) fun t hf y => ?_
  have hy : y = ix2 (y 0) (y 1) := by
    funext a; revert a; exact Fin.forall_fin_two.mpr ⟨rfl, rfl⟩
  have key := (grad_a m c t (y 0) (y 1)).trans (show _ = val_main_v54 (F := Ideal) (ax m c) (aa m c) (na m c) (aw m c)
    ((((cfg0.win 7).blk t).view).emb y) by blk_ext [tile_of t, row])
  by_cases h0 : t.val % 8 = 0
  · rw [after0_7, outsAt0_A m c t h0]
    frame_out
    try simp only [read_unread_whole]
    try simp (disch := decide) only [View.readCov_fill]
    exact (congrArg _ hy).trans key
  · rw [after0_7, outsAt0_B m c t h0]
    frame_out
    try simp only [read_unread_whole]
    try simp (disch := decide) only [View.readCov_fill]
    exact (congrArg _ hy).trans key

/-- The incoming gradient. -/
theorem final_copy (c : Dev nD) : (dats m 0 c).arrAt 9 cfg0.N
    = val_main_v75 (F := Ideal) (ax m c) := by
  refine (dats m 0 c).arrAt_eq_of_covers 9 _ (by decide +kernel) fun t hf y => ?_
  have hy : y = ix2 (y 0) (y 1) := by
    funext a; revert a; exact Fin.forall_fin_two.mpr ⟨rfl, rfl⟩
  have e : ∀ i, val_main_v75 (F := Ideal) (ax m c) i = ax m c i := fun i => rfl
  have key := (copy_at m c t (y 0) (y 1)).trans (show _ = val_main_v75 (F := Ideal) (ax m c)
    ((((cfg0.win 9).blk t).view).emb y) by rw [e]; blk_ext [tile_of t, row])
  by_cases h0 : t.val % 8 = 0
  · rw [after0_9, outsAt0_A m c t h0]
    frame_out
    try simp only [read_unread_whole]
    try simp (disch := decide) only [View.readCov_fill]
    exact (congrArg _ hy).trans key
  · rw [after0_9, outsAt0_B m c t h0]
    frame_out
    try simp only [read_unread_whole]
    try simp (disch := decide) only [View.readCov_fill]
    exact (congrArg _ hy).trans key

/-- The normalised outputs. -/
theorem final_side (c : Dev nD) : (dats m 0 c).arrAt 8 cfg0.N
    = val_main_v74 (F := Ideal) (ar m c) (aa m c) (nr m c) (na m c) := by
  refine (dats m 0 c).arrAt_eq_of_covers 8 _ (by decide +kernel) fun t hf y => ?_
  have e : ∀ i, val_main_v74 (F := Ideal) (ar m c) (aa m c) (nr m c) (na m c) i = val_main_v31 (F := Ideal) (ar m c) (aa m c) (nr m c) (na m c) i := fun i => rfl
  by_cases h0 : t.val % 8 = 0
  · rw [after0_8, outsAt0_A m c t h0]
    frame_out
    canon_tiles x h using (View.cover_of_tiledBy _ ![512, 512] (by sl_kernel_rfl) _)
    · have hx : x = ix2 (x 0) (x 1) := by
        funext a; revert a; exact Fin.forall_fin_two.mpr ⟨rfl, rfl⟩
      refine (congrArg _ hx).trans ((norm_a m c t (x 0) (x 1)).trans (Eq.trans ?_ (e _).symm))
      have q0 : (y 0).val = (x 0).val := h0
      have q1 : (y 1).val = 512 + (x 1).val := h1
      blk_ext [tile_of t, row, bottom] <;> omega
    · have hx : x = ix2 (x 0) (x 1) := by
        funext a; revert a; exact Fin.forall_fin_two.mpr ⟨rfl, rfl⟩
      refine (congrArg _ hx).trans ((norm_r m c t (x 0) (x 1)).trans (Eq.trans ?_ (e _).symm))
      have q0 : (y 0).val = (x 0).val := h0
      have q1 : (y 1).val = (x 1).val := h1
      blk_ext [tile_of t, row, top] <;> omega
  · rw [after0_8, outsAt0_B m c t h0]
    frame_out
    canon_tiles x h using (View.cover_of_tiledBy _ ![512, 512] (by sl_kernel_rfl) _)
    · have hx : x = ix2 (x 0) (x 1) := by
        funext a; revert a; exact Fin.forall_fin_two.mpr ⟨rfl, rfl⟩
      refine (congrArg _ hx).trans ((norm_a m c t (x 0) (x 1)).trans (Eq.trans ?_ (e _).symm))
      have q0 : (y 0).val = (x 0).val := h0
      have q1 : (y 1).val = 512 + (x 1).val := h1
      blk_ext [tile_of t, row, bottom] <;> omega
    · have hx : x = ix2 (x 0) (x 1) := by
        funext a; revert a; exact Fin.forall_fin_two.mpr ⟨rfl, rfl⟩
      refine (congrArg _ hx).trans ((norm_r m c t (x 0) (x 1)).trans (Eq.trans ?_ (e _).symm))
      have q0 : (y 0).val = (x 0).val := h0
      have q1 : (y 1).val = (x 1).val := h1
      blk_ext [tile_of t, row, top] <;> omega

theorem first_r (c : Dev nD) (t : Fin cfg0.N) (h0 : t.val % 8 = 0) (q : Fin 512) :
    (outsAt0 m c t.val t.isLt).2.2.2.2.1 (ix2 0 q) = 0 + part_r m c t q := by
  rw [outsAt0_A m c t h0]
  frame_out
  try simp only [read_unread_whole]
  try simp (disch := decide) only [View.readCov_fill]
  exact (scale_r m c t _ q).trans (congrArg (· + part_r m c t q) (zero_r q))

theorem later_r (c : Dev nD) (t : Fin cfg0.N) (h0 : ¬t.val % 8 = 0) (q : Fin 512) :
    (outsAt0 m c t.val t.isLt).2.2.2.2.1 (ix2 0 q)
      = (outsAt0 m c (t.val - 1) (Nat.lt_of_le_of_lt (Nat.sub_le _ _) t.isLt)).2.2.2.2.1 (ix2 0 q) + part_r m c t q := by
  rw [outsAt0_B m c t h0]
  frame_out
  try simp only [read_unread_whole]
  try simp (disch := decide) only [View.readCov_fill]
  exact scale_r m c t _ q

/-- After the last point: the sum over all rows. -/
theorem total_r (c : Dev nD) (t : Fin cfg0.N) (ht : t.val % 8 = 7) (q : Fin 512) :
    (outsAt0 m c t.val t.isLt).2.2.2.2.1 (ix2 0 q) = val_main_v57 (F := Ideal) (ax m c) (ar m c) (aw m c) (ix2 0 q) := by
  have hN : t.val < 8 := lt_of_lt_of_eq t.isLt N_0
  have sum := Pipeline.eq_sum_fin_of_reset_step_apply_last (fun n h (q : Fin 512) => (outsAt0 m c n h).2.2.2.2.1 (ix2 0 q)) 8 (fun _ => 0) (part_r m c)
    (fun t h q => first_r m c t h q) (fun t h q => later_r m c t h q) (le_of_eq N_0) t (by show t.val + 1 = grid0.N; rw [N_0]; omega) q
  refine sum.trans ((zero_add _).trans ?_)
  rw [ref_scale_r, Fin.sum_univ_tiles 8 512 rfl]
  rfl

/-- The gradient of the scale. -/
theorem final_nr (c : Dev nD) : (dats m 0 c).arrAt 10 cfg0.N
    = val_main_v57 (F := Ideal) (ax m c) (ar m c) (aw m c) := by
  refine (dats m 0 c).arrAt_eq_of_covers 10 _ (by decide +kernel) fun t hf y => ?_
  have hy : y = ix2 0 (y 1) := by
    funext a; revert a; exact Fin.forall_fin_two.mpr ⟨Fin.ext (by have h : (y 0).val < 1 := (y 0).isLt; show (y 0).val = 0; omega), rfl⟩
  rw [after0_10]
  refine (congrArg _ hy).trans ((total_r m c t ((flush0_10 t).mp hf) (y 1)).trans ?_)
  blk_ext [tile_of t]

theorem first_a (c : Dev nD) (t : Fin cfg0.N) (h0 : t.val % 8 = 0) (q : Fin 512) :
    (outsAt0 m c t.val t.isLt).2.2.2.2.2 (ix2 0 q) = 0 + part_a m c t q := by
  rw [outsAt0_A m c t h0]
  frame_out
  try simp only [read_unread_whole]
  try simp (disch := decide) only [View.readCov_fill]
  exact (scale_a m c t _ q).trans (congrArg (· + part_a m c t q) (zero_a q))

theorem later_a (c : Dev nD) (t : Fin cfg0.N) (h0 : ¬t.val % 8 = 0) (q : Fin 512) :
    (outsAt0 m c t.val t.isLt).2.2.2.2.2 (ix2 0 q)
      = (outsAt0 m c (t.val - 1) (Nat.lt_of_le_of_lt (Nat.sub_le _ _) t.isLt)).2.2.2.2.2 (ix2 0 q) + part_a m c t q := by
  rw [outsAt0_B m c t h0]
  frame_out
  try simp only [read_unread_whole]
  try simp (disch := decide) only [View.readCov_fill]
  exact scale_a m c t _ q

/-- After the last point: the sum over all rows. -/
theorem total_a (c : Dev nD) (t : Fin cfg0.N) (ht : t.val % 8 = 7) (q : Fin 512) :
    (outsAt0 m c t.val t.isLt).2.2.2.2.2 (ix2 0 q) = val_main_v38 (F := Ideal) (ax m c) (aa m c) (aw m c) (ix2 0 q) := by
  have hN : t.val < 8 := lt_of_lt_of_eq t.isLt N_0
  have sum := Pipeline.eq_sum_fin_of_reset_step_apply_last (fun n h (q : Fin 512) => (outsAt0 m c n h).2.2.2.2.2 (ix2 0 q)) 8 (fun _ => 0) (part_a m c)
    (fun t h q => first_a m c t h q) (fun t h q => later_a m c t h q) (le_of_eq N_0) t (by show t.val + 1 = grid0.N; rw [N_0]; omega) q
  refine sum.trans ((zero_add _).trans ?_)
  rw [ref_scale_a, Fin.sum_univ_tiles 8 512 rfl]
  rfl

/-- The gradient of the scale. -/
theorem final_na (c : Dev nD) : (dats m 0 c).arrAt 11 cfg0.N
    = val_main_v38 (F := Ideal) (ax m c) (aa m c) (aw m c) := by
  refine (dats m 0 c).arrAt_eq_of_covers 11 _ (by decide +kernel) fun t hf y => ?_
  have hy : y = ix2 0 (y 1) := by
    funext a; revert a; exact Fin.forall_fin_two.mpr ⟨Fin.ext (by have h : (y 0).val < 1 := (y 0).isLt; show (y 0).val = 0; omega), rfl⟩
  rw [after0_11]
  refine (congrArg _ hy).trans ((total_a m c t ((flush0_11 t).mp hf) (y 1)).trans ?_)
  blk_ext [tile_of t]

end Cert.OutIdeal.Sum

end
-- ==== Proof.MixValue.lean ====
/-
  What the weight gradient kernel of the mixer's output projection leaves in its result: for every input channel and
  model channel the sum over all 4096 rows of input times gradient, which is what the reference's product computes.
-/
module

public import proofs.«01_k».proof.Proof.Gen.MixIdeal.Value
public import proofs.«01_k».proof.Proof.Gen.MixRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixIdeal.Sum

open Cert.MixIdeal Cert.MixIdeal.Gen

variable (m : (ℓ : Loc nD τ sig) → Buf (Elt Ideal) ℓ)

/-- The tile of each operand a point reads, and the tile of the result it writes. -/
theorem tile_of : ∀ t : Fin cfg0.N, win0_0.index t = ![t.val, 0] ∧ win0_1.index t = ![t.val, 0]
    ∧ win0_2.index t = ![0, 0, 0] ∧ t.val < 4 :=
  (by decide +kernel : ∀ t : Fin grid0.N, _)

/-- One point adds the product of its two row tiles to the running sum. -/
theorem add_tile (acc : FVec Ideal S1024x1024 .f32) (a b : FVec Ideal S1024x1024 .bf16) (p q : Fin 1024) :
    k0_pay2 (F := Ideal) acc a b (ix2 p q) = acc (ix2 p q) + ∑ k : Fin 1024, a (ix2 k p) * b (ix2 k q) := by
  pointwise [k0_pay2]

/-- The running sum starts at zero. -/
theorem start (p q : Fin 1024) : k0_pay1 (F := Ideal) (ix2 p q) = 0 := by
  pointwise [k0_pay1]

/-- The reference's result at an index: the sum over all rows. -/
theorem ref_at (X Y : FVec Ideal S4096x1024 .bf16) (j : S4x256x1024.Idx) :
    Cert.MixRefIdeal.Read.val_main_v7 (F := Ideal) X Y j
      = ∑ k : Fin 4096, X (ix2 k ⟨(j 0).val * 256 + (j 1).val, by
          have h0 : (j 0).val < 4 := (j 0).isLt; have h1 : (j 1).val < 256 := (j 1).isLt; omega⟩) * Y (ix2 k (j 2)) := by
  pointwise [Cert.MixRefIdeal.Read.val_main_v7, Cert.MixRefIdeal.Read.val_main_v6, Cert.MixRefIdeal.Read.val_main_v5, Cert.MixRefIdeal.Read.val_main_v4, Cert.MixRefIdeal.Read.val_main_v3, Cert.MixRefIdeal.Read.val_main_v1]
  refine Finset.sum_congr rfl fun k _ => ?_
  exact mul_comm _ _

/-- A point's own term of the sum. -/
def part (a b : FVec Ideal S1024x1024 .bf16) (p q : Fin 1024) : EReal :=
  ∑ k : Fin 1024, a (ix2 k p) * b (ix2 k q)

/-- The first point leaves its own term. -/
theorem first (c : Dev nD) (p q : Fin 1024) (t : Fin cfg0.N) (h : t.val % 4 = 0) :
    (outsAt0 m c t.val t.isLt).2 (ix2 p q) = part (iblk m c 0 t) (iblk m c 1 t) p q := by
  rw [outsAt0_A m c t h (by omega)]
  have e : ∀ w, (w : FVec Ideal S1024x1024 .f32) = k0_pay2 (F := Ideal) (k0_pay1 (F := Ideal)) (iblk m c 0 t) (iblk m c 1 t) → w (ix2 p q) = _ := fun w hw => by
    rw [hw, add_tile, start, zero_add]
  refine e _ ?_
  frame_out

theorem later (c : Dev nD) (p q : Fin 1024) (t : Fin cfg0.N) (h : ¬t.val % 4 = 0) :
    (outsAt0 m c t.val t.isLt).2 (ix2 p q) = (outsAt0 m c (t.val - 1) (lt_of_le_of_lt (Nat.sub_le _ _) t.isLt)).2 (ix2 p q)
      + part (iblk m c 0 t) (iblk m c 1 t) p q := by
  have e : ∀ w, (w : FVec Ideal S1024x1024 .f32) = k0_pay2 (F := Ideal) (outsAt0 m c (t.val - 1) (lt_of_le_of_lt (Nat.sub_le _ _) t.isLt)).2 (iblk m c 0 t) (iblk m c 1 t) → w (ix2 p q) = _ := fun w hw => by
    rw [hw, add_tile]
  by_cases h1 : t.val % 4 = 3
  · rw [outsAt0_C m c t h h1]
    refine e _ ?_
    frame_out
    simp only [read_unread_whole]
  · rw [outsAt0_B m c t h h1]
    refine e _ ?_
    frame_out
    simp only [read_unread_whole]

/-- What the last point sums is the reference's product. -/
theorem all (c : Dev nD) (t : Fin cfg0.N) (ht : t.val % 4 = 3) (p q : Fin 1024) (j : S4x256x1024.Idx)
    (h0 : (j 0).val * 256 + (j 1).val = p.val) (h2 : (j 2).val = q.val) :
    k0_pay2 (F := Ideal) (outsAt0 m c (t.val - 1) (lt_of_le_of_lt (Nat.sub_le _ _) t.isLt)).2 (iblk m c 0 t) (iblk m c 1 t) (ix2 p q)
      = Cert.MixRefIdeal.Read.val_main_v7 (F := Ideal) (m ((c : Thread nD τ).loc main_arg0)) (m ((c : Thread nD τ).loc main_arg1)) j := by
  have hN : t.val < 4 := (tile_of t).2.2.2
  have hn : ¬ t.val % 4 = 0 := by omega
  refine (add_tile _ _ _ _ _).trans ((later m c p q t hn).symm.trans ?_)
  have sum := Pipeline.eq_sum_fin_of_reset_step_apply_last (fun n h (i : Fin 1024 × Fin 1024) => (outsAt0 m c n h).2 (ix2 i.1 i.2)) 4 (fun _ => 0)
    (fun t i => part (iblk m c 0 t) (iblk m c 1 t) i.1 i.2)
    (fun t h i => (first m c i.1 i.2 t h).trans (zero_add _).symm) (fun t h i => later m c i.1 i.2 t h) (le_of_eq N_0) t (by show t.val + 1 = grid0.N; rw [N_0]; omega) (p, q)
  refine sum.trans ((zero_add _).trans ?_)
  rw [ref_at, Fin.sum_univ_tiles 4 1024 rfl]
  refine Finset.sum_congr rfl fun s _ => Finset.sum_congr rfl fun k _ => ?_
  refine Ideal.mul_congr ?_ ?_ <;> blk_ext [iblk, V, tile_of s]

/-- The result array is the reference's. -/
theorem final (c : Dev nD) : (dats m 0 c).arrAt 2 cfg0.N
    = Cert.MixRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have ht : t.val % 4 = 3 := (flush0_2 t).mp hf
  have hN : t.val < 4 := (tile_of t).2.2.2
  rw [after0_2, outsAt0_C m c t (by omega) ht]
  frame_out
  simp only [read_unread_whole]
  simp (disch := decide) only [View.readCov_fill]
  canon_tiles x h
  all_goals
    open_payloads
    pointwise
    refine (add_tile _ _ _ _ _).symm.trans (all m c t ht _ _ _ ?_ ?_)
  all_goals (blk_simp [tile_of t] <;> try (dsimp only; omega))

end Cert.MixIdeal.Sum

end
-- ==== Proof.LossBlocks.lean ====
/-
  What one grid point of the last feed-forward block with the loss computes, row by row, in the reference's words: the
  normalised input, the two hidden products, the activations, the loss gradient and the point's part of the loss.
-/
module

public import proofs.«01_k».proof.Proof.Ext
public import proofs.«01_k».proof.Proof.Gen.LossIdeal.Value
public import proofs.«01_k».proof.Proof.Gen.LossRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Sum

open Cert.LossIdeal Cert.LossIdeal.Gen Cert.LossRefIdeal.Read Cert.Ext

/-- The word for one over 1024. -/
theorem w_inv : Ideal.ofBits .f32 0x3A800000#32 = (((1 : ℝ) / 1024 : ℝ) : EReal) := by
  simp [Ideal.ofBits, Ideal.ieee]
  rw [← EReal.coe_mul]
  congr 1
  norm_num

/-- The word for one over 2048. -/
theorem w_half_inv : Ideal.ofBits .f32 0x3A000000#32 = (((1 : ℝ) / 2048 : ℝ) : EReal) := by
  simp [Ideal.ofBits, Ideal.ieee]
  rw [← EReal.coe_mul]
  congr 1
  norm_num

theorem w_two : Ideal.ofBits .f32 0x40000000#32 = ((2 : ℝ) : EReal) := by
  simp [Ideal.ofBits, Ideal.ieee]
  rw [← EReal.coe_mul]
  congr 1
  norm_num

theorem w_1024 : Ideal.ofBits .f32 0x44800000#32 = ((1024 : ℝ) : EReal) := by
  simp [Ideal.ofBits, Ideal.ieee]
  rw [← EReal.coe_mul]
  congr 1
  norm_num

/-! ## The reference at an index -/

section Reference

variable (x y : FVec Ideal S4096x1024 .f32) (n : FVec Ideal S1x1024 .f32) (g u w : FVec Ideal S2816x1024 .bf16)

/-- The logistic function. -/
abbrev sg (z : EReal) : EReal := Ideal.div 1 (1 + Ideal.exp (-z))

theorem ref_h (s : Fin 4096) (d : Fin 1024) : val_main_v11 (F := Ideal) x n (ix2 s d)
    = x (ix2 s d) * Ideal.rsqrt (Ideal.div (∑ k : Fin 1024, x (ix2 s k) * x (ix2 s k)) (Ideal.ofBits .f32 1149239296#32) + Ideal.ofBits .f32 897988541#32) * n (ix2 0 d) := by
  pointwise [val_main_v11, val_main_v10, val_main_v9, val_main_v8, val_main_v7, val_main_v6, val_main_v5, val_main_v4, val_main_v3, val_main_v2, val_main_v1, val_main_v0, val_main_cst, val_main_cst_0, val_main_cst_1]

theorem ref_g (s : Fin 4096) (f : Fin 2816) : val_main_v14 (F := Ideal) x n g (ix2 s f)
    = ∑ k : Fin 1024, val_main_v11 (F := Ideal) x n (ix2 s k) * g (ix2 f k) := by
  pointwise [val_main_v14, val_main_v13, val_main_v12]

theorem ref_u (s : Fin 4096) (f : Fin 2816) : val_main_v17 (F := Ideal) x n u (ix2 s f)
    = ∑ k : Fin 1024, val_main_v11 (F := Ideal) x n (ix2 s k) * u (ix2 f k) := by
  pointwise [val_main_v17, val_main_v16, val_main_v15]

theorem ref_a (s : Fin 4096) (f : Fin 2816) : val_main_v19 (F := Ideal) x n g u (ix2 s f)
    = val_main_v14 (F := Ideal) x n g (ix2 s f) * sg (val_main_v14 (F := Ideal) x n g (ix2 s f)) * val_main_v17 (F := Ideal) x n u (ix2 s f) := by
  pointwise [val_main_v19, val_main_v18, val_main_call0_v5, val_main_call0_v4, val_main_call0_v3, val_main_call0_v2, val_main_call0_v1, val_main_call0_v0, val_main_call0_cst, val_main_call0_cst_0]

theorem ref_y (s : Fin 4096) (d : Fin 1024) : val_main_v24 (F := Ideal) x n g u w (ix2 s d)
    = x (ix2 s d) + Ideal.ofBits .f32 0x3F000000#32 * ∑ f : Fin 2816, val_main_v19 (F := Ideal) x n g u (ix2 s f) * w (ix2 f d) := by
  pointwise [val_main_v24, val_main_v23, val_main_v22, val_main_cst_2, val_main_v21, val_main_v20]

/-- The loss gradient: the difference over the number of channels. -/
theorem ref_dx (s : Fin 4096) (d : Fin 1024) : val_main_v39 (F := Ideal) x n g u w y (ix2 s d)
    = (val_main_v24 (F := Ideal) x n g u w (ix2 s d) - y (ix2 s d)) * Ideal.ofBits .f32 0x3A800000#32 := by
  have e : val_main_v39 (F := Ideal) x n g u w y (ix2 s d)
      = Ideal.div (Ideal.ofBits .f32 0x3F000000#32 * 1) (Ideal.ofBits .f32 0x44800000#32) * (Ideal.ofBits .f32 0x40000000#32 * (val_main_v24 (F := Ideal) x n g u w (ix2 s d) - y (ix2 s d))) := by
    pointwise [val_main_v39, val_main_v38, val_main_v37, val_main_v36, val_main_v35, val_main_v34, val_main_v28, val_main_v27, val_main_v25, val_main_cst_3, val_main_cst_8, val_main_cst_9, val_main_cst_10]
  rw [e, half, w_1024, w_two, w_inv, mul_one, Ideal.div_coe (by norm_num), ← EReal.coe_mul, ← mul_assoc, ← EReal.coe_mul, mul_comm]
  congr 2
  norm_num

/-- The loss: half the sum of the squares over the number of channels. -/
theorem ref_loss (q : Fin 128) : val_main_v44 (F := Ideal) x n g u w y (ix2 0 q)
    = ∑ s : Fin 4096, (∑ d : Fin 1024, (val_main_v24 (F := Ideal) x n g u w (ix2 s d) - y (ix2 s d)) * (val_main_v24 (F := Ideal) x n g u w (ix2 s d) - y (ix2 s d)))
        * Ideal.ofBits .f32 0x3A000000#32 := by
  have e : val_main_v44 (F := Ideal) x n g u w y (ix2 0 q)
      = Ideal.ofBits .f32 0x3F000000#32 * ∑ s : Fin 4096, Ideal.div (∑ d : Fin 1024, (val_main_v24 (F := Ideal) x n g u w (ix2 s d) - y (ix2 s d)) * (val_main_v24 (F := Ideal) x n g u w (ix2 s d) - y (ix2 s d))) (Ideal.ofBits .f32 0x44800000#32) := by
    pointwise [val_main_v44, val_main_v33, val_main_v32, val_main_v31, val_main_v30, val_main_v29, val_main_v26, val_main_v25, val_main_cst_4, val_main_cst_5, val_main_cst_6, val_main_cst_7]
  rw [e, mul_comm, half, w_1024, w_half_inv, sum_mul_real _ _ (by norm_num)]
  refine Finset.sum_congr rfl fun s _ => ?_
  rw [Ideal.div_coe (by norm_num), mul_assoc, ← EReal.coe_mul]
  congr 2
  norm_num

end Reference

/-! ## The kernel's terms at an index -/

theorem h_at (X : FVec Ideal S256x1024 .f32) (N : FVec Ideal S1x1024 .f32) (p : Fin 256) (d : Fin 1024) :
    k0_pay5 (F := Ideal) X N (ix2 p d)
      = X (ix2 p d) * Ideal.rsqrt (Ideal.div (∑ k : Fin 1024, X (ix2 p k) * X (ix2 p k)) (Ideal.ofBits .f32 1149239296#32) + Ideal.ofBits .f32 897988541#32) * N (ix2 0 d) := by
  pointwise [k0_pay5]

theorem lo_g (X : FVec Ideal S256x1024 .f32) (N : FVec Ideal S1x1024 .f32) (W : FVec Ideal S1280x1024 .bf16) (p : Fin 256) (f : Fin 1280) :
    k0_pay7 (F := Ideal) X N W (ix2 p f) = ∑ k : Fin 1024, k0_pay5 (F := Ideal) X N (ix2 p k) * W (ix2 f k) := by
  pointwise [k0_pay7]

theorem lo_u (X : FVec Ideal S256x1024 .f32) (N : FVec Ideal S1x1024 .f32) (W : FVec Ideal S1280x1024 .bf16) (p : Fin 256) (f : Fin 1280) :
    k0_pay8 (F := Ideal) X N W (ix2 p f) = ∑ k : Fin 1024, k0_pay5 (F := Ideal) X N (ix2 p k) * W (ix2 f k) := by
  pointwise [k0_pay8]

theorem lo_a (X : FVec Ideal S256x1024 .f32) (N : FVec Ideal S1x1024 .f32) (W V : FVec Ideal S1280x1024 .bf16) (p : Fin 256) (f : Fin 1280) :
    k0_pay12 (F := Ideal) (k0_pay8 X N V) (k0_pay11 X N W) (ix2 p f)
      = k0_pay7 (F := Ideal) X N W (ix2 p f) * sg (k0_pay7 (F := Ideal) X N W (ix2 p f)) * k0_pay8 (F := Ideal) X N V (ix2 p f) := by
  pointwise [k0_pay12, k0_pay11]
  simp only [zero_sub]

theorem hi_g (H : FVec Ideal S256x1024 .bf16) (W : FVec Ideal S1536x1024 .bf16) (p : Fin 256) (f : Fin 1536) :
    k0_pay13 (F := Ideal) H W (ix2 p f) = ∑ k : Fin 1024, H (ix2 p k) * W (ix2 f k) := by
  pointwise [k0_pay13]

theorem hi_u (H : FVec Ideal S256x1024 .bf16) (W : FVec Ideal S1536x1024 .bf16) (p : Fin 256) (f : Fin 1536) :
    k0_pay14 (F := Ideal) H W (ix2 p f) = ∑ k : Fin 1024, H (ix2 p k) * W (ix2 f k) := by
  pointwise [k0_pay14]

theorem hi_a (H : FVec Ideal S256x1024 .bf16) (W V : FVec Ideal S1536x1024 .bf16) (p : Fin 256) (f : Fin 1536) :
    k0_pay17 (F := Ideal) H W V (ix2 p f)
      = k0_pay13 (F := Ideal) H W (ix2 p f) * sg (k0_pay13 (F := Ideal) H W (ix2 p f)) * k0_pay14 (F := Ideal) H V (ix2 p f) := by
  pointwise [k0_pay17]
  simp only [zero_sub]

theorem out_y (X : FVec Ideal S256x1024 .f32) (H : FVec Ideal S256x1024 .bf16) (U G : FVec Ideal S256x1280 .f32) (W : FVec Ideal S1280x1024 .bf16)
    (A B C : FVec Ideal S1536x1024 .bf16) (p : Fin 256) (d : Fin 1024) :
    k0_pay18 (F := Ideal) X H k0_pay6 U G W A B C (ix2 p d)
      = X (ix2 p d) + Ideal.ofBits .f32 0x3F000000#32 * ((∑ f : Fin 1280, k0_pay12 (F := Ideal) U G (ix2 p f) * W (ix2 f d))
        + ∑ f : Fin 1536, k0_pay17 (F := Ideal) H A B (ix2 p f) * C (ix2 f d)) := by
  pointwise [k0_pay18, k0_pay6]

theorem out_dx (Y T : FVec Ideal S256x1024 .f32) (p : Fin 256) (d : Fin 1024) :
    k0_pay2 (F := Ideal) Y T (ix2 p d) = (Y (ix2 p d) - T (ix2 p d)) * Ideal.ofBits .f32 0x3A800000#32 := by
  pointwise [k0_pay2, k0_pay1]

theorem out_loss (Y T : FVec Ideal S256x1024 .f32) (L : FVec Ideal S1x128 .f32) (q : Fin 128) :
    k0_pay4 (F := Ideal) Y T L (ix2 0 q) = L (ix2 0 q)
      + (∑ p : Fin 256, ∑ d : Fin 1024, (Y (ix2 p d) - T (ix2 p d)) * (Y (ix2 p d) - T (ix2 p d))) * Ideal.ofBits .f32 0x3A000000#32 := by
  pointwise [k0_pay4, k0_pay1]

/-! ## A point's blocks in the reference's words -/

section Blocks

variable (m : (ℓ : Loc nD τ sig) → Buf (Elt Ideal) ℓ)

/-- The tile of each operand a point reads, and the tile of each result it writes. -/
theorem tile_of : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

/-- The argument arrays, as a device finds them. -/
abbrev ax (c : Dev nD) : FVec Ideal S4096x1024 .f32 := m ((c : Thread nD τ).loc main_arg0)
abbrev an (c : Dev nD) : FVec Ideal S1x1024 .f32 := m ((c : Thread nD τ).loc main_arg1)
abbrev ag (c : Dev nD) : FVec Ideal S2816x1024 .bf16 := m ((c : Thread nD τ).loc main_arg2)
abbrev au (c : Dev nD) : FVec Ideal S2816x1024 .bf16 := m ((c : Thread nD τ).loc main_arg3)
abbrev aw (c : Dev nD) : FVec Ideal S2816x1024 .bf16 := m ((c : Thread nD τ).loc main_arg4)
abbrev ay (c : Dev nD) : FVec Ideal S4096x1024 .f32 := m ((c : Thread nD τ).loc main_arg5)

/-- The row of the whole arrays that row `p` of point `t`'s blocks is. -/
def row (t : Fin cfg0.N) (p : Fin 256) : Fin 4096 :=
  ⟨t.val * 256 + p.val, by have := lt_of_lt_of_eq t.isLt N_0; have := p.isLt; omega⟩

theorem read_x (c : Dev nD) (t : Fin cfg0.N) (p : Fin 256) (d : Fin 1024) :
    iblk m c 0 t (ix2 p d) = ax m c (ix2 (row t p) d) := by
  blk_ext [iblk, V, tile_of t, row]

theorem read_n (c : Dev nD) (t : Fin cfg0.N) (d : Fin 1024) : iblk m c 1 t (ix2 0 d) = an m c (ix2 0 d) := by
  blk_ext [iblk, V, tile_of t]

theorem read_g (c : Dev nD) (t : Fin cfg0.N) (f : Fin 2816) (d : Fin 1024) : iblk m c 2 t (ix2 f d) = ag m c (ix2 f d) := by
  blk_ext [iblk, V, tile_of t]

theorem read_u (c : Dev nD) (t : Fin cfg0.N) (f : Fin 2816) (d : Fin 1024) : iblk m c 3 t (ix2 f d) = au m c (ix2 f d) := by
  blk_ext [iblk, V, tile_of t]

theorem read_w (c : Dev nD) (t : Fin cfg0.N) (f : Fin 2816) (d : Fin 1024) : iblk m c 4 t (ix2 f d) = aw m c (ix2 f d) := by
  blk_ext [iblk, V, tile_of t]

theorem read_y (c : Dev nD) (t : Fin cfg0.N) (p : Fin 256) (d : Fin 1024) :
    iblk m c 5 t (ix2 p d) = ay m c (ix2 (row t p) d) := by
  blk_ext [iblk, V, tile_of t, row]

/-- The first 1280 and the last 1536 of the 2816 hidden units. -/
def lo (f : Fin 1280) : Fin 2816 := ⟨f.val, by have := f.isLt; omega⟩
def hi (f : Fin 1536) : Fin 2816 := ⟨1280 + f.val, by have := f.isLt; omega⟩

/-- What a point reads of a weight: the two ranges of hidden units. -/
def loWeight (b : FVec Ideal S2816x1024 .bf16) : FVec Ideal S1280x1024 .bf16 := View.ld (Val := Elt Ideal) (e' := .bf16) b (Rect.unit (s := S2816x1024) ![0, 0] ![1280, 1024] inb_S2816x1024_S1280x1024_0_0)
def hiWeight (b : FVec Ideal S2816x1024 .bf16) : FVec Ideal S1536x1024 .bf16 := View.ld (Val := Elt Ideal) (e' := .bf16) b (Rect.unit (s := S2816x1024) ![1280, 0] ![1536, 1024] inb_S2816x1024_S1536x1024_1280_0)

theorem loWeight_at (b : FVec Ideal S2816x1024 .bf16) (f : Fin 1280) (d : Fin 1024) : loWeight b (ix2 f d) = b (ix2 (lo f) d) := by
  have e : (View.ld (Val := Elt Ideal) (e' := .bf16) b (Rect.unit (s := S2816x1024) ![0, 0] ![1280, 1024] inb_S2816x1024_S1280x1024_0_0)) (ix2 f d) = b (ix2 (lo f) d) := by
    pointwise [View.ld, lo]
  exact e
theorem hiWeight_at (b : FVec Ideal S2816x1024 .bf16) (f : Fin 1536) (d : Fin 1024) : hiWeight b (ix2 f d) = b (ix2 (hi f) d) := by
  have e : (View.ld (Val := Elt Ideal) (e' := .bf16) b (Rect.unit (s := S2816x1024) ![1280, 0] ![1536, 1024] inb_S2816x1024_S1536x1024_1280_0)) (ix2 f d) = b (ix2 (hi f) d) := by
    pointwise [View.ld, hi]
  exact e

/-- The normalised input. -/
theorem h_row (c : Dev nD) (t : Fin cfg0.N) (p : Fin 256) (d : Fin 1024) :
    k0_pay5 (F := Ideal) (iblk m c 0 t) (iblk m c 1 t) (ix2 p d) = val_main_v11 (F := Ideal) (ax m c) (an m c) (ix2 (row t p) d) := by
  rw [h_at, ref_h]
  simp only [read_x, read_n]

/-- The gate's product in the two ranges of hidden units. -/
theorem g_lo (c : Dev nD) (t : Fin cfg0.N) (p : Fin 256) (f : Fin 1280) :
    k0_pay7 (F := Ideal) (iblk m c 0 t) (iblk m c 1 t) (loWeight (iblk m c 2 t)) (ix2 p f)
      = val_main_v14 (F := Ideal) (ax m c) (an m c) (ag m c) (ix2 (row t p) (lo f)) := by
  rw [lo_g, ref_g]
  simp only [h_row, loWeight_at, read_g]

theorem g_hi (c : Dev nD) (t : Fin cfg0.N) (p : Fin 256) (f : Fin 1536) :
    k0_pay13 (F := Ideal) (k0_pay5 (iblk m c 0 t) (iblk m c 1 t)) (hiWeight (iblk m c 2 t)) (ix2 p f)
      = val_main_v14 (F := Ideal) (ax m c) (an m c) (ag m c) (ix2 (row t p) (hi f)) := by
  rw [hi_g, ref_g]
  simp only [h_row, hiWeight_at, read_g]

/-- The up projection's product in the two ranges of hidden units. -/
theorem u_lo (c : Dev nD) (t : Fin cfg0.N) (p : Fin 256) (f : Fin 1280) :
    k0_pay8 (F := Ideal) (iblk m c 0 t) (iblk m c 1 t) (loWeight (iblk m c 3 t)) (ix2 p f)
      = val_main_v17 (F := Ideal) (ax m c) (an m c) (au m c) (ix2 (row t p) (lo f)) := by
  rw [lo_u, ref_u]
  simp only [h_row, loWeight_at, read_u]

theorem u_hi (c : Dev nD) (t : Fin cfg0.N) (p : Fin 256) (f : Fin 1536) :
    k0_pay14 (F := Ideal) (k0_pay5 (iblk m c 0 t) (iblk m c 1 t)) (hiWeight (iblk m c 3 t)) (ix2 p f)
      = val_main_v17 (F := Ideal) (ax m c) (an m c) (au m c) (ix2 (row t p) (hi f)) := by
  rw [hi_u, ref_u]
  simp only [h_row, hiWeight_at, read_u]

/-- The activations in the two ranges of hidden units. -/
theorem a_lo (c : Dev nD) (t : Fin cfg0.N) (p : Fin 256) (f : Fin 1280) :
    k0_pay12 (F := Ideal) (k0_pay8 (iblk m c 0 t) (iblk m c 1 t) (loWeight (iblk m c 3 t))) (k0_pay11 (iblk m c 0 t) (iblk m c 1 t) (loWeight (iblk m c 2 t))) (ix2 p f)
      = val_main_v19 (F := Ideal) (ax m c) (an m c) (ag m c) (au m c) (ix2 (row t p) (lo f)) := by
  rw [lo_a, ref_a, g_lo, u_lo]

theorem a_hi (c : Dev nD) (t : Fin cfg0.N) (p : Fin 256) (f : Fin 1536) :
    k0_pay17 (F := Ideal) (k0_pay5 (iblk m c 0 t) (iblk m c 1 t)) (hiWeight (iblk m c 2 t)) (hiWeight (iblk m c 3 t)) (ix2 p f)
      = val_main_v19 (F := Ideal) (ax m c) (an m c) (ag m c) (au m c) (ix2 (row t p) (hi f)) := by
  rw [hi_a, ref_a, g_hi, u_hi]

/-- The block's output, as a point computes it. -/
abbrev out (c : Dev nD) (t : Fin cfg0.N) : FVec Ideal S256x1024 .f32 :=
  k0_pay18 (F := Ideal) (iblk m c 0 t) (k0_pay5 (iblk m c 0 t) (iblk m c 1 t)) k0_pay6 (k0_pay8 (iblk m c 0 t) (iblk m c 1 t) (loWeight (iblk m c 3 t)))
    (k0_pay11 (iblk m c 0 t) (iblk m c 1 t) (loWeight (iblk m c 2 t))) (loWeight (iblk m c 4 t)) (hiWeight (iblk m c 2 t)) (hiWeight (iblk m c 3 t)) (hiWeight (iblk m c 4 t))

theorem y_at (c : Dev nD) (t : Fin cfg0.N) (p : Fin 256) (d : Fin 1024) :
    out m c t (ix2 p d) = val_main_v24 (F := Ideal) (ax m c) (an m c) (ag m c) (au m c) (aw m c) (ix2 (row t p) d) := by
  refine (out_y _ _ _ _ _ _ _ _ _ _).trans ?_
  rw [ref_y, Fin.sum_univ_two_halves 1280 1536 rfl]
  simp only [a_lo, a_hi, loWeight_at, hiWeight_at, read_w, read_x]
  rfl

/-- The loss gradient at one row and channel. -/
theorem dx_at (c : Dev nD) (t : Fin cfg0.N) (p : Fin 256) (d : Fin 1024) :
    k0_pay2 (F := Ideal) (out m c t) (iblk m c 5 t) (ix2 p d)
      = val_main_v39 (F := Ideal) (ax m c) (an m c) (ag m c) (au m c) (aw m c) (ay m c) (ix2 (row t p) d) := by
  rw [out_dx, ref_dx, y_at, read_y]

/-- The part of the loss that a point adds. -/
def part (c : Dev nD) (t : Fin cfg0.N) : EReal :=
  ∑ p : Fin 256, (∑ d : Fin 1024, (val_main_v24 (F := Ideal) (ax m c) (an m c) (ag m c) (au m c) (aw m c) (ix2 (row t p) d) - ay m c (ix2 (row t p) d))
    * (val_main_v24 (F := Ideal) (ax m c) (an m c) (ag m c) (au m c) (aw m c) (ix2 (row t p) d) - ay m c (ix2 (row t p) d))) * Ideal.ofBits .f32 0x3A000000#32

theorem loss_at (c : Dev nD) (t : Fin cfg0.N) (L : FVec Ideal S1x128 .f32) (q : Fin 128) :
    k0_pay4 (F := Ideal) (out m c t) (iblk m c 5 t) L (ix2 0 q) = L (ix2 0 q) + part m c t := by
  rw [out_loss]
  unfold part
  rw [w_half_inv, sum_mul_real _ _ (by norm_num)]
  simp only [y_at, read_y]

end Blocks

end Cert.LossIdeal.Sum

end
-- ==== Proof.LossValue.lean ====
/-
  What the last feed-forward block with the loss leaves in its results: for every row the loss gradient, the two hidden
  products, the normalised input and the activations as the reference computes them, and the loss summed over all rows.
-/
module

public import proofs.«01_k».proof.Proof.LossBlocks

@[expose] public section

set_option maxRecDepth 16384

noncomputable section

open Idealize.ShloMosaic Idealize.ShloMosaic.TcCoe Idealize.SL.Sem
open Idealize.ShloMosaic.Pipeline (Dat)

namespace Cert.LossIdeal.Sum

open Cert.LossIdeal Cert.LossIdeal.Gen Cert.LossRefIdeal.Read Cert.Ext

variable (m : (ℓ : Loc nD τ sig) → Buf (Elt Ideal) ℓ)

/-- The loss gradient. -/
theorem final_dx (c : Dev nD) : (dats m 0 c).arrAt 6 cfg0.N
    = val_main_v39 (F := Ideal) (ax m c) (an m c) (ag m c) (au m c) (aw m c) (ay m c) := by
  refine (dats m 0 c).arrAt_eq_of_covers 6 _ (by decide +kernel) fun t hf y => ?_
  have hy : y = ix2 (y 0) (y 1) := by
    funext a; revert a; exact Fin.forall_fin_two.mpr ⟨rfl, rfl⟩
  have key := (dx_at m c t (y 0) (y 1)).trans (show _ = val_main_v39 (F := Ideal) (ax m c) (an m c) (ag m c) (au m c) (aw m c) (ay m c)
    ((((cfg0.win 6).blk t).view).emb y) by blk_ext [tile_of t, row])
  by_cases h0 : t.val % 16 = 0
  · rw [after0_6, outsAt0_A m c t h0]
    frame_out
    try simp only [read_unread_whole]
    try simp (disch := decide) only [View.readCov_fill]
    exact (congrArg _ hy).trans key
  · rw [after0_6, outsAt0_B m c t h0]
    frame_out
    try simp only [read_unread_whole]
    try simp (disch := decide) only [View.readCov_fill]
    exact (congrArg _ hy).trans key

/-- The normalised input. -/
theorem final_h (c : Dev nD) : (dats m 0 c).arrAt 9 cfg0.N
    = val_main_v42 (F := Ideal) (ax m c) (an m c) := by
  refine (dats m 0 c).arrAt_eq_of_covers 9 _ (by decide +kernel) fun t hf y => ?_
  have hy : y = ix2 (y 0) (y 1) := by
    funext a; revert a; exact Fin.forall_fin_two.mpr ⟨rfl, rfl⟩
  have e : ∀ i, val_main_v42 (F := Ideal) (ax m c) (an m c) i = val_main_v11 (F := Ideal) (ax m c) (an m c) i := fun i => rfl
  have key := (h_row m c t (y 0) (y 1)).trans (show val_main_v11 (F := Ideal) (ax m c) (an m c) (ix2 (row t (y 0)) (y 1)) = val_main_v42 (F := Ideal) (ax m c) (an m c)
    ((((cfg0.win 9).blk t).view).emb y) by rw [e]; blk_ext [tile_of t, row])
  by_cases h0 : t.val % 16 = 0
  · rw [after0_9, outsAt0_A m c t h0]
    frame_out
    try simp only [read_unread_whole]
    try simp (disch := decide) only [View.readCov_fill]
    exact (congrArg _ hy).trans key
  · rw [after0_9, outsAt0_B m c t h0]
    frame_out
    try simp only [read_unread_whole]
    try simp (disch := decide) only [View.readCov_fill]
    exact (congrArg _ hy).trans key

/-- The gate's product. -/
theorem final_g (c : Dev nD) : (dats m 0 c).arrAt 7 cfg0.N
    = val_main_v40 (F := Ideal) (ax m c) (an m c) (ag m c) := by
  refine (dats m 0 c).arrAt_eq_of_covers 7 _ (by decide +kernel) fun t hf y => ?_
  have e : ∀ i, val_main_v40 (F := Ideal) (ax m c) (an m c) (ag m c) i = val_main_v14 (F := Ideal) (ax m c) (an m c) (ag m c) i := fun i => rfl
  by_cases h0 : t.val % 16 = 0
  · rw [after0_7, outsAt0_A m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((g_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((g_lo m c t (x 0) (x 1)).trans (Eq.trans ?_ (e _).symm))
      have q0 : (y 0).val = (x 0).val := h0
      have q1 : (y 1).val = (x 1).val := h1
      blk_ext [tile_of t, row, lo] <;> omega
  · rw [after0_7, outsAt0_B m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((g_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((g_lo m c t (x 0) (x 1)).trans (Eq.trans ?_ (e _).symm))
      have q0 : (y 0).val = (x 0).val := h0
      have q1 : (y 1).val = (x 1).val := h1
      blk_ext [tile_of t, row, lo] <;> omega

/-- The up projection's product. -/
theorem final_u (c : Dev nD) : (dats m 0 c).arrAt 8 cfg0.N
    = val_main_v41 (F := Ideal) (ax m c) (an m c) (au m c) := by
  refine (dats m 0 c).arrAt_eq_of_covers 8 _ (by decide +kernel) fun t hf y => ?_
  have e : ∀ i, val_main_v41 (F := Ideal) (ax m c) (an m c) (au m c) i = val_main_v17 (F := Ideal) (ax m c) (an m c) (au m c) i := fun i => rfl
  by_cases h0 : t.val % 16 = 0
  · rw [after0_8, outsAt0_A m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((u_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((u_lo m c t (x 0) (x 1)).trans (Eq.trans ?_ (e _).symm))
      have q0 : (y 0).val = (x 0).val := h0
      have q1 : (y 1).val = (x 1).val := h1
      blk_ext [tile_of t, row, lo] <;> omega
  · rw [after0_8, outsAt0_B m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((u_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((u_lo m c t (x 0) (x 1)).trans (Eq.trans ?_ (e _).symm))
      have q0 : (y 0).val = (x 0).val := h0
      have q1 : (y 1).val = (x 1).val := h1
      blk_ext [tile_of t, row, lo] <;> omega

/-- The activations. -/
theorem final_a (c : Dev nD) : (dats m 0 c).arrAt 10 cfg0.N
    = val_main_v43 (F := Ideal) (ax m c) (an m c) (ag m c) (au m c) := by
  refine (dats m 0 c).arrAt_eq_of_covers 10 _ (by decide +kernel) fun t hf y => ?_
  have e : ∀ i, val_main_v43 (F := Ideal) (ax m c) (an m c) (ag m c) (au m c) i = val_main_v19 (F := Ideal) (ax m c) (an m c) (ag m c) (au m c) i := fun i => rfl
  by_cases h0 : t.val % 16 = 0
  · rw [after0_10, outsAt0_A m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((a_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((a_lo m c t (x 0) (x 1)).trans (Eq.trans ?_ (e _).symm))
      have q0 : (y 0).val = (x 0).val := h0
      have q1 : (y 1).val = (x 1).val := h1
      blk_ext [tile_of t, row, lo] <;> omega
  · rw [after0_10, outsAt0_B m c t h0]
    frame_out
    canon_tiles x h using (View.cover_of_tiledBy _ ![256, 256] (by sl_kernel_rfl) _)
    · have hx : x = ix2 (x 0) (x 1) := by
        funext a; revert a; exact Fin.forall_fin_two.mpr ⟨rfl, rfl⟩
      refine (congrArg _ hx).trans ((a_hi m c t (x 0) (x 1)).trans (Eq.trans ?_ (e _).symm))
      have q0 : (y 0).val = (x 0).val := h0
      have q1 : (y 1).val = 1280 + (x 1).val := h1
      blk_ext [tile_of t, row, hi] <;> omega
    · have hx : x = ix2 (x 0) (x 1) := by
        funext a; revert a; exact Fin.forall_fin_two.mpr ⟨rfl, rfl⟩
      refine (congrArg _ hx).trans ((a_lo m c t (x 0) (x 1)).trans (Eq.trans ?_ (e _).symm))
      have q0 : (y 0).val = (x 0).val := h0
      have q1 : (y 1).val = (x 1).val := h1
      blk_ext [tile_of t, row, lo] <;> omega

theorem start (q : Fin 128) : k0_pay3 (F := Ideal) (ix2 0 q) = 0 := by
  pointwise [k0_pay3]

theorem first (c : Dev nD) (t : Fin cfg0.N) (h0 : t.val % 16 = 0) (q : Fin 128) :
    (outsAt0 m c t.val t.isLt).2.2.2.2.2 (ix2 0 q) = 0 + part m c t := by
  rw [outsAt0_A m c t h0]
  frame_out
  try simp only [read_unread_whole]
  try simp (disch := decide) only [View.readCov_fill]
  exact (loss_at m c t _ q).trans (congrArg (· + part m c t) (start q))

theorem later (c : Dev nD) (t : Fin cfg0.N) (h0 : ¬t.val % 16 = 0) (q : Fin 128) :
    (outsAt0 m c t.val t.isLt).2.2.2.2.2 (ix2 0 q)
      = (outsAt0 m c (t.val - 1) (Nat.lt_of_le_of_lt (Nat.sub_le _ _) t.isLt)).2.2.2.2.2 (ix2 0 q) + part m c t := by
  rw [outsAt0_B m c t h0]
  frame_out
  try simp only [read_unread_whole]
  try simp (disch := decide) only [View.readCov_fill]
  exact loss_at m c t _ q

/-- After the last point: the sum over all rows. -/
theorem total (c : Dev nD) (t : Fin cfg0.N) (ht : t.val % 16 = 15) (q : Fin 128) :
    (outsAt0 m c t.val t.isLt).2.2.2.2.2 (ix2 0 q) = val_main_v44 (F := Ideal) (ax m c) (an m c) (ag m c) (au m c) (aw m c) (ay m c) (ix2 0 q) := by
  have hN : t.val < 16 := lt_of_lt_of_eq t.isLt N_0
  have sum := Pipeline.eq_sum_fin_of_reset_step_apply_last (fun n h (q : Fin 128) => (outsAt0 m c n h).2.2.2.2.2 (ix2 0 q)) 16 (fun _ => 0) (fun t _ => part m c t)
    (fun t h q => first m c t h q) (fun t h q => later m c t h q) (le_of_eq N_0) t (by show t.val + 1 = grid0.N; rw [N_0]; omega) q
  refine sum.trans ((zero_add _).trans ?_)
  rw [ref_loss, Fin.sum_univ_tiles 16 256 rfl]
  rfl

/-- The loss. -/
theorem final_loss (c : Dev nD) : (dats m 0 c).arrAt 11 cfg0.N
    = val_main_v44 (F := Ideal) (ax m c) (an m c) (ag m c) (au m c) (aw m c) (ay m c) := by
  refine (dats m 0 c).arrAt_eq_of_covers 11 _ (by decide +kernel) fun t hf y => ?_
  have hy : y = ix2 0 (y 1) := by
    funext a; revert a; exact Fin.forall_fin_two.mpr ⟨Fin.ext (by have h : (y 0).val < 1 := (y 0).isLt; show (y 0).val = 0; omega), rfl⟩
  rw [after0_11]
  refine (congrArg _ hy).trans ((total m c t ((flush0_11 t).mp hf) (y 1)).trans ?_)
  blk_ext [tile_of t]

end Cert.LossIdeal.Sum

end
-- ==== Proof.LastValue.lean ====
/-
  What the down projection of the first feed-forward block leaves in its result: the input plus half the product of the
  hidden activations with the down weights, which is what the reference computes.
-/
module

public import proofs.«01_k».proof.Proof.Gen.LastIdeal.Value
public import proofs.«01_k».proof.Proof.Gen.LastRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.Sum

open Cert.LastIdeal Cert.LastIdeal.Gen

variable (m : (ℓ : Loc nD τ sig) → Buf (Elt Ideal) ℓ)

/-- The tile of each operand a point reads, and the tile of the result it writes. -/
theorem tile_of : ∀ t : Fin cfg0.N, win0_0.index t = ![t.val, 0] ∧ win0_1.index t = ![t.val, 0]
    ∧ win0_2.index t = ![0, 0] ∧ win0_3.index t = ![t.val, 0] ∧ t.val < 8 :=
  (by decide +kernel : ∀ t : Fin grid0.N, _)

/-- One point's tile of the result. -/
theorem tile (x : FVec Ideal S512x1024 .f32) (a : FVec Ideal S512x2816 .bf16) (b : FVec Ideal S2816x1024 .bf16)
    (p : Fin 512) (q : Fin 1024) :
    k0_pay1 (F := Ideal) x a b (ix2 p q)
      = x (ix2 p q) + Ideal.ofBits .f32 0x3F000000#32 * ∑ k : Fin 2816, a (ix2 p k) * b (ix2 k q) := by
  pointwise [k0_pay1]

/-- The reference's result at an index. -/
theorem ref_at (X : FVec Ideal S4096x1024 .f32) (A : FVec Ideal S4096x2816 .bf16) (B : FVec Ideal S2816x1024 .bf16)
    (p : Fin 4096) (q : Fin 1024) :
    Cert.LastRefIdeal.Read.val_main_v5 (F := Ideal) X A B (ix2 p q)
      = X (ix2 p q) + Ideal.ofBits .f32 0x3F000000#32 * ∑ k : Fin 2816, A (ix2 p k) * B (ix2 k q) := by
  pointwise [Cert.LastRefIdeal.Read.val_main_v5, Cert.LastRefIdeal.Read.val_main_v4, Cert.LastRefIdeal.Read.val_main_v3, Cert.LastRefIdeal.Read.val_main_cst, Cert.LastRefIdeal.Read.val_main_v2, Cert.LastRefIdeal.Read.val_main_v1, Cert.LastRefIdeal.Read.val_main_v0]

/-- A point's tile of the result is the reference's there. -/
theorem same (c : Dev nD) (t : Fin cfg0.N) (p : Fin 512) (q : Fin 1024) (h : t.val * 512 + p.val < 4096) :
    k0_pay1 (F := Ideal) (iblk m c 0 t) (iblk m c 1 t) (iblk m c 2 t) (ix2 p q)
      = Cert.LastRefIdeal.Read.val_main_v5 (F := Ideal) (m ((c : Thread nD τ).loc main_arg0)) (m ((c : Thread nD τ).loc main_arg1)) (m ((c : Thread nD τ).loc main_arg2)) (ix2 ⟨t.val * 512 + p.val, h⟩ q) := by
  rw [ref_at, tile]
  refine Ideal.add_congr ?_ (Ideal.mul_congr rfl (Finset.sum_congr rfl fun k _ => Ideal.mul_congr ?_ ?_))
  all_goals blk_ext [iblk, V, tile_of t]

/-- The result array is the reference's. -/
theorem final (c : Dev nD) : (dats m 0 c).arrAt 3 cfg0.N
    = Cert.LastRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 8 := (tile_of t).2.2.2.2
  have hy : y = ix2 (y 0) (y 1) := by funext a; revert a; exact Fin.forall_fin_two.mpr ⟨rfl, rfl⟩
  have h0 : (y 0).val < 512 := (y 0).isLt
  rw [after0_3]
  frame_out
  try simp only [read_unread_whole]
  try simp (disch := decide) only [View.readCov_fill]
  refine (congrArg _ hy).trans ((same m c t (y 0) (y 1) (by omega)).trans ?_)
  refine congrArg _ ?_
  blk_ext [tile_of t]

end Cert.LastIdeal.Sum

end
-- ==== Proof.JoinValue.lean ====
/-
  What the mixer's output projection leaves in its result: the input plus the product of the two normalised mixer
  outputs, side by side, with the output weights, which is what the reference computes.
-/
module

public import proofs.«01_k».proof.Proof.Gen.JoinIdeal.Value
public import proofs.«01_k».proof.Proof.Gen.JoinRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.JoinIdeal.Sum

open Cert.JoinIdeal Cert.JoinIdeal.Gen Cert.JoinRefIdeal.Read

variable (m : (ℓ : Loc nD τ sig) → Buf (Elt Ideal) ℓ)

/-- The tile of each operand a point reads, and the tile of the result it writes. -/
theorem tile_of : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ t.val < 8 :=
  (by decide +kernel : ∀ t : Fin grid0.N, _)

/-- The argument arrays, as a device finds them. -/
abbrev ax (c : Dev nD) : FVec Ideal S4096x1024 .f32 := m ((c : Thread nD τ).loc main_arg0)
abbrev ar (c : Dev nD) : FVec Ideal S4096x512 .f32 := m ((c : Thread nD τ).loc main_arg1)
abbrev aa (c : Dev nD) : FVec Ideal S4096x512 .f32 := m ((c : Thread nD τ).loc main_arg2)
abbrev nr (c : Dev nD) : FVec Ideal S1x512 .f32 := m ((c : Thread nD τ).loc main_arg3)
abbrev na (c : Dev nD) : FVec Ideal S1x512 .f32 := m ((c : Thread nD τ).loc main_arg4)
abbrev aw (c : Dev nD) : FVec Ideal S1024x1024 .bf16 := m ((c : Thread nD τ).loc main_arg5)

/-- The row of the whole arrays that row `p` of point `t`'s blocks is. -/
def row (t : Fin cfg0.N) (p : Fin 512) : Fin 4096 :=
  ⟨t.val * 512 + p.val, by have := lt_of_lt_of_eq t.isLt N_0; have := p.isLt; omega⟩

theorem read_x (c : Dev nD) (t : Fin cfg0.N) (p : Fin 512) (d : Fin 1024) : iblk m c 0 t (ix2 p d) = ax m c (ix2 (row t p) d) := by
  blk_ext [iblk, V, tile_of t, row]

theorem read_r (c : Dev nD) (t : Fin cfg0.N) (p : Fin 512) (d : Fin 512) : iblk m c 1 t (ix2 p d) = ar m c (ix2 (row t p) d) := by
  blk_ext [iblk, V, tile_of t, row]

theorem read_a (c : Dev nD) (t : Fin cfg0.N) (p : Fin 512) (d : Fin 512) : iblk m c 2 t (ix2 p d) = aa m c (ix2 (row t p) d) := by
  blk_ext [iblk, V, tile_of t, row]

theorem read_nr (c : Dev nD) (t : Fin cfg0.N) (d : Fin 512) : iblk m c 3 t (ix2 0 d) = nr m c (ix2 0 d) := by
  blk_ext [iblk, V, tile_of t]

theorem read_na (c : Dev nD) (t : Fin cfg0.N) (d : Fin 512) : iblk m c 4 t (ix2 0 d) = na m c (ix2 0 d) := by
  blk_ext [iblk, V, tile_of t]

theorem read_w (c : Dev nD) (t : Fin cfg0.N) (e d : Fin 1024) : iblk m c 5 t (ix2 e d) = aw m c (ix2 e d) := by
  blk_ext [iblk, V, tile_of t]

/-- A row's entry, normalised and scaled. -/
def normed {S T : Shape} (v : S.Idx → EReal) (n : T.Idx → EReal) (f : Fin 512 → S.Idx) (g : Fin 512 → T.Idx) (d : Fin 512) : EReal :=
  v (f d) * Ideal.rsqrt (Ideal.div (∑ k : Fin 512, v (f k) * v (f k)) (Ideal.ofBits .f32 0x44000000#32) + Ideal.ofBits .f32 897988541#32) * n (g d)

/-- The two halves of the output weights, as a point reads them. -/
def top (e : Fin 512) : Fin 1024 := ⟨e.val, by have := e.isLt; omega⟩
def bottom (e : Fin 512) : Fin 1024 := ⟨512 + e.val, by have := e.isLt; omega⟩
def topWeight (b : FVec Ideal S1024x1024 .bf16) : FVec Ideal S512x1024 .bf16 := View.ld (Val := Elt Ideal) (e' := .bf16) b (Rect.unit (s := S1024x1024) ![0, 0] ![512, 1024] inb_S1024x1024_S512x1024_0_0)
def bottomWeight (b : FVec Ideal S1024x1024 .bf16) : FVec Ideal S512x1024 .bf16 := View.ld (Val := Elt Ideal) (e' := .bf16) b (Rect.unit (s := S1024x1024) ![512, 0] ![512, 1024] inb_S1024x1024_S512x1024_512_0)

theorem topWeight_at (b : FVec Ideal S1024x1024 .bf16) (e : Fin 512) (d : Fin 1024) : topWeight b (ix2 e d) = b (ix2 (top e) d) := by
  have h : (View.ld (Val := Elt Ideal) (e' := .bf16) b (Rect.unit (s := S1024x1024) ![0, 0] ![512, 1024] inb_S1024x1024_S512x1024_0_0)) (ix2 e d) = b (ix2 (top e) d) := by
    pointwise [View.ld, top]
  exact h
theorem bottomWeight_at (b : FVec Ideal S1024x1024 .bf16) (e : Fin 512) (d : Fin 1024) : bottomWeight b (ix2 e d) = b (ix2 (bottom e) d) := by
  have h : (View.ld (Val := Elt Ideal) (e' := .bf16) b (Rect.unit (s := S1024x1024) ![512, 0] ![512, 1024] inb_S1024x1024_S512x1024_512_0)) (ix2 e d) = b (ix2 (bottom e) d) := by
    pointwise [View.ld, bottom]
  exact h

/-- One point's tile of the result. -/
theorem tile (R A : FVec Ideal S512x512 .f32) (N M : FVec Ideal S1x512 .f32) (X : FVec Ideal S512x1024 .f32) (W Z : FVec Ideal S512x1024 .bf16)
    (p : Fin 512) (q : Fin 1024) :
    k0_pay1 (F := Ideal) R A N M X W Z (ix2 p q)
      = X (ix2 p q) + (∑ e : Fin 512, normed R N (fun k => ix2 p k) (fun k => ix2 0 k) e * W (ix2 e q))
        + ∑ e : Fin 512, normed A M (fun k => ix2 p k) (fun k => ix2 0 k) e * Z (ix2 e q) := by
  unfold normed
  pointwise [k0_pay1]

theorem ref_top (R A : FVec Ideal S4096x512 .f32) (N M : FVec Ideal S1x512 .f32) (s : Fin 4096) (e : Fin 512) :
    val_main_v24 (F := Ideal) R A N M (ix2 s (top e)) = normed R N (fun k => ix2 s k) (fun k => ix2 0 k) e := by
  have h : val_main_v24 (F := Ideal) R A N M (ix2 s (top e)) = val_main_v11 (F := Ideal) R N (ix2 s e) := by
    have he : e.val < 512 := e.isLt
    unfold val_main_v24
    generalize val_main_v11 (F := Ideal) R N = P
    generalize val_main_v23 (F := Ideal) A M = Q
    pointwise [top, he]
  rw [h]
  unfold normed
  pointwise [val_main_v11, val_main_v10, val_main_v9, val_main_v8, val_main_v7, val_main_v6, val_main_v5, val_main_v4, val_main_v3, val_main_v2, val_main_v1, val_main_v0, val_main_cst, val_main_cst_0, val_main_cst_1]

theorem ref_bottom (R A : FVec Ideal S4096x512 .f32) (N M : FVec Ideal S1x512 .f32) (s : Fin 4096) (e : Fin 512) :
    val_main_v24 (F := Ideal) R A N M (ix2 s (bottom e)) = normed A M (fun k => ix2 s k) (fun k => ix2 0 k) e := by
  have h : val_main_v24 (F := Ideal) R A N M (ix2 s (bottom e)) = val_main_v23 (F := Ideal) A M (ix2 s e) := by
    have he : ¬ 512 + e.val < 512 := by omega
    unfold val_main_v24
    generalize val_main_v11 (F := Ideal) R N = P
    generalize val_main_v23 (F := Ideal) A M = Q
    pointwise [bottom, he]
  rw [h]
  unfold normed
  pointwise [val_main_v23, val_main_v22, val_main_v21, val_main_v20, val_main_v19, val_main_v18, val_main_v17, val_main_v16, val_main_v15, val_main_v14, val_main_v13, val_main_v12, val_main_cst_2, val_main_cst_3, val_main_cst_4]

/-- The reference's result at an index. -/
theorem ref_at (X : FVec Ideal S4096x1024 .f32) (R A : FVec Ideal S4096x512 .f32) (N M : FVec Ideal S1x512 .f32) (W : FVec Ideal S1024x1024 .bf16)
    (s : Fin 4096) (q : Fin 1024) :
    val_main_v27 (F := Ideal) X R A N M W (ix2 s q)
      = X (ix2 s q) + ∑ e : Fin 1024, val_main_v24 (F := Ideal) R A N M (ix2 s e) * W (ix2 e q) := by
  pointwise [val_main_v27, val_main_v26, val_main_v25]

/-- A point's tile of the result is the reference's there. -/
theorem same (c : Dev nD) (t : Fin cfg0.N) (p : Fin 512) (q : Fin 1024) :
    k0_pay1 (F := Ideal) (iblk m c 1 t) (iblk m c 2 t) (iblk m c 3 t) (iblk m c 4 t) (iblk m c 0 t) (topWeight (iblk m c 5 t)) (bottomWeight (iblk m c 5 t)) (ix2 p q)
      = val_main_v27 (F := Ideal) (ax m c) (ar m c) (aa m c) (nr m c) (na m c) (aw m c) (ix2 (row t p) q) := by
  rw [ref_at, tile, Fin.sum_univ_two_halves 512 512 rfl]
  have e1 : ∀ e : Fin 512, normed (iblk m c 1 t : FVec Ideal S512x512 .f32) (iblk m c 3 t : FVec Ideal S1x512 .f32) (fun k => ix2 p k) (fun k => ix2 0 k) e
      = val_main_v24 (F := Ideal) (ar m c) (aa m c) (nr m c) (na m c) (ix2 (row t p) (top e)) := fun e => by
    rw [ref_top]
    unfold normed
    simp only [read_r, read_nr]
  have e2 : ∀ e : Fin 512, normed (iblk m c 2 t : FVec Ideal S512x512 .f32) (iblk m c 4 t : FVec Ideal S1x512 .f32) (fun k => ix2 p k) (fun k => ix2 0 k) e
      = val_main_v24 (F := Ideal) (ar m c) (aa m c) (nr m c) (na m c) (ix2 (row t p) (bottom e)) := fun e => by
    rw [ref_bottom]
    unfold normed
    simp only [read_a, read_na]
  simp only [e1, e2, topWeight_at, bottomWeight_at, read_w, read_x]
  exact add_assoc _ _ _

/-- The result array is the reference's. -/
theorem final (c : Dev nD) : (dats m 0 c).arrAt 6 cfg0.N
    = val_main_v27 (F := Ideal) (ax m c) (ar m c) (aa m c) (nr m c) (na m c) (aw m c) := by
  refine (dats m 0 c).arrAt_eq_of_covers 6 _ (by decide +kernel) fun t hf y => ?_
  have hy : y = ix2 (y 0) (y 1) := by funext a; revert a; exact Fin.forall_fin_two.mpr ⟨rfl, rfl⟩
  rw [after0_6]
  frame_out
  try simp only [read_unread_whole]
  try simp (disch := decide) only [View.readCov_fill]
  refine (congrArg _ hy).trans ((same m c t (y 0) (y 1)).trans ?_)
  refine congrArg _ ?_
  blk_ext [tile_of t, row]

end Cert.JoinIdeal.Sum

end
-- ==== Proof.HeadValue.lean ====
/-
  What the mixer's first kernel leaves in its two results: the normalised input, and its product with the input weights,
  four column blocks side by side, which is what the reference computes.
-/
module

public import proofs.«01_k».proof.Proof.Gen.HeadIdeal.Value
public import proofs.«01_k».proof.Proof.Gen.HeadRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HeadIdeal.Sum

open Cert.HeadIdeal Cert.HeadIdeal.Gen Cert.HeadRefIdeal.Read

variable (m : (ℓ : Loc nD τ sig) → Buf (Elt Ideal) ℓ)

/-- The tile of each operand a point reads, and the tile of each result it writes. -/
theorem tile_of : ∀ t : Fin cfg0.N, win0_0.index t = ![t.val, 0] ∧ win0_1.index t = ![0, 0] ∧ win0_2.index t = ![0, 0, 0]
    ∧ win0_3.index t = ![t.val, 0] ∧ win0_4.index t = ![t.val, 0] ∧ t.val < 8 :=
  (by decide +kernel : ∀ t : Fin grid0.N, _)

/-- The argument arrays, as a device finds them. -/
abbrev ax (c : Dev nD) : FVec Ideal S4096x1024 .f32 := m ((c : Thread nD τ).loc main_arg0)
abbrev nw (c : Dev nD) : FVec Ideal S1x1024 .f32 := m ((c : Thread nD τ).loc main_arg1)
abbrev aw (c : Dev nD) : FVec Ideal S4x1024x640 .bf16 := m ((c : Thread nD τ).loc main_arg2)

/-- The row of the whole arrays that row `p` of point `t`'s blocks is. -/
def row (t : Fin cfg0.N) (p : Fin 512) : Fin 4096 :=
  ⟨t.val * 512 + p.val, by have := lt_of_lt_of_eq t.isLt N_0; have := p.isLt; omega⟩

theorem read_x (c : Dev nD) (t : Fin cfg0.N) (p : Fin 512) (d : Fin 1024) : iblk m c 0 t (ix2 p d) = ax m c (ix2 (row t p) d) := by
  blk_ext [iblk, V, tile_of t, row]

theorem read_n (c : Dev nD) (t : Fin cfg0.N) (d : Fin 1024) : iblk m c 1 t (ix2 0 d) = nw m c (ix2 0 d) := by
  blk_ext [iblk, V, tile_of t]

theorem read_w (c : Dev nD) (t : Fin cfg0.N) (i : Fin 4) (d : Fin 1024) (e : Fin 640) : iblk m c 2 t (ix3 i d e) = aw m c (ix3 i d e) := by
  blk_ext [iblk, V, tile_of t]

/-- A row's entry, normalised and scaled. -/
def normed {S T : Shape} (v : S.Idx → EReal) (n : T.Idx → EReal) (f : Fin 1024 → S.Idx) (g : Fin 1024 → T.Idx) (d : Fin 1024) : EReal :=
  v (f d) * Ideal.rsqrt (Ideal.div (∑ k : Fin 1024, v (f k) * v (f k)) (Ideal.ofBits .f32 0x44800000#32) + Ideal.ofBits .f32 897988541#32) * n (g d)

theorem point_norm (X : FVec Ideal S512x1024 .f32) (N : FVec Ideal S1x1024 .f32) (p : Fin 512) (d : Fin 1024) :
    k0_pay2 (F := Ideal) X N (ix2 p d) = normed X N (fun k => ix2 p k) (fun k => ix2 0 k) d := by
  unfold normed
  pointwise [k0_pay2]

theorem ref_norm (X : FVec Ideal S4096x1024 .f32) (N : FVec Ideal S1x1024 .f32) (s : Fin 4096) (d : Fin 1024) :
    val_main_v11 (F := Ideal) X N (ix2 s d) = normed X N (fun k => ix2 s k) (fun k => ix2 0 k) d := by
  unfold normed
  pointwise [val_main_v11, val_main_v10, val_main_v9, val_main_v8, val_main_v7, val_main_v6, val_main_v5, val_main_v4, val_main_v3, val_main_v2, val_main_v1, val_main_v0, val_main_cst, val_main_cst_0, val_main_cst_1]

theorem norm (c : Dev nD) (t : Fin cfg0.N) (p : Fin 512) (d : Fin 1024) :
    k0_pay2 (F := Ideal) (iblk m c 0 t) (iblk m c 1 t) (ix2 p d) = val_main_v11 (F := Ideal) (ax m c) (nw m c) (ix2 (row t p) d) := by
  rw [point_norm, ref_norm]
  unfold normed
  simp only [read_x, read_n]

/-- One column block of a point's product. -/
theorem prod (H : FVec Ideal S512x1024 .bf16) (W : FVec Ideal S1x1024x640 .bf16) (p : Fin 512) (e : Fin 640) :
    k0_pay1 (F := Ideal) H W (ix2 p e) = ∑ d : Fin 1024, H (ix2 p d) * W (ix3 0 d e) := by
  pointwise [k0_pay1]

theorem pay3 (X : FVec Ideal S512x1024 .f32) (N : FVec Ideal S1x1024 .f32) (W : FVec Ideal S1x1024x640 .bf16) :
    k0_pay3 (F := Ideal) X N W = k0_pay1 (k0_pay2 X N) W := rfl
theorem pay4 (X : FVec Ideal S512x1024 .f32) (N : FVec Ideal S1x1024 .f32) (W : FVec Ideal S1x1024x640 .bf16) :
    k0_pay4 (F := Ideal) X N W = k0_pay1 (k0_pay2 X N) W := rfl
theorem pay5 (X : FVec Ideal S512x1024 .f32) (N : FVec Ideal S1x1024 .f32) (W : FVec Ideal S1x1024x640 .bf16) :
    k0_pay5 (F := Ideal) X N W = k0_pay1 (k0_pay2 X N) W := rfl

/-- The weights of the reference, at a column of block `i`. -/
theorem ref_weight (b : FVec Ideal S4x1024x640 .bf16) (i : Fin 4) (d : Fin 1024) (e : Fin 640) (f : Fin 2560) (h : f.val = i.val * 640 + e.val) :
    val_main_v14 (F := Ideal) b (ix2 d f) = b (ix3 i d e) := by
  have he : e.val < 640 := e.isLt
  have h1 : f.val / 640 = i.val := by omega
  have h2 : f.val % 640 = e.val := by omega
  pointwise [val_main_v14, val_main_v13, val_main_v12]
  exact congrArg₂ (fun i k => b (ix3 i d k)) (Fin.ext h1) (Fin.ext h2)

/-- The reference's product at an index. -/
theorem ref_at (X : FVec Ideal S4096x1024 .f32) (N : FVec Ideal S1x1024 .f32) (W : FVec Ideal S4x1024x640 .bf16) (s : Fin 4096) (f : Fin 2560) :
    val_main_v15 (F := Ideal) X N W (ix2 s f)
      = ∑ d : Fin 1024, val_main_v11 (F := Ideal) X N (ix2 s d) * val_main_v14 (F := Ideal) W (ix2 d f) := by
  pointwise [val_main_v15]

/-- A column block of a point's product is the reference's there, if its weights are those of block `i`. -/
theorem same (c : Dev nD) (t : Fin cfg0.N) (i : Fin 4) (W : FVec Ideal S1x1024x640 .bf16)
    (hW : ∀ (d : Fin 1024) (e : Fin 640), W (ix3 0 d e) = iblk m c 2 t (ix3 i d e))
    (p : Fin 512) (e : Fin 640) (f : Fin 2560) (h : f.val = i.val * 640 + e.val) :
    k0_pay1 (F := Ideal) (k0_pay2 (iblk m c 0 t) (iblk m c 1 t)) W (ix2 p e)
      = val_main_v15 (F := Ideal) (ax m c) (nw m c) (aw m c) (ix2 (row t p) f) := by
  rw [prod, ref_at]
  refine Finset.sum_congr rfl fun d _ => Ideal.mul_congr (norm m c t p d) ?_
  rw [hW, read_w, ref_weight _ i d e f h]

/-- The weights a point reads for each column block. -/
theorem weight0 (b : FVec Ideal S4x1024x640 .bf16) (d : Fin 1024) (e : Fin 640) :
    View.ld (Val := Elt Ideal) (e' := .bf16) b r0_2 (ix3 0 d e) = b (ix3 0 d e) := by
  pointwise [View.ld]
theorem weight1 (b : FVec Ideal S4x1024x640 .bf16) (d : Fin 1024) (e : Fin 640) :
    View.ld (Val := Elt Ideal) (e' := .bf16) b r0_4 (ix3 0 d e) = b (ix3 1 d e) := by
  pointwise [View.ld]
theorem weight2 (b : FVec Ideal S4x1024x640 .bf16) (d : Fin 1024) (e : Fin 640) :
    View.ld (Val := Elt Ideal) (e' := .bf16) b r0_6 (ix3 0 d e) = b (ix3 2 d e) := by
  pointwise [View.ld]
theorem weight3 (b : FVec Ideal S4x1024x640 .bf16) (d : Fin 1024) (e : Fin 640) :
    View.ld (Val := Elt Ideal) (e' := .bf16) b r0_8 (ix3 0 d e) = b (ix3 3 d e) := by
  pointwise [View.ld]

/-- The normalised input. -/
theorem final_norm (c : Dev nD) : (dats m 0 c).arrAt 4 cfg0.N
    = val_main_v16 (F := Ideal) (ax m c) (nw m c) := by
  refine (dats m 0 c).arrAt_eq_of_covers 4 _ (by decide +kernel) fun t hf y => ?_
  have hy : y = ix2 (y 0) (y 1) := by funext a; revert a; exact Fin.forall_fin_two.mpr ⟨rfl, rfl⟩
  have e : ∀ i, val_main_v16 (F := Ideal) (ax m c) (nw m c) i = val_main_v11 (F := Ideal) (ax m c) (nw m c) i := fun i => rfl
  rw [after0_4]
  frame_out
  try simp only [read_unread_whole]
  try simp (disch := decide) only [View.readCov_fill]
  refine (congrArg _ hy).trans ((norm m c t (y 0) (y 1)).trans (Eq.trans ?_ (e _).symm))
  refine congrArg _ ?_
  blk_ext [tile_of t, row]

/-- The product. -/
theorem final_prod (c : Dev nD) : (dats m 0 c).arrAt 3 cfg0.N
    = val_main_v15 (F := Ideal) (ax m c) (nw m c) (aw m c) := by
  refine (dats m 0 c).arrAt_eq_of_covers 3 _ (by decide +kernel) fun t hf y => ?_
  rw [after0_3]
  frame_out
  canon_tiles x h using (View.cover_of_tiledBy _ ![512, 640] (by sl_kernel_rfl) _)
  · have hx : x = ix2 (x 0) (x 1) := by
      funext a; revert a; exact Fin.forall_fin_two.mpr ⟨rfl, rfl⟩
    have hx1 : (x 1).val < 640 := (x 1).isLt
    have q0 : (y 0).val = (x 0).val := h0
    have q1 : (y 1).val = 1920 + (x 1).val := by first | exact h1 | (have h : (y 1).val = (x 1).val := h1; omega)
    refine (congrArg _ hx).trans ((same m c t 3 _ (weight3 _) (x 0) (x 1) ⟨1920 + (x 1).val, by omega⟩ (show 1920 + (x 1).val = 3 * 640 + (x 1).val by omega)).trans ?_)
    refine congrArg _ ?_
    blk_ext [tile_of t, row] <;> omega
  · have hx : x = ix2 (x 0) (x 1) := by
      funext a; revert a; exact Fin.forall_fin_two.mpr ⟨rfl, rfl⟩
    have hx1 : (x 1).val < 640 := (x 1).isLt
    have q0 : (y 0).val = (x 0).val := h0
    have q1 : (y 1).val = 1280 + (x 1).val := by first | exact h1 | (have h : (y 1).val = (x 1).val := h1; omega)
    rw [pay5]
    refine (congrArg _ hx).trans ((same m c t 2 _ (weight2 _) (x 0) (x 1) ⟨1280 + (x 1).val, by omega⟩ (show 1280 + (x 1).val = 2 * 640 + (x 1).val by omega)).trans ?_)
    refine congrArg _ ?_
    blk_ext [tile_of t, row] <;> omega
  · have hx : x = ix2 (x 0) (x 1) := by
      funext a; revert a; exact Fin.forall_fin_two.mpr ⟨rfl, rfl⟩
    have hx1 : (x 1).val < 640 := (x 1).isLt
    have q0 : (y 0).val = (x 0).val := h0
    have q1 : (y 1).val = 640 + (x 1).val := by first | exact h1 | (have h : (y 1).val = (x 1).val := h1; omega)
    rw [pay4]
    refine (congrArg _ hx).trans ((same m c t 1 _ (weight1 _) (x 0) (x 1) ⟨640 + (x 1).val, by omega⟩ (show 640 + (x 1).val = 1 * 640 + (x 1).val by omega)).trans ?_)
    refine congrArg _ ?_
    blk_ext [tile_of t, row] <;> omega
  · have hx : x = ix2 (x 0) (x 1) := by
      funext a; revert a; exact Fin.forall_fin_two.mpr ⟨rfl, rfl⟩
    have hx1 : (x 1).val < 640 := (x 1).isLt
    have q0 : (y 0).val = (x 0).val := h0
    have q1 : (y 1).val = 0 + (x 1).val := by first | exact h1 | (have h : (y 1).val = (x 1).val := h1; omega)
    rw [pay3]
    refine (congrArg _ hx).trans ((same m c t 0 _ (weight0 _) (x 0) (x 1) ⟨0 + (x 1).val, by omega⟩ (show 0 + (x 1).val = 0 * 640 + (x 1).val by omega)).trans ?_)
    refine congrArg _ ?_
    blk_ext [tile_of t, row] <;> omega

end Cert.HeadIdeal.Sum

end
-- ==== Proof.GateValue.lean ====
/-
  What the weight gradient kernel of the first feed-forward block's gate (or up) projection leaves in its result: for every model channel and hidden unit the sum over all
  4096 rows of input times gradient, which is what the reference's product computes.
-/
module

public import proofs.«01_k».proof.Proof.Gen.GateIdeal.Value
public import proofs.«01_k».proof.Proof.Gen.GateRefIdeal.Read
public import proofs.«01_k».proof.Proof.Ext
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateIdeal.Sum

open Cert.GateIdeal Cert.GateIdeal.Gen Cert.GateRefIdeal.Read

variable (m : (ℓ : Loc nD τ sig) → Buf (Elt Ideal) ℓ)

/-- The tile of each operand a point reads, and the tile of the result it writes. -/
theorem tile_of : ∀ t : Fin cfg0.N, win0_0.index t = ![t.val % 8, 0] ∧ win0_1.index t = ![t.val / 8, t.val % 8, 0]
    ∧ win0_2.index t = ![t.val / 8, 0, 0] ∧ t.val / 8 < 4 :=
  (by decide +kernel : ∀ t : Fin grid0.N, _)

/-- The row of the whole arrays that row `k` of point `s`'s blocks is, and the block of the result the point works on. -/
def row (s : Fin cfg0.N) (k : Fin 512) : Fin 4096 := ⟨s.val % 8 * 512 + k.val, by have := k.isLt; omega⟩
def chip (s : Fin cfg0.N) : Fin 4 := ⟨s.val / 8, (tile_of s).2.2.2⟩

/-- A point's own term of the sum. -/
def part (a : FVec Ideal S512x1024 .bf16) (b : FVec Ideal S1x512x704 .bf16) (p : Fin 1024) (q : Fin 704) : EReal :=
  ∑ k : Fin 512, a (ix2 k p) * b (ix3 0 k q)

/-- One point adds the product of its two row tiles to the running sum. -/
theorem add_tile (acc : FVec Ideal S1024x704 .f32) (a : FVec Ideal S512x1024 .bf16) (b : FVec Ideal S1x512x704 .bf16)
    (p : Fin 1024) (q : Fin 704) :
    k0_pay2 (F := Ideal) acc a b (ix2 p q) = acc (ix2 p q) + part a b p q := by
  unfold part
  pointwise [k0_pay2]

/-- The running sum starts at zero. -/
theorem start (p : Fin 1024) (q : Fin 704) : k0_pay1 (F := Ideal) (ix2 p q) = 0 := by
  pointwise [k0_pay1]

/-- What the last point of a run writes back. -/
theorem last (acc : FVec Ideal S1024x704 .f32) (p : Fin 1024) (q : Fin 704) :
    k0_pay3 (F := Ideal) acc (ix3 0 p q) = acc (ix2 p q) := by
  pointwise [k0_pay3]

/-- The argument arrays, as a device finds them. -/
abbrev aa (c : Dev nD) : FVec Ideal S4096x1024 .bf16 := m ((c : Thread nD τ).loc main_arg0)
abbrev ab (c : Dev nD) : FVec Ideal S4x4096x704 .bf16 := m ((c : Thread nD τ).loc main_arg1)

/-- The reference's result at an index: the sum over all rows. -/
theorem ref_at (X : FVec Ideal S4096x1024 .bf16) (Y : FVec Ideal S4x4096x704 .bf16) (j : S4x1024x704.Idx) :
    val_main_v10 (F := Ideal) X Y j
      = ∑ k : Fin 4096, X (ix2 k (j 1)) * Y (ix3 (j 0) k (j 2)) := by
  pointwise [val_main_v10, val_main_v9, val_main_v8, val_main_v7, val_main_v6, val_main_v4, val_main_v2, val_main_v1, val_main_v0]
  exact Finset.sum_congr rfl fun k _ => mul_comm _ _

/-- The first point of a run leaves its own term. -/
theorem first (c : Dev nD) (p : Fin 1024) (q : Fin 704) (t : Fin cfg0.N) (h : t.val % 8 = 0) :
    (outsAt0 m c t.val t.isLt).2 (ix2 p q) = part (iblk m c 0 t) (iblk m c 1 t) p q := by
  rw [outsAt0_A m c t h (by omega)]
  have e : ∀ w, (w : FVec Ideal S1024x704 .f32) = k0_pay2 (F := Ideal) (k0_pay1 (F := Ideal)) (iblk m c 0 t) (iblk m c 1 t) → w (ix2 p q) = _ := fun w hw => by
    rw [hw, add_tile, start, zero_add]
  refine e _ ?_
  frame_out

theorem later (c : Dev nD) (p : Fin 1024) (q : Fin 704) (t : Fin cfg0.N) (h : ¬t.val % 8 = 0) :
    (outsAt0 m c t.val t.isLt).2 (ix2 p q) = (outsAt0 m c (t.val - 1) (lt_of_le_of_lt (Nat.sub_le _ _) t.isLt)).2 (ix2 p q)
      + part (iblk m c 0 t) (iblk m c 1 t) p q := by
  have e : ∀ w, (w : FVec Ideal S1024x704 .f32) = k0_pay2 (F := Ideal) (outsAt0 m c (t.val - 1) (lt_of_le_of_lt (Nat.sub_le _ _) t.isLt)).2 (iblk m c 0 t) (iblk m c 1 t) → w (ix2 p q) = _ := fun w hw => by
    rw [hw, add_tile]
  by_cases h1 : t.val % 8 = 7
  · rw [outsAt0_C m c t h h1]
    refine e _ ?_
    frame_out
    simp only [read_unread_whole]
  · rw [outsAt0_B m c t h h1]
    refine e _ ?_
    frame_out
    simp only [read_unread_whole]

/-- A point's term, in the argument arrays. -/
theorem part_at (c : Dev nD) (s : Fin cfg0.N) (p : Fin 1024) (q : Fin 704) :
    part (iblk m c 0 s) (iblk m c 1 s) p q
      = ∑ k : Fin 512, aa m c (ix2 (row s k) p) * ab m c (ix3 (chip s) (row s k) q) := by
  unfold part
  refine Finset.sum_congr rfl fun k _ => ?_
  refine Ideal.mul_congr ?_ ?_ <;> blk_ext [iblk, V, tile_of s, row, chip]

/-- What the last point of a run sums is the reference's product. -/
theorem all (c : Dev nD) (t : Fin cfg0.N) (ht : t.val % 8 = 7) (p : Fin 1024) (q : Fin 704) (j : S4x1024x704.Idx)
    (h0 : (j 0).val = t.val / 8) (h1 : (j 1).val = p.val) (h2 : (j 2).val = q.val) :
    k0_pay2 (F := Ideal) (outsAt0 m c (t.val - 1) (lt_of_le_of_lt (Nat.sub_le _ _) t.isLt)).2 (iblk m c 0 t) (iblk m c 1 t) (ix2 p q)
      = val_main_v10 (F := Ideal) (aa m c) (ab m c) j := by
  have hN : t.val / 8 < 4 := (tile_of t).2.2.2
  have hn : ¬ t.val % 8 = 0 := by omega
  rw [ref_at]
  refine (add_tile _ _ _ _ _).trans ((later m c p q t hn).symm.trans ?_)
  have sum := Pipeline.eq_sum_fin_of_reset_step_apply_of_flush (fun n h (i : Fin 1024 × Fin 704) => (outsAt0 m c n h).2 (ix2 i.1 i.2)) 8 (fun _ => 0)
    (fun t i => part (iblk m c 0 t) (iblk m c 1 t) i.1 i.2)
    (fun t h i => (first m c i.1 i.2 t h).trans (zero_add _).symm) (fun t h i => later m c i.1 i.2 t h) t ht (p, q)
  refine sum.trans ((zero_add _).trans ?_)
  rw [Fin.sum_univ_tiles 8 512 rfl]
  refine Finset.sum_congr rfl fun s _ => (part_at m c _ p q).trans (Finset.sum_congr rfl fun k _ => ?_)
  have hs : s.val < 8 := s.isLt
  have e1 : (8 * (t.val / 8) + s.val) % 8 = s.val := by omega
  have e2 : (8 * (t.val / 8) + s.val) / 8 = t.val / 8 := by omega
  refine Ideal.mul_congr (congrArg (aa m c) ?_) (congrArg (ab m c) ?_)
  · exact congrArg₂ ix2 (Fin.ext (show (8 * (t.val / 8) + s.val) % 8 * 512 + k.val = s.val * 512 + k.val by rw [e1])) (Fin.ext h1.symm)
  · exact congr (congrArg₂ ix3 (Fin.ext (show (8 * (t.val / 8) + s.val) / 8 = (j 0).val by rw [e2, h0])) (Fin.ext (show (8 * (t.val / 8) + s.val) % 8 * 512 + k.val = s.val * 512 + k.val by rw [e1]))) (Fin.ext h2.symm)

/-- The result array is the reference's. -/
theorem final (c : Dev nD) : (dats m 0 c).arrAt 2 cfg0.N
    = val_main_v10 (F := Ideal) (aa m c) (ab m c) := by
  refine (dats m 0 c).arrAt_eq_of_covers 2 _ (by decide +kernel) fun t hf y => ?_
  blk_simp
  have ht : t.val % 8 = 7 := (flush0_2 t).mp hf
  have hN : t.val / 8 < 4 := (tile_of t).2.2.2
  rw [after0_2, outsAt0_C m c t (by omega) ht]
  frame_out
  simp only [read_unread_whole]
  try simp (disch := decide) only [View.readCov_fill]
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have h0 : (y 0).val < 1 := (y 0).isLt
  refine (congrArg _ hy).trans ((last _ (y 1) (y 2)).trans (all m c t ht (y 1) (y 2) _ ?_ ?_ ?_))
  all_goals (blk_simp [tile_of t] <;> try (dsimp only; omega))

end Cert.GateIdeal.Sum

end
-- ==== Proof.LowValue.lean ====
/-
  What the weight gradient kernel of the first feed-forward block's down projection leaves in its result: for every hidden unit and model channel half the sum
  over all 4096 rows of activation times gradient, which is what the reference's product computes.
-/
module

public import proofs.«01_k».proof.Proof.Gen.LowIdeal.Value
public import proofs.«01_k».proof.Proof.Gen.LowRefIdeal.Read
public import proofs.«01_k».proof.Proof.Ext
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LowIdeal.Sum

open Cert.LowIdeal Cert.LowIdeal.Gen Cert.LowRefIdeal.Read

variable (m : (ℓ : Loc nD τ sig) → Buf (Elt Ideal) ℓ)

/-- The tile of each operand a point reads, and the tile of the result it writes. -/
theorem tile_of : ∀ t : Fin cfg0.N, win0_0.index t = ![t.val / 8, t.val % 8, 0] ∧ win0_1.index t = ![t.val % 8, 0]
    ∧ win0_2.index t = ![t.val / 8, 0, 0] ∧ t.val / 8 < 4 :=
  (by decide +kernel : ∀ t : Fin grid0.N, _)

/-- The row of the whole arrays that row `k` of point `s`'s blocks is, and the block of the result the point works on. -/
def row (s : Fin cfg0.N) (k : Fin 512) : Fin 4096 := ⟨s.val % 8 * 512 + k.val, by have := k.isLt; omega⟩
def chip (s : Fin cfg0.N) : Fin 4 := ⟨s.val / 8, (tile_of s).2.2.2⟩

/-- A point's own term of the sum. -/
def part (a : FVec Ideal S1x512x704 .bf16) (b : FVec Ideal S512x1024 .bf16) (p : Fin 704) (q : Fin 1024) : EReal :=
  ∑ k : Fin 512, a (ix3 0 k p) * b (ix2 k q)

/-- One point adds the product of its two row tiles to the running sum. -/
theorem add_tile (acc : FVec Ideal S704x1024 .f32) (a : FVec Ideal S1x512x704 .bf16) (b : FVec Ideal S512x1024 .bf16)
    (p : Fin 704) (q : Fin 1024) :
    k0_pay2 (F := Ideal) acc a b (ix2 p q) = acc (ix2 p q) + part a b p q := by
  unfold part
  pointwise [k0_pay2]

/-- The running sum starts at zero. -/
theorem start (p : Fin 704) (q : Fin 1024) : k0_pay1 (F := Ideal) (ix2 p q) = 0 := by
  pointwise [k0_pay1]

/-- What the last point of a run writes back. -/
theorem last (acc : FVec Ideal S704x1024 .f32) (p : Fin 704) (q : Fin 1024) :
    k0_pay3 (F := Ideal) acc (ix3 0 p q) = acc (ix2 p q) * Ideal.ofBits .f32 0x3F000000#32 := by
  pointwise [k0_pay3]

/-- The argument arrays, as a device finds them. -/
abbrev aa (c : Dev nD) : FVec Ideal S4x4096x704 .bf16 := m ((c : Thread nD τ).loc main_arg0)
abbrev ab (c : Dev nD) : FVec Ideal S4096x1024 .bf16 := m ((c : Thread nD τ).loc main_arg1)

/-- The reference's result at an index: the sum over all rows. -/
theorem ref_at (X : FVec Ideal S4x4096x704 .bf16) (Y : FVec Ideal S4096x1024 .bf16) (j : S4x704x1024.Idx) :
    val_main_v13 (F := Ideal) X Y j
      = (∑ k : Fin 4096, X (ix3 (j 0) k (j 1)) * Y (ix2 k (j 2))) * Ideal.ofBits .f32 0x3F000000#32 := by
  pointwise [val_main_v13, val_main_v12, val_main_v11, val_main_v10, val_main_v9, val_main_v8, val_main_v7, val_main_cst_1, val_main_v2, val_main_v1, val_main_v0]
  rw [Cert.Ext.half, Cert.Ext.sum_mul_real _ _ (by norm_num)]
  refine Finset.sum_congr rfl fun k _ => ?_
  ac_rfl

/-- The first point of a run leaves its own term. -/
theorem first (c : Dev nD) (p : Fin 704) (q : Fin 1024) (t : Fin cfg0.N) (h : t.val % 8 = 0) :
    (outsAt0 m c t.val t.isLt).2 (ix2 p q) = part (iblk m c 0 t) (iblk m c 1 t) p q := by
  rw [outsAt0_A m c t h (by omega)]
  have e : ∀ w, (w : FVec Ideal S704x1024 .f32) = k0_pay2 (F := Ideal) (k0_pay1 (F := Ideal)) (iblk m c 0 t) (iblk m c 1 t) → w (ix2 p q) = _ := fun w hw => by
    rw [hw, add_tile, start, zero_add]
  refine e _ ?_
  frame_out

theorem later (c : Dev nD) (p : Fin 704) (q : Fin 1024) (t : Fin cfg0.N) (h : ¬t.val % 8 = 0) :
    (outsAt0 m c t.val t.isLt).2 (ix2 p q) = (outsAt0 m c (t.val - 1) (lt_of_le_of_lt (Nat.sub_le _ _) t.isLt)).2 (ix2 p q)
      + part (iblk m c 0 t) (iblk m c 1 t) p q := by
  have e : ∀ w, (w : FVec Ideal S704x1024 .f32) = k0_pay2 (F := Ideal) (outsAt0 m c (t.val - 1) (lt_of_le_of_lt (Nat.sub_le _ _) t.isLt)).2 (iblk m c 0 t) (iblk m c 1 t) → w (ix2 p q) = _ := fun w hw => by
    rw [hw, add_tile]
  by_cases h1 : t.val % 8 = 7
  · rw [outsAt0_C m c t h h1]
    refine e _ ?_
    frame_out
    simp only [read_unread_whole]
  · rw [outsAt0_B m c t h h1]
    refine e _ ?_
    frame_out
    simp only [read_unread_whole]

/-- A point's term, in the argument arrays. -/
theorem part_at (c : Dev nD) (s : Fin cfg0.N) (p : Fin 704) (q : Fin 1024) :
    part (iblk m c 0 s) (iblk m c 1 s) p q
      = ∑ k : Fin 512, aa m c (ix3 (chip s) (row s k) p) * ab m c (ix2 (row s k) q) := by
  unfold part
  refine Finset.sum_congr rfl fun k _ => ?_
  refine Ideal.mul_congr ?_ ?_ <;> blk_ext [iblk, V, tile_of s, row, chip]

/-- What the last point of a run sums is the reference's product. -/
theorem all (c : Dev nD) (t : Fin cfg0.N) (ht : t.val % 8 = 7) (p : Fin 704) (q : Fin 1024) (j : S4x704x1024.Idx)
    (h0 : (j 0).val = t.val / 8) (h1 : (j 1).val = p.val) (h2 : (j 2).val = q.val) :
    k0_pay2 (F := Ideal) (outsAt0 m c (t.val - 1) (lt_of_le_of_lt (Nat.sub_le _ _) t.isLt)).2 (iblk m c 0 t) (iblk m c 1 t) (ix2 p q) * Ideal.ofBits .f32 0x3F000000#32
      = val_main_v13 (F := Ideal) (aa m c) (ab m c) j := by
  have hN : t.val / 8 < 4 := (tile_of t).2.2.2
  have hn : ¬ t.val % 8 = 0 := by omega
  rw [ref_at]
  refine Ideal.mul_congr ?_ rfl
  refine (add_tile _ _ _ _ _).trans ((later m c p q t hn).symm.trans ?_)
  have sum := Pipeline.eq_sum_fin_of_reset_step_apply_of_flush (fun n h (i : Fin 704 × Fin 1024) => (outsAt0 m c n h).2 (ix2 i.1 i.2)) 8 (fun _ => 0)
    (fun t i => part (iblk m c 0 t) (iblk m c 1 t) i.1 i.2)
    (fun t h i => (first m c i.1 i.2 t h).trans (zero_add _).symm) (fun t h i => later m c i.1 i.2 t h) t ht (p, q)
  refine sum.trans ((zero_add _).trans ?_)
  rw [Fin.sum_univ_tiles 8 512 rfl]
  refine Finset.sum_congr rfl fun s _ => (part_at m c _ p q).trans (Finset.sum_congr rfl fun k _ => ?_)
  have hs : s.val < 8 := s.isLt
  have e1 : (8 * (t.val / 8) + s.val) % 8 = s.val := by omega
  have e2 : (8 * (t.val / 8) + s.val) / 8 = t.val / 8 := by omega
  refine Ideal.mul_congr (congrArg (aa m c) ?_) (congrArg (ab m c) ?_)
  · exact congr (congrArg₂ ix3 (Fin.ext (show (8 * (t.val / 8) + s.val) / 8 = (j 0).val by rw [e2, h0])) (Fin.ext (show (8 * (t.val / 8) + s.val) % 8 * 512 + k.val = s.val * 512 + k.val by rw [e1]))) (Fin.ext h1.symm)
  · exact congrArg₂ ix2 (Fin.ext (show (8 * (t.val / 8) + s.val) % 8 * 512 + k.val = s.val * 512 + k.val by rw [e1])) (Fin.ext h2.symm)

/-- The result array is the reference's. -/
theorem final (c : Dev nD) : (dats m 0 c).arrAt 2 cfg0.N
    = val_main_v13 (F := Ideal) (aa m c) (ab m c) := by
  refine (dats m 0 c).arrAt_eq_of_covers 2 _ (by decide +kernel) fun t hf y => ?_
  blk_simp
  have ht : t.val % 8 = 7 := (flush0_2 t).mp hf
  have hN : t.val / 8 < 4 := (tile_of t).2.2.2
  rw [after0_2, outsAt0_C m c t (by omega) ht]
  frame_out
  simp only [read_unread_whole]
  try simp (disch := decide) only [View.readCov_fill]
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have h0 : (y 0).val < 1 := (y 0).isLt
  refine (congrArg _ hy).trans ((last _ (y 1) (y 2)).trans (all m c t ht (y 1) (y 2) _ ?_ ?_ ?_))
  all_goals (blk_simp [tile_of t] <;> try (dsimp only; omega))

end Cert.LowIdeal.Sum

end
-- ==== Proof.ProjValue.lean ====
/-
  What the weight gradient kernel of the mixer's input projection leaves in its result: for every model channel and projected channel the sum over
  all 4096 rows of input times gradient, which is what the reference's product computes.
-/
module

public import proofs.«01_k».proof.Proof.Gen.ProjIdeal.Value
public import proofs.«01_k».proof.Proof.Gen.ProjRefIdeal.Read
public import proofs.«01_k».proof.Proof.Ext
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Sum

open Cert.ProjIdeal Cert.ProjIdeal.Gen Cert.ProjRefIdeal.Read

variable (m : (ℓ : Loc nD τ sig) → Buf (Elt Ideal) ℓ)

/-- The tile of each operand a point reads, and the tile of the result it writes. -/
theorem tile_of : ∀ t : Fin cfg0.N, win0_0.index t = ![t.val % 8, 0] ∧ win0_1.index t = ![t.val % 8, t.val / 8]
    ∧ win0_2.index t = ![t.val / 8, 0, 0] ∧ t.val / 8 < 4 :=
  (by decide +kernel : ∀ t : Fin grid0.N, _)

/-- The row of the whole arrays that row `k` of point `s`'s blocks is, and the block of the result the point works on. -/
def row (s : Fin cfg0.N) (k : Fin 512) : Fin 4096 := ⟨s.val % 8 * 512 + k.val, by have := k.isLt; omega⟩
def chip (s : Fin cfg0.N) : Fin 4 := ⟨s.val / 8, (tile_of s).2.2.2⟩
def col (s : Fin cfg0.N) (q : Fin 640) : Fin 2560 := ⟨s.val / 8 * 640 + q.val, by have := q.isLt; have := (tile_of s).2.2.2; omega⟩

/-- A point's own term of the sum. -/
def part (a : FVec Ideal S512x1024 .bf16) (b : FVec Ideal S512x640 .bf16) (p : Fin 1024) (q : Fin 640) : EReal :=
  ∑ k : Fin 512, a (ix2 k p) * b (ix2 k q)

/-- One point adds the product of its two row tiles to the running sum. -/
theorem add_tile (acc : FVec Ideal S1024x640 .f32) (a : FVec Ideal S512x1024 .bf16) (b : FVec Ideal S512x640 .bf16)
    (p : Fin 1024) (q : Fin 640) :
    k0_pay2 (F := Ideal) acc a b (ix2 p q) = acc (ix2 p q) + part a b p q := by
  unfold part
  pointwise [k0_pay2]

/-- The running sum starts at zero. -/
theorem start (p : Fin 1024) (q : Fin 640) : k0_pay1 (F := Ideal) (ix2 p q) = 0 := by
  pointwise [k0_pay1]

/-- What the last point of a run writes back. -/
theorem last (acc : FVec Ideal S1024x640 .f32) (p : Fin 1024) (q : Fin 640) :
    k0_pay3 (F := Ideal) acc (ix3 0 p q) = acc (ix2 p q) := by
  pointwise [k0_pay3]

/-- The argument arrays, as a device finds them. -/
abbrev aa (c : Dev nD) : FVec Ideal S4096x1024 .bf16 := m ((c : Thread nD τ).loc main_arg0)
abbrev ab (c : Dev nD) : FVec Ideal S4096x2560 .bf16 := m ((c : Thread nD τ).loc main_arg1)

/-- The reference's result at an index: the sum over all rows. -/
theorem ref_at (X : FVec Ideal S4096x1024 .bf16) (Y : FVec Ideal S4096x2560 .bf16) (j : S4x1024x640.Idx) :
    val_main_v8 (F := Ideal) X Y j
      = ∑ k : Fin 4096, X (ix2 k (j 1)) * Y (ix2 k ⟨(j 0).val * 640 + (j 2).val, by
          have h0 : (j 0).val < 4 := (j 0).isLt; have h2 : (j 2).val < 640 := (j 2).isLt; omega⟩) := by
  pointwise [val_main_v8, val_main_v7, val_main_v6, val_main_v5, val_main_v4, val_main_v3, val_main_v1]
  exact Finset.sum_congr rfl fun k _ => mul_comm _ _

/-- The first point of a run leaves its own term. -/
theorem first (c : Dev nD) (p : Fin 1024) (q : Fin 640) (t : Fin cfg0.N) (h : t.val % 8 = 0) :
    (outsAt0 m c t.val t.isLt).2 (ix2 p q) = part (iblk m c 0 t) (iblk m c 1 t) p q := by
  rw [outsAt0_A m c t h (by omega)]
  have e : ∀ w, (w : FVec Ideal S1024x640 .f32) = k0_pay2 (F := Ideal) (k0_pay1 (F := Ideal)) (iblk m c 0 t) (iblk m c 1 t) → w (ix2 p q) = _ := fun w hw => by
    rw [hw, add_tile, start, zero_add]
  refine e _ ?_
  frame_out

theorem later (c : Dev nD) (p : Fin 1024) (q : Fin 640) (t : Fin cfg0.N) (h : ¬t.val % 8 = 0) :
    (outsAt0 m c t.val t.isLt).2 (ix2 p q) = (outsAt0 m c (t.val - 1) (lt_of_le_of_lt (Nat.sub_le _ _) t.isLt)).2 (ix2 p q)
      + part (iblk m c 0 t) (iblk m c 1 t) p q := by
  have e : ∀ w, (w : FVec Ideal S1024x640 .f32) = k0_pay2 (F := Ideal) (outsAt0 m c (t.val - 1) (lt_of_le_of_lt (Nat.sub_le _ _) t.isLt)).2 (iblk m c 0 t) (iblk m c 1 t) → w (ix2 p q) = _ := fun w hw => by
    rw [hw, add_tile]
  by_cases h1 : t.val % 8 = 7
  · rw [outsAt0_C m c t h h1]
    refine e _ ?_
    frame_out
    simp only [read_unread_whole]
  · rw [outsAt0_B m c t h h1]
    refine e _ ?_
    frame_out
    simp only [read_unread_whole]

/-- A point's term, in the argument arrays. -/
theorem part_at (c : Dev nD) (s : Fin cfg0.N) (p : Fin 1024) (q : Fin 640) :
    part (iblk m c 0 s) (iblk m c 1 s) p q
      = ∑ k : Fin 512, aa m c (ix2 (row s k) p) * ab m c (ix2 (row s k) (col s q)) := by
  unfold part
  refine Finset.sum_congr rfl fun k _ => ?_
  refine Ideal.mul_congr ?_ ?_ <;> blk_ext [iblk, V, tile_of s, row, chip, col]

/-- What the last point of a run sums is the reference's product. -/
theorem all (c : Dev nD) (t : Fin cfg0.N) (ht : t.val % 8 = 7) (p : Fin 1024) (q : Fin 640) (j : S4x1024x640.Idx)
    (h0 : (j 0).val = t.val / 8) (h1 : (j 1).val = p.val) (h2 : (j 2).val = q.val) :
    k0_pay2 (F := Ideal) (outsAt0 m c (t.val - 1) (lt_of_le_of_lt (Nat.sub_le _ _) t.isLt)).2 (iblk m c 0 t) (iblk m c 1 t) (ix2 p q)
      = val_main_v8 (F := Ideal) (aa m c) (ab m c) j := by
  have hN : t.val / 8 < 4 := (tile_of t).2.2.2
  have hn : ¬ t.val % 8 = 0 := by omega
  rw [ref_at]
  refine (add_tile _ _ _ _ _).trans ((later m c p q t hn).symm.trans ?_)
  have sum := Pipeline.eq_sum_fin_of_reset_step_apply_of_flush (fun n h (i : Fin 1024 × Fin 640) => (outsAt0 m c n h).2 (ix2 i.1 i.2)) 8 (fun _ => 0)
    (fun t i => part (iblk m c 0 t) (iblk m c 1 t) i.1 i.2)
    (fun t h i => (first m c i.1 i.2 t h).trans (zero_add _).symm) (fun t h i => later m c i.1 i.2 t h) t ht (p, q)
  refine sum.trans ((zero_add _).trans ?_)
  rw [Fin.sum_univ_tiles 8 512 rfl]
  refine Finset.sum_congr rfl fun s _ => (part_at m c _ p q).trans (Finset.sum_congr rfl fun k _ => ?_)
  have hs : s.val < 8 := s.isLt
  have e1 : (8 * (t.val / 8) + s.val) % 8 = s.val := by omega
  have e2 : (8 * (t.val / 8) + s.val) / 8 = t.val / 8 := by omega
  refine Ideal.mul_congr (congrArg (aa m c) ?_) (congrArg (ab m c) ?_)
  · exact congrArg₂ ix2 (Fin.ext (show (8 * (t.val / 8) + s.val) % 8 * 512 + k.val = s.val * 512 + k.val by rw [e1])) (Fin.ext h1.symm)
  · exact congrArg₂ ix2 (Fin.ext (show (8 * (t.val / 8) + s.val) % 8 * 512 + k.val = s.val * 512 + k.val by rw [e1])) (Fin.ext (show (8 * (t.val / 8) + s.val) / 8 * 640 + q.val = (j 0).val * 640 + (j 2).val by rw [e2, h0, h2]))

/-- The result array is the reference's. -/
theorem final (c : Dev nD) : (dats m 0 c).arrAt 2 cfg0.N
    = val_main_v8 (F := Ideal) (aa m c) (ab m c) := by
  refine (dats m 0 c).arrAt_eq_of_covers 2 _ (by decide +kernel) fun t hf y => ?_
  blk_simp
  have ht : t.val % 8 = 7 := (flush0_2 t).mp hf
  have hN : t.val / 8 < 4 := (tile_of t).2.2.2
  rw [after0_2, outsAt0_C m c t (by omega) ht]
  frame_out
  simp only [read_unread_whole]
  try simp (disch := decide) only [View.readCov_fill]
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have h0 : (y 0).val < 1 := (y 0).isLt
  refine (congrArg _ hy).trans ((last _ (y 1) (y 2)).trans (all m c t ht (y 1) (y 2) _ ?_ ?_ ?_))
  all_goals (blk_simp [tile_of t] <;> try (dsimp only; omega))

end Cert.ProjIdeal.Sum

end
-- ==== Proof.FirstRun.lean ====
/-
  One grid point of the first feed-forward block's forward kernel, run: what each of its three cases (first, middle and last quarter of the
  hidden units) leaves in every buffer, over any values.
-/
module

public import proofs.«01_k».proof.Proof.Gen.FirstIdeal.Launch
public import proofs.«01_k».proof.Proof.Gen.FirstIdeal.Skeleton
public import proofs.«01_k».proof.Proof.Gen.FirstIdeal.Points
public import proofs.«01_k».proof.Proof.Gen.FirstIdeal.Frame
public import Idealize.ShloMosaic.Lib.Pipeline.FrameBody
public import Idealize.ShloMosaic.Lib.Pipeline.ValueKit
public import Idealize.ShloMosaic.Lib.Pipeline.ReadBack
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.FirstIdeal.Hand

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The first quarter: the normalised rows are computed and kept, and the running sum starts. -/
theorem run_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .f32) (harg8 : arg8.IsWhole) (arg9 : Memref sig .tc .vmem S1x512x704 .f32) (harg9 : arg9.IsWhole) (arg10 : Memref sig .tc .vmem S512x1024 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .f32) (harg13 : arg13.IsWhole) (hc0 : k0_cond1 i = 1#1) (hc1 : ¬k0_cond2 i = 1#1)
    (x0 : Vec F S512x1024 .f32) (x1 : Vec F S1x1024 .f32) (x2 : Vec F S1x1024x704 .bf16) (x3 : Vec F S1x1024x704 .bf16) (x4 : Vec F S1x704x1024 .bf16) (xi5 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay8 (k0_pay4 x0 x1) x2) ∗ owns (c : Thread nD τ) arg9 fullShare (k0_pay9 (k0_pay4 x0 x1) x3) ∗ owns (c : Thread nD τ) arg10 fullShare (k0_pay3 x0 x1) ∗ owns (c : Thread nD τ) arg11 fullShare (k0_pay11 (k0_pay4 x0 x1) x2 x3) ∗ owns (c : Thread nD τ) arg12 fullShare (k0_pay4 x0 x1) ∗ owns (c : Thread nD τ) arg13 fullShare (k0_pay1 (k0_pay10 (k0_pay4 x0 x1) x2 x3) k0_pay5 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full _ _ _ _ _).trans ?_
    frame_out
    try simp only [Memref.IsWhole.read_unread]
  isplitl [H9]
  · iexists _; isplitr
    swap; · iexact H9
    ipureintro
    refine (View.read_writes_full _ _ _ _ _).trans ?_
    frame_out
    try simp only [Memref.IsWhole.read_unread]
  isplitl [H10]
  · iexists _; isplitr
    swap; · iexact H10
    ipureintro
    refine (View.read_writes_full _ _ _ _ _).trans ?_
    frame_out
    try simp only [Memref.IsWhole.read_unread]
  isplitl [H11]
  · iexists _; isplitr
    swap; · iexact H11
    ipureintro
    refine (View.read_writes_full _ _ _ _ _).trans ?_
    frame_out
    try simp only [Memref.IsWhole.read_unread]
  isplitl [H12]
  · iexists _; isplitr
    swap; · iexact H12
    ipureintro
    refine (View.read_writes_full _ _ _ _ _).trans ?_
    frame_out
    try simp only [Memref.IsWhole.read_unread]
  iexists _; isplitr
  swap; · iexact H13
  ipureintro
  refine (View.read_writes_full _ _ _ _ _).trans ?_
  frame_out
  try simp only [Memref.IsWhole.read_unread]

set_option maxHeartbeats 2000000 in
/-- A middle quarter: the running sum grows, the result and the normalised rows stay as they are. -/
theorem run_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .f32) (harg8 : arg8.IsWhole) (arg9 : Memref sig .tc .vmem S1x512x704 .f32) (harg9 : arg9.IsWhole) (arg10 : Memref sig .tc .vmem S512x1024 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .f32) (harg13 : arg13.IsWhole) (hc0 : ¬k0_cond1 i = 1#1) (hc1 : ¬k0_cond2 i = 1#1)
    (x0 : Vec F S512x1024 .f32) (x1 : Vec F S1x1024 .f32) (x2 : Vec F S1x1024x704 .bf16) (x3 : Vec F S1x1024x704 .bf16) (x4 : Vec F S1x704x1024 .bf16) (xs0 : Vec F S512x1024 .bf16) (xs1 : Vec F S512x1024 .f32) (xi5 : Vec F S512x1024 .f32) (xi8 : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d) ∗ owns (c : Thread nD τ) arg12 fullShare xs0 ∗ owns (c : Thread nD τ) arg13 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay8 xs0 x2) ∗ owns (c : Thread nD τ) arg9 fullShare (k0_pay9 xs0 x3) ∗ owns (c : Thread nD τ) arg10 fullShare xi8 ∗ owns (c : Thread nD τ) arg11 fullShare (k0_pay11 xs0 x2 x3) ∗ owns (c : Thread nD τ) arg12 fullShare xs0 ∗ owns (c : Thread nD τ) arg13 fullShare (k0_pay1 (k0_pay10 xs0 x2 x3) xs1 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg12.eq_unread hf12; obtain rfl := harg13.eq_unread hf13
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full _ _ _ _ _).trans ?_
    frame_out
    try simp only [Memref.IsWhole.read_unread]
  isplitl [H9]
  · iexists _; isplitr
    swap; · iexact H9
    ipureintro
    refine (View.read_writes_full _ _ _ _ _).trans ?_
    frame_out
    try simp only [Memref.IsWhole.read_unread]
  isplitl [H10]
  · iexists _; isplitr; · ipureintro; exact harg10.read_unread _
    iexact H10
  isplitl [H11]
  · iexists _; isplitr
    swap; · iexact H11
    ipureintro
    refine (View.read_writes_full _ _ _ _ _).trans ?_
    frame_out
    try simp only [Memref.IsWhole.read_unread]
  isplitl [H12]
  · iexists _; isplitr; · ipureintro; exact harg12.read_unread _
    iexact H12
  iexists _; isplitr
  swap; · iexact H13
  ipureintro
  refine (View.read_writes_full _ _ _ _ _).trans ?_
  frame_out
  try simp only [Memref.IsWhole.read_unread]

set_option maxHeartbeats 2000000 in
/-- The last quarter: the running sum is complete and the result is written. -/
theorem run_C (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .f32) (harg8 : arg8.IsWhole) (arg9 : Memref sig .tc .vmem S1x512x704 .f32) (harg9 : arg9.IsWhole) (arg10 : Memref sig .tc .vmem S512x1024 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .f32) (harg13 : arg13.IsWhole) (hc0 : ¬k0_cond1 i = 1#1) (hc1 : k0_cond2 i = 1#1)
    (x0 : Vec F S512x1024 .f32) (x1 : Vec F S1x1024 .f32) (x2 : Vec F S1x1024x704 .bf16) (x3 : Vec F S1x1024x704 .bf16) (x4 : Vec F S1x704x1024 .bf16) (xs0 : Vec F S512x1024 .bf16) (xs1 : Vec F S512x1024 .f32) (xi8 : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d) ∗ owns (c : Thread nD τ) arg12 fullShare xs0 ∗ owns (c : Thread nD τ) arg13 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x0 (k0_pay1 (k0_pay10 xs0 x2 x3) xs1 x4)) ∗ owns (c : Thread nD τ) arg8 fullShare (k0_pay8 xs0 x2) ∗ owns (c : Thread nD τ) arg9 fullShare (k0_pay9 xs0 x3) ∗ owns (c : Thread nD τ) arg10 fullShare xi8 ∗ owns (c : Thread nD τ) arg11 fullShare (k0_pay11 xs0 x2 x3) ∗ owns (c : Thread nD τ) arg12 fullShare xs0 ∗ owns (c : Thread nD τ) arg13 fullShare (k0_pay1 (k0_pay10 xs0 x2 x3) xs1 x4)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg12.eq_unread hf12; obtain rfl := harg13.eq_unread hf13
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full _ _ _ _ _).trans ?_
    frame_out
    try simp only [Memref.IsWhole.read_unread]
  isplitl [H8]
  · iexists _; isplitr
    swap; · iexact H8
    ipureintro
    refine (View.read_writes_full _ _ _ _ _).trans ?_
    frame_out
    try simp only [Memref.IsWhole.read_unread]
  isplitl [H9]
  · iexists _; isplitr
    swap; · iexact H9
    ipureintro
    refine (View.read_writes_full _ _ _ _ _).trans ?_
    frame_out
    try simp only [Memref.IsWhole.read_unread]
  isplitl [H10]
  · iexists _; isplitr; · ipureintro; exact harg10.read_unread _
    iexact H10
  isplitl [H11]
  · iexists _; isplitr
    swap; · iexact H11
    ipureintro
    refine (View.read_writes_full _ _ _ _ _).trans ?_
    frame_out
    try simp only [Memref.IsWhole.read_unread]
  isplitl [H12]
  · iexists _; isplitr; · ipureintro; exact harg12.read_unread _
    iexact H12
  iexists _; isplitr
  swap; · iexact H13
  ipureintro
  refine (View.read_writes_full _ _ _ _ _).trans ?_
  frame_out
  try simp only [Memref.IsWhole.read_unread]

end Cert.FirstIdeal.Hand

end
-- ==== Proof.FirstFrame.lean ====
/-
  The whole run of the first feed-forward block's forward kernel, over any values: what every point leaves in every buffer, and that @main ends
  with the arguments as they were. The normalised rows are stored at the first quarter of the hidden units and written back after the last:
  the quarters between leave them in their buffer.
-/
module

public import proofs.«01_k».proof.Proof.FirstRun
public import Idealize.ShloMosaic.Lib.Pipeline.TableIdle
public import Idealize.ShloMosaic.Lib.Pipeline.ValueKit
public import Idealize.ShloMosaic.Lib.Claim

@[expose] public section

set_option maxRecDepth 16384

noncomputable section

namespace Cert.FirstIdeal.Hand

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the points stand -/

theorem cond1_iff : ∀ t : Fin cfg0.N, k0_cond1 (grid0.coords t) = 1#1 ↔ t.val % 4 = 0 := (by decide +kernel : ∀ t : Fin grid0.N, _)
theorem cond2_iff : ∀ t : Fin cfg0.N, k0_cond2 (grid0.coords t) = 1#1 ↔ t.val % 4 = 3 := (by decide +kernel : ∀ t : Fin grid0.N, _)
theorem idle_5 : ∀ t : Fin cfg0.N, cfg0.idle 5 (grid0.coords t) = !decide (t.val % 4 = 3) := (by decide +kernel : ∀ t : Fin grid0.N, _)
theorem idle_8 : ∀ t : Fin cfg0.N, cfg0.idle 8 (grid0.coords t) = !decide (t.val % 4 = 0) := (by decide +kernel : ∀ t : Fin grid0.N, _)
theorem flush_5 : ∀ t : Fin cfg0.N, (cfg0.win 5).flush t = decide (t.val % 4 = 3) := (by decide +kernel : ∀ t : Fin grid0.N, _)
theorem flush_8 : ∀ t : Fin cfg0.N, (cfg0.win 8).flush t = decide (t.val % 4 = 3) := (by decide +kernel : ∀ t : Fin grid0.N, _)
theorem fresh_8 : ∀ t : Fin cfg0.N, cfg0.fresh 8 t.val = decide (t.val % 4 = 0) := (by decide +kernel : ∀ t : Fin grid0.N, _)

/-- The tile of each operand a point reads, and the tile of each result it writes. -/
theorem tile_of : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val % 4, t.val / 4, 0] ∧ win0_7.index t = ![t.val % 4, t.val / 4, 0] ∧ win0_8.index t = ![t.val / 4, 0]
    ∧ win0_9.index t = ![t.val % 4, t.val / 4, 0] ∧ t.val / 4 < 8 :=
  (by decide +kernel : ∀ t : Fin grid0.N, _)

/-- The row of the whole arrays that row `p` of point `t`'s blocks is. -/
def row (t : Fin cfg0.N) (p : Fin 512) : Fin 4096 := ⟨t.val / 4 * 512 + p.val, by have := (tile_of t).2.2.2.2.2.2.2.2.2.2; have := p.isLt; omega⟩

theorem read_x (c : Dev nD) (t : Fin cfg0.N) (p : Fin 512) (d : Fin 1024) :
    iblk m c 0 t (ix2 p d) = m ((c : Thread nD τ).loc main_arg0) (ix2 (row t p) d) := by
  blk_ext [iblk, V, tile_of t, row]

theorem read_n (c : Dev nD) (t : Fin cfg0.N) (d : Fin 1024) : iblk m c 1 t (ix2 0 d) = m ((c : Thread nD τ).loc main_arg1) (ix2 0 d) := by
  blk_ext [iblk, V, tile_of t]

/-! ## What a point leaves -/

/-- The normalised rows: as the result holds them, and as the running buffer does. -/
def hrow (c : Dev nD) (t : Fin cfg0.N) : Vec F S512x1024 .bf16 := k0_pay3 (iblk m c 0 t) (iblk m c 1 t)
def hbuf (c : Dev nD) (t : Fin cfg0.N) : Vec F S512x1024 .bf16 := k0_pay4 (iblk m c 0 t) (iblk m c 1 t)

/-- The point before. -/
abbrev prev (t : Fin cfg0.N) : Fin cfg0.N := ⟨t.val - 1, lt_of_le_of_lt (Nat.sub_le _ _) t.isLt⟩

theorem x_prev (c : Dev nD) (t : Fin cfg0.N) (h : ¬t.val % 4 = 0) :
    (iblk m c 0 t : Vec F S512x1024 .f32) = iblk m c 0 (prev t) := by
  funext y
  have hy : y = ix2 (y 0) (y 1) := by funext a; revert a; exact Fin.forall_fin_two.mpr ⟨rfl, rfl⟩
  rw [hy]
  refine (read_x m c t _ _).trans (Eq.trans ?_ (read_x m c (prev t) _ _).symm)
  have e : row t (y 0) = row (prev t) (y 0) := Fin.ext (by
    show t.val / 4 * 512 + (y 0).val = (t.val - 1) / 4 * 512 + (y 0).val
    have : t.val / 4 = (t.val - 1) / 4 := by omega
    rw [this])
  rw [e]

theorem n_prev (c : Dev nD) (t : Fin cfg0.N) : (iblk m c 1 t : Vec F S1x1024 .f32) = iblk m c 1 (prev t) := by
  funext y
  have hy : y = ix2 0 (y 1) := by
    funext a; revert a; exact Fin.forall_fin_two.mpr ⟨Fin.ext (by have h : (y 0).val < 1 := (y 0).isLt; show (y 0).val = 0; omega), rfl⟩
  rw [hy]
  exact (read_n m c t _).trans (read_n m c (prev t) _).symm

theorem hrow_prev (c : Dev nD) (t : Fin cfg0.N) (h : ¬t.val % 4 = 0) : hrow m c t = hrow m c (prev t) :=
  congrArg₂ k0_pay3 (x_prev m c t h) (n_prev m c t)
theorem hbuf_prev (c : Dev nD) (t : Fin cfg0.N) (h : ¬t.val % 4 = 0) : hbuf m c t = hbuf m c (prev t) :=
  congrArg₂ k0_pay4 (x_prev m c t h) (n_prev m c t)

/-- One quarter's part added to the running sum. -/
def step (c : Dev nD) (t : Fin cfg0.N) (a : Vec F S512x1024 .f32) : Vec F S512x1024 .f32 :=
  k0_pay1 (k0_pay10 (hbuf m c t) (iblk m c 2 t) (iblk m c 3 t)) a (iblk m c 4 t)

/-- The running sum after a point. -/
def acc (c : Dev nD) : (n : ℕ) → n < cfg0.N → Vec F S512x1024 .f32
  | 0, h => step m c ⟨0, h⟩ k0_pay5
  | n + 1, h => step m c ⟨n + 1, h⟩ (if (n + 1) % 4 = 0 then k0_pay5 else acc c n (Nat.lt_of_succ_lt h))

theorem acc_first (c : Dev nD) (t : Fin cfg0.N) (h : t.val % 4 = 0) : acc m c t.val t.isLt = step m c t k0_pay5 := by
  obtain ⟨n, hn⟩ := t
  cases n with
  | zero => rfl
  | succ n => exact congrArg _ (if_pos h)

theorem acc_later (c : Dev nD) (t : Fin cfg0.N) (h : ¬t.val % 4 = 0) :
    acc m c t.val t.isLt = step m c t (acc m c (prev t).val (prev t).isLt) := by
  obtain ⟨n, hn⟩ := t
  cases n with
  | zero => exact absurd rfl h
  | succ n => exact congrArg _ (if_neg h)

/-- What the region keeps before position `n`: nothing named at the start; afterwards the normalised rows and the running sum. -/
def Phi (c : Dev nD) : (n : ℕ) → n ≤ cfg0.N → sProp 𝕄
  | 0, _ => Pipeline.ΦA spec0 c
  | n + 1, hn => iprop(iprop(owns (c : Thread nD τ) (Memref.whole cc0_scratch0) fullShare (hbuf m c ⟨n, hn⟩)
      ∗ owns (c : Thread nD τ) (Memref.whole cc0_scratch1) fullShare (acc m c n hn)) ∗ (∃ r, prngReg c r))

theorem Phi_pos (c : Dev nD) (n : ℕ) (h : n ≤ cfg0.N) (hz : n ≠ 0) :
    Phi m c n h = iprop(iprop(owns (c : Thread nD τ) (Memref.whole cc0_scratch0) fullShare (hbuf m c ⟨n - 1, by omega⟩)
      ∗ owns (c : Thread nD τ) (Memref.whole cc0_scratch1) fullShare (acc m c (n - 1) (by omega))) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- The named contents forgotten. -/
theorem Phi_any (c : Dev nD) (n : ℕ) (h : n ≤ cfg0.N) : Phi m c n h ⊢ Pipeline.ΦA spec0 c := by
  cases n with
  | zero => exact Idealize.SL.BI.Entails.refl _
  | succ n =>
    rw [Phi_pos m c _ h (Nat.succ_ne_zero n), PhiA_eq]
    iintro ⟨⟨HS0, HS1⟩, Hg⟩
    isplitl [HS0 HS1]
    · isplitl [HS0]
      · iexists _; iexact HS0
      iexists _; iexact HS1
    iexact Hg

/-- The arrays as the region finds them, and what the body leaves at each point in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (acc m c t.val t.isLt)
    | ⟨6, _⟩ => k0_pay8 (hbuf m c t) (iblk m c 2 t)
    | ⟨7, _⟩ => k0_pay9 (hbuf m c t) (iblk m c 3 t)
    | ⟨8, _⟩ => hrow m c t
    | ⟨9, _⟩ => k0_pay11 (hbuf m c t) (iblk m c 2 t) (iblk m c 3 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (iblk m c 0 t) (acc m c t.val t.isLt) := by dsimp only [dats]
theorem after_6 (c : Dev nD) (t : Fin cfg0.N) : (dats m 0 c).after 6 t = k0_pay8 (hbuf m c t) (iblk m c 2 t) := by dsimp only [dats]
theorem after_7 (c : Dev nD) (t : Fin cfg0.N) : (dats m 0 c).after 7 t = k0_pay9 (hbuf m c t) (iblk m c 3 t) := by dsimp only [dats]
theorem after_8 (c : Dev nD) (t : Fin cfg0.N) : (dats m 0 c).after 8 t = hrow m c t := by dsimp only [dats]
theorem after_9 (c : Dev nD) (t : Fin cfg0.N) : (dats m 0 c).after 9 t = k0_pay11 (hbuf m c t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Past the first quarter the rows' buffer still holds what the first quarter stored. -/
theorem before_8 (c : Dev nD) (t : Fin cfg0.N) (h : ¬t.val % 4 = 0) (d) : (dats m 0 c).before 8 t d = hrow m c t := by
  rw [(dats m 0 c).before_out_traj 8 rfl (fun _ _ => rfl) (fun t h0 hi _ => ?_) t.val t rfl d, fresh_8, if_neg (by simpa using h), after_8]
  · exact (hrow_prev m c t h).symm
  · rw [after_8, after_8]
    have hi' := (idle_8 t).symm.trans hi
    exact hrow_prev m c t (by simpa using hi')

/-- What a point that stores into a window's buffer, or that writes it back, leaves in it. -/
theorem leaves_live (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  cases hi : cfg0.idle w (grid0.coords t) with
  | false => rfl
  | true => rw [h.resolve_left (by rw [hi]; exact Bool.noConfusion)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point, by its place among the quarters. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = iprop(iprop(owns (c : Thread nD τ) (Memref.whole cc0_scratch0) fullShare (hbuf m c t)
      ∗ owns (c : Thread nD τ) (Memref.whole cc0_scratch1) fullShare (acc m c t.val t.isLt)) ∗ (∃ r, prngReg c r)) from rfl]
  rw [leaves_live m c 0 t (.inl rfl), leaves_live m c 1 t (.inl rfl), leaves_live m c 2 t (.inl rfl), leaves_live m c 3 t (.inl rfl), leaves_live m c 4 t (.inl rfl), leaves_live m c 6 t (.inl rfl), leaves_live m c 7 t (.inl rfl), leaves_live m c 9 t (.inl rfl)]
  rw [after_0, after_1, after_2, after_3, after_4, after_6, after_7, after_9, Phi_castSucc]
  by_cases h0 : t.val % 4 = 0
  · have h1 : ¬t.val % 4 = 3 := by omega
    rw [(dats m 0 c).leavesExact_idle 5 t (by rw [idle_5]; simp [h1]) (by rw [flush_5]; simp [h1])]
    rw [leaves_live m c 8 t (.inl (by rw [idle_8]; simp [h0])), after_8]
    rw [acc_first m c t h0]
    refine (BIClass.sep_mono (Phi_any m c _ _) (Idealize.SL.BI.Entails.refl _)).trans ?_
    rw [PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ _ _ _ _ ((cond1_iff t).mpr h0) (fun h => h1 ((cond2_iff t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexact H6
    isplitl [H7]; · iexact H7
    isplitl [H8]; · iexact H8
    iexact H9
  · by_cases h1 : t.val % 4 = 3
    · rw [leaves_live m c 5 t (.inl (by rw [idle_5]; simp [h1])), after_5]
      rw [leaves_live m c 8 t (.inr (by rw [flush_8]; simp [h1])), after_8]
      simp only [before_8 m c t h0]
      rw [acc_later m c t h0, Phi_pos m c t.val _ (fun h => h0 (by rw [h]))]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) _ _ _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) (hbuf m c t) (acc m c (prev t).val (prev t).isLt) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexists _; iexact H9
      isplitl [HS0]; · rw [hbuf_prev m c t h0]; iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [(dats m 0 c).leavesExact_idle 5 t (by rw [idle_5]; simp [h1]) (by rw [flush_5]; simp [h1])]
      rw [(dats m 0 c).leavesExact_idle 8 t (by rw [idle_8]; simp [h0]) (by rw [flush_8]; simp [h1])]
      simp only [before_8 m c t h0]
      rw [acc_later m c t h0, Phi_pos m c t.val _ (fun h => h0 (by rw [h]))]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) _ _ _ _ _ _ _ _ _ _ _ _ _ _ _ _ _ _ _ _ _ _ _ _ (fun h => h0 ((cond1_iff t).mp h)) (fun h => h1 ((cond2_iff t).mp h)) (iblk m c 0 t) (iblk m c 1 t) (iblk m c 2 t) (iblk m c 3 t) (iblk m c 4 t) (hbuf m c t) (acc m c (prev t).val (prev t).isLt) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexists _; iexact H9
      isplitl [HS0]; · rw [hbuf_prev m c t h0]; iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      isplitl [H7]; · iexact H7
      isplitl [H8]; · iexists d8; iexact H8
      iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N (Nat.le_refl _) from rfl]
  exact Phi_any m c _ _

set_option backward.isDefEq.respectTransparency.types false in
/-- Every execution ends, with every array at what the points wrote back and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The five results end as the points wrote them back, and the arguments as they were. -/
theorem results : θ_run defs (onTc (τ := τ) (main (F := F))) ⟨m, fun _ => 0, ρ⟩ fun r => ∀ c : Dev nD,
      (r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨⟨(h.1.1 c).1 5, (h.1.1 c).1 6, (h.1.1 c).1 7, (h.1.1 c).1 8, (h.1.1 c).1 9⟩, h.2.1 c⟩)
    (θ_run_and (run_main m ρ) (frame m ρ))

end Cert.FirstIdeal.Hand

end
-- ==== Proof.FirstValue.lean ====
/-
  What the first feed-forward block's forward kernel leaves in its results: the normalised rows, the two hidden products, the activations, and
  the block's output, whose sum over the 2816 hidden units the points collect a quarter at a time.
-/
module

public import proofs.«01_k».proof.Proof.FirstFrame
public import proofs.«01_k».proof.Proof.Ext
public import proofs.«01_k».proof.Proof.Gen.FirstRefIdeal.Read
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FirstIdeal.Sum

open Cert.FirstIdeal Cert.FirstIdeal.Gen Cert.FirstIdeal.Hand Cert.FirstRefIdeal.Read Cert.Ext

/-- Hidden unit `q` of quarter `j`. -/
def unit (j : Fin 4) (q : Fin 704) : Fin 2816 := ⟨j.val * 704 + q.val, by have := j.isLt; have := q.isLt; omega⟩

/-! ## The reference at an index -/

section Reference

variable (x : FVec Ideal S4096x1024 .f32) (n : FVec Ideal S1x1024 .f32) (g u : FVec Ideal S4x1024x704 .bf16) (w : FVec Ideal S4x704x1024 .bf16)

/-- The logistic function. -/
abbrev sg (z : EReal) : EReal := Ideal.div 1 (1 + Ideal.exp (-z))

theorem ref_h (s : Fin 4096) (d : Fin 1024) : val_main_v11 (F := Ideal) x n (ix2 s d)
    = x (ix2 s d) * Ideal.rsqrt (Ideal.div (∑ k : Fin 1024, x (ix2 s k) * x (ix2 s k)) (Ideal.ofBits .f32 1149239296#32) + Ideal.ofBits .f32 897988541#32) * n (ix2 0 d) := by
  pointwise [val_main_v11, val_main_v10, val_main_v9, val_main_v8, val_main_v7, val_main_v6, val_main_v5, val_main_v4, val_main_v3, val_main_v2, val_main_v1, val_main_v0, val_main_cst, val_main_cst_0, val_main_cst_1]

/-- The weights with the quarters laid side by side. -/
theorem ref_wg (k : Fin 1024) (j : Fin 4) (q : Fin 704) : val_main_v14 (F := Ideal) g (ix2 k (unit j q)) = g (ix3 j k q) := by
  have hj := j.isLt
  have hq := q.isLt
  have hk := k.isLt
  rw [val_main_v14_apply, val_main_v13_apply]
  refine congrArg g (funext fun a => ?_)
  match a with
  | ⟨0, _⟩ => exact Fin.ext (show (k.val * 2816 + (j.val * 704 + q.val)) / 704 % 4 = j.val by omega)
  | ⟨1, _⟩ => exact Fin.ext (show (k.val * 2816 + (j.val * 704 + q.val)) / 2816 = k.val by omega)
  | ⟨2, _⟩ => exact Fin.ext (show (k.val * 2816 + (j.val * 704 + q.val)) % 704 = q.val by omega)

theorem ref_wu (k : Fin 1024) (j : Fin 4) (q : Fin 704) : val_main_v18 (F := Ideal) u (ix2 k (unit j q)) = u (ix3 j k q) :=
  ref_wg u k j q

theorem ref_wd (j : Fin 4) (q : Fin 704) (d : Fin 1024) : val_main_v23 (F := Ideal) w (ix2 (unit j q) d) = w (ix3 j q d) := by
  have hj := j.isLt
  have hq := q.isLt
  have hd := d.isLt
  rw [val_main_v23_apply]
  refine congrArg w (funext fun a => ?_)
  match a with
  | ⟨0, _⟩ => exact Fin.ext (show ((j.val * 704 + q.val) * 1024 + d.val) / (704 * 1024) = j.val by omega)
  | ⟨1, _⟩ => exact Fin.ext (show ((j.val * 704 + q.val) * 1024 + d.val) / 1024 % 704 = q.val by omega)
  | ⟨2, _⟩ => exact Fin.ext (show ((j.val * 704 + q.val) * 1024 + d.val) % 1024 = d.val by omega)

theorem ref_g (s : Fin 4096) (j : Fin 4) (q : Fin 704) : val_main_v15 (F := Ideal) x n g (ix2 s (unit j q))
    = ∑ k : Fin 1024, val_main_v11 (F := Ideal) x n (ix2 s k) * g (ix3 j k q) := by
  have e : val_main_v15 (F := Ideal) x n g (ix2 s (unit j q))
      = ∑ k : Fin 1024, val_main_v11 (F := Ideal) x n (ix2 s k) * val_main_v14 (F := Ideal) g (ix2 k (unit j q)) := by
    pointwise [val_main_v15]
  rw [e]
  simp only [ref_wg]

theorem ref_u (s : Fin 4096) (j : Fin 4) (q : Fin 704) : val_main_v19 (F := Ideal) x n u (ix2 s (unit j q))
    = ∑ k : Fin 1024, val_main_v11 (F := Ideal) x n (ix2 s k) * u (ix3 j k q) :=
  ref_g x n u s j q

theorem ref_a (s : Fin 4096) (f : Fin 2816) : val_main_v21 (F := Ideal) x n g u (ix2 s f)
    = val_main_v15 (F := Ideal) x n g (ix2 s f) * sg (val_main_v15 (F := Ideal) x n g (ix2 s f)) * val_main_v19 (F := Ideal) x n u (ix2 s f) := by
  pointwise [val_main_v21, val_main_v20, val_main_call0_v5, val_main_call0_v4, val_main_call0_v3, val_main_call0_v2, val_main_call0_v1, val_main_call0_v0, val_main_call0_cst, val_main_call0_cst_0]

theorem ref_y (s : Fin 4096) (d : Fin 1024) : val_main_v27 (F := Ideal) x n g u w (ix2 s d)
    = x (ix2 s d) + Ideal.ofBits .f32 0x3F000000#32 * ∑ j : Fin 4, ∑ q : Fin 704, val_main_v21 (F := Ideal) x n g u (ix2 s (unit j q)) * w (ix3 j q d) := by
  have e : val_main_v27 (F := Ideal) x n g u w (ix2 s d)
      = x (ix2 s d) + Ideal.ofBits .f32 0x3F000000#32 * ∑ f : Fin 2816, val_main_v21 (F := Ideal) x n g u (ix2 s f) * val_main_v23 (F := Ideal) w (ix2 f d) := by
    pointwise [val_main_v27, val_main_v26, val_main_v25, val_main_cst_2, val_main_v24]
  rw [e, Fin.sum_univ_tiles 4 704 rfl]
  simp only [← ref_wd]
  rfl

/-- The results by quarters. -/
theorem ref_gs (j : Fin 4) (s : Fin 4096) (q : Fin 704) : val_main_v29 (F := Ideal) x n g (ix3 j s q) = val_main_v15 (F := Ideal) x n g (ix2 s (unit j q)) := by
  have hj := j.isLt
  have hq := q.isLt
  rw [val_main_v29_apply, val_main_v28_apply]
  refine congrArg _ (funext fun a => ?_)
  match a with
  | ⟨0, _⟩ => exact Fin.ext (show ((s.val * 4 + j.val) * 704 + q.val) / 2816 = s.val by omega)
  | ⟨1, _⟩ => exact Fin.ext (show ((s.val * 4 + j.val) * 704 + q.val) % 2816 = j.val * 704 + q.val by omega)

theorem ref_us (j : Fin 4) (s : Fin 4096) (q : Fin 704) : val_main_v31 (F := Ideal) x n u (ix3 j s q) = val_main_v19 (F := Ideal) x n u (ix2 s (unit j q)) :=
  ref_gs x n u j s q

theorem ref_as (j : Fin 4) (s : Fin 4096) (q : Fin 704) : val_main_v35 (F := Ideal) x n g u (ix3 j s q) = val_main_v21 (F := Ideal) x n g u (ix2 s (unit j q)) := by
  have hj := j.isLt
  have hq := q.isLt
  show val_main_v34 (F := Ideal) x n g u (ix3 j s q) = _
  rw [val_main_v34_apply, val_main_v33_apply]
  refine congrArg _ (funext fun a => ?_)
  match a with
  | ⟨0, _⟩ => exact Fin.ext (show ((s.val * 4 + j.val) * 704 + q.val) / 2816 = s.val by omega)
  | ⟨1, _⟩ => exact Fin.ext (show ((s.val * 4 + j.val) * 704 + q.val) % 2816 = j.val * 704 + q.val by omega)

end Reference

/-! ## The kernel's terms at an index -/

theorem h_at (X : FVec Ideal S512x1024 .f32) (N : FVec Ideal S1x1024 .f32) (p : Fin 512) (d : Fin 1024) :
    k0_pay3 (F := Ideal) X N (ix2 p d)
      = X (ix2 p d) * Ideal.rsqrt (Ideal.div (∑ k : Fin 1024, X (ix2 p k) * X (ix2 p k)) (Ideal.ofBits .f32 1149239296#32) + Ideal.ofBits .f32 897988541#32) * N (ix2 0 d) := by
  pointwise [k0_pay3]

theorem hs_at (X : FVec Ideal S512x1024 .f32) (N : FVec Ideal S1x1024 .f32) (p : Fin 512) (d : Fin 1024) :
    k0_pay4 (F := Ideal) X N (ix2 p d) = k0_pay3 (F := Ideal) X N (ix2 p d) := by
  pointwise [k0_pay4]

theorem g_at (H : FVec Ideal S512x1024 .bf16) (W : FVec Ideal S1x1024x704 .bf16) (p : Fin 512) (q : Fin 704) :
    k0_pay6 (F := Ideal) H W (ix2 p q) = ∑ k : Fin 1024, H (ix2 p k) * W (ix3 0 k q) := by
  pointwise [k0_pay6]

theorem u_at (H : FVec Ideal S512x1024 .bf16) (W : FVec Ideal S1x1024x704 .bf16) (p : Fin 512) (q : Fin 704) :
    k0_pay7 (F := Ideal) H W (ix2 p q) = ∑ k : Fin 1024, H (ix2 p k) * W (ix3 0 k q) := by
  pointwise [k0_pay7]

theorem gs_at (H : FVec Ideal S512x1024 .bf16) (W : FVec Ideal S1x1024x704 .bf16) (p : Fin 512) (q : Fin 704) :
    k0_pay8 (F := Ideal) H W (ix3 0 p q) = k0_pay6 (F := Ideal) H W (ix2 p q) := by
  pointwise [k0_pay8]

theorem us_at (H : FVec Ideal S512x1024 .bf16) (W : FVec Ideal S1x1024x704 .bf16) (p : Fin 512) (q : Fin 704) :
    k0_pay9 (F := Ideal) H W (ix3 0 p q) = k0_pay7 (F := Ideal) H W (ix2 p q) := by
  pointwise [k0_pay9]

theorem a_at (H : FVec Ideal S512x1024 .bf16) (W V : FVec Ideal S1x1024x704 .bf16) (p : Fin 512) (q : Fin 704) :
    k0_pay10 (F := Ideal) H W V (ix2 p q)
      = k0_pay6 (F := Ideal) H W (ix2 p q) * sg (k0_pay6 (F := Ideal) H W (ix2 p q)) * k0_pay7 (F := Ideal) H V (ix2 p q) := by
  pointwise [k0_pay10]
  simp only [zero_sub]

theorem as_at (H : FVec Ideal S512x1024 .bf16) (W V : FVec Ideal S1x1024x704 .bf16) (p : Fin 512) (q : Fin 704) :
    k0_pay11 (F := Ideal) H W V (ix3 0 p q) = k0_pay10 (F := Ideal) H W V (ix2 p q) := by
  pointwise [k0_pay11]

theorem start (p : Fin 512) (d : Fin 1024) : k0_pay5 (F := Ideal) (ix2 p d) = 0 := by
  pointwise [k0_pay5]

theorem add_quarter (A : FVec Ideal S512x704 .bf16) (S : FVec Ideal S512x1024 .f32) (W : FVec Ideal S1x704x1024 .bf16) (p : Fin 512) (d : Fin 1024) :
    k0_pay1 (F := Ideal) A S W (ix2 p d) = S (ix2 p d) + ∑ q : Fin 704, A (ix2 p q) * W (ix3 0 q d) := by
  pointwise [k0_pay1]

theorem out_at (X S : FVec Ideal S512x1024 .f32) (p : Fin 512) (d : Fin 1024) :
    k0_pay2 (F := Ideal) X S (ix2 p d) = X (ix2 p d) + Ideal.ofBits .f32 0x3F000000#32 * S (ix2 p d) := by
  pointwise [k0_pay2]

/-! ## A point's blocks in the reference's words -/

variable (m : (ℓ : Loc nD τ sig) → Buf (Elt Ideal) ℓ)

/-- The argument arrays, as a device finds them. -/
abbrev ax (c : Dev nD) : FVec Ideal S4096x1024 .f32 := m ((c : Thread nD τ).loc main_arg0)
abbrev an (c : Dev nD) : FVec Ideal S1x1024 .f32 := m ((c : Thread nD τ).loc main_arg1)
abbrev ag (c : Dev nD) : FVec Ideal S4x1024x704 .bf16 := m ((c : Thread nD τ).loc main_arg2)
abbrev au (c : Dev nD) : FVec Ideal S4x1024x704 .bf16 := m ((c : Thread nD τ).loc main_arg3)
abbrev aw (c : Dev nD) : FVec Ideal S4x704x1024 .bf16 := m ((c : Thread nD τ).loc main_arg4)

/-- The quarter of the hidden units a point works on. -/
def quarter (t : Fin cfg0.N) : Fin 4 := ⟨t.val % 4, Nat.mod_lt _ (by decide)⟩

theorem read_g (c : Dev nD) (t : Fin cfg0.N) (k : Fin 1024) (q : Fin 704) : iblk m c 2 t (ix3 0 k q) = ag m c (ix3 (quarter t) k q) := by
  blk_ext [iblk, V, tile_of t, quarter]

theorem read_u (c : Dev nD) (t : Fin cfg0.N) (k : Fin 1024) (q : Fin 704) : iblk m c 3 t (ix3 0 k q) = au m c (ix3 (quarter t) k q) := by
  blk_ext [iblk, V, tile_of t, quarter]

theorem read_w (c : Dev nD) (t : Fin cfg0.N) (q : Fin 704) (d : Fin 1024) : iblk m c 4 t (ix3 0 q d) = aw m c (ix3 (quarter t) q d) := by
  blk_ext [iblk, V, tile_of t, quarter]

/-- The normalised rows. -/
theorem h_row (c : Dev nD) (t : Fin cfg0.N) (p : Fin 512) (d : Fin 1024) :
    hrow m c t (ix2 p d) = val_main_v11 (F := Ideal) (ax m c) (an m c) (ix2 (row t p) d) := by
  unfold hrow
  rw [h_at, ref_h]
  simp only [read_x, read_n]

theorem hs_row (c : Dev nD) (t : Fin cfg0.N) (p : Fin 512) (d : Fin 1024) :
    hbuf m c t (ix2 p d) = val_main_v11 (F := Ideal) (ax m c) (an m c) (ix2 (row t p) d) :=
  (hs_at _ _ p d).trans (h_row m c t p d)

/-- The gate's product. -/
theorem g_row (c : Dev nD) (t : Fin cfg0.N) (p : Fin 512) (q : Fin 704) :
    k0_pay6 (F := Ideal) (hbuf m c t) (iblk m c 2 t) (ix2 p q)
      = val_main_v15 (F := Ideal) (ax m c) (an m c) (ag m c) (ix2 (row t p) (unit (quarter t) q)) := by
  rw [g_at, ref_g]
  simp only [hs_row, read_g]

/-- The up projection's product. -/
theorem u_row (c : Dev nD) (t : Fin cfg0.N) (p : Fin 512) (q : Fin 704) :
    k0_pay7 (F := Ideal) (hbuf m c t) (iblk m c 3 t) (ix2 p q)
      = val_main_v19 (F := Ideal) (ax m c) (an m c) (au m c) (ix2 (row t p) (unit (quarter t) q)) := by
  rw [u_at, ref_u]
  simp only [hs_row, read_u]

/-- The activations. -/
theorem a_row (c : Dev nD) (t : Fin cfg0.N) (p : Fin 512) (q : Fin 704) :
    k0_pay10 (F := Ideal) (hbuf m c t) (iblk m c 2 t) (iblk m c 3 t) (ix2 p q)
      = val_main_v21 (F := Ideal) (ax m c) (an m c) (ag m c) (au m c) (ix2 (row t p) (unit (quarter t) q)) := by
  rw [a_at, ref_a, g_row, u_row]

/-- A point's part of the sum over the hidden units, at row `s`. -/
def part (c : Dev nD) (j : Fin 4) (s : Fin 4096) (d : Fin 1024) : EReal :=
  ∑ q : Fin 704, val_main_v21 (F := Ideal) (ax m c) (an m c) (ag m c) (au m c) (ix2 s (unit j q)) * aw m c (ix3 j q d)

theorem step_at (c : Dev nD) (t : Fin cfg0.N) (S : FVec Ideal S512x1024 .f32) (p : Fin 512) (d : Fin 1024) :
    step m c t S (ix2 p d) = S (ix2 p d) + part m c (quarter t) (row t p) d := by
  unfold step part
  rw [add_quarter]
  simp only [a_row, read_w]

/-- After the last quarter the running sum is over all hidden units. -/
theorem all (c : Dev nD) (t : Fin cfg0.N) (ht : t.val % 4 = 3) (p : Fin 512) (d : Fin 1024) :
    acc m c t.val t.isLt (ix2 p d) = ∑ j : Fin 4, part m c j (row t p) d := by
  have sum := Pipeline.eq_sum_fin_of_reset_step_apply_of_flush (fun n h (i : Fin 512 × Fin 1024) => acc m c n h (ix2 i.1 i.2)) 4 (fun _ => 0)
    (fun t i => part m c (quarter t) (row t i.1) i.2)
    (fun t h i => by rw [acc_first m c t h, step_at, start]) (fun t h i => by rw [acc_later m c t h, step_at]) t ht (p, d)
  refine sum.trans ((zero_add _).trans (Finset.sum_congr rfl fun j _ => ?_))
  have hj : j.val < 4 := j.isLt
  have e1 : (4 * (t.val / 4) + j.val) % 4 = j.val := by omega
  have e2 : (4 * (t.val / 4) + j.val) / 4 = t.val / 4 := by omega
  exact congrArg₂ (fun a b => part m c a b d) (Fin.ext e1)
    (Fin.ext (show (4 * (t.val / 4) + j.val) / 4 * 512 + p.val = t.val / 4 * 512 + p.val by rw [e2]))

/-- The block's output. -/
theorem y_row (c : Dev nD) (t : Fin cfg0.N) (ht : t.val % 4 = 3) (p : Fin 512) (d : Fin 1024) :
    k0_pay2 (F := Ideal) (iblk m c 0 t) (acc m c t.val t.isLt) (ix2 p d)
      = val_main_v27 (F := Ideal) (ax m c) (an m c) (ag m c) (au m c) (aw m c) (ix2 (row t p) d) := by
  rw [out_at, ref_y, all m c t ht, read_x]
  rfl

/-! ## The results -/

theorem flat (y : S512x1024.Idx) : y = ix2 (y 0) (y 1) := by
  funext a; revert a; exact Fin.forall_fin_two.mpr ⟨rfl, rfl⟩

theorem tall (y : S1x512x704.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

theorem final_y (c : Dev nD) : (dats m 0 c).arrAt 5 cfg0.N
    = val_main_v27 (F := Ideal) (ax m c) (an m c) (ag m c) (au m c) (aw m c) := by
  refine (dats m 0 c).arrAt_eq_of_covers 5 _ (by decide +kernel) fun t hf y => ?_
  have ht : t.val % 4 = 3 := (flush0_5 t).mp hf
  rw [after_5]
  refine (congrArg _ (flat y)).trans ((y_row m c t ht (y 0) (y 1)).trans ?_)
  blk_ext [tile_of t, row]

theorem final_g (c : Dev nD) : (dats m 0 c).arrAt 6 cfg0.N = val_main_v29 (F := Ideal) (ax m c) (an m c) (ag m c) := by
  refine (dats m 0 c).arrAt_eq_of_covers 6 _ (by decide +kernel) fun t hf y => ?_
  have h0 : (y 0).val < 1 := (y 0).isLt
  rw [after_6]
  refine (congrArg _ (tall y)).trans ((gs_at _ _ (y 1) (y 2)).trans ((g_row m c t (y 1) (y 2)).trans ((ref_gs _ _ _ _ _ _).symm.trans ?_)))
  blk_ext [tile_of t, row, quarter]

theorem final_u (c : Dev nD) : (dats m 0 c).arrAt 7 cfg0.N = val_main_v31 (F := Ideal) (ax m c) (an m c) (au m c) := by
  refine (dats m 0 c).arrAt_eq_of_covers 7 _ (by decide +kernel) fun t hf y => ?_
  have h0 : (y 0).val < 1 := (y 0).isLt
  rw [after_7]
  refine (congrArg _ (tall y)).trans ((us_at _ _ (y 1) (y 2)).trans ((u_row m c t (y 1) (y 2)).trans ((ref_us _ _ _ _ _ _).symm.trans ?_)))
  blk_ext [tile_of t, row, quarter]

theorem final_h (c : Dev nD) : (dats m 0 c).arrAt 8 cfg0.N = val_main_v32 (F := Ideal) (ax m c) (an m c) := by
  refine (dats m 0 c).arrAt_eq_of_covers 8 _ (by decide +kernel) fun t hf y => ?_
  have e : ∀ i, val_main_v32 (F := Ideal) (ax m c) (an m c) i = val_main_v11 (F := Ideal) (ax m c) (an m c) i := fun i => rfl
  rw [after_8]
  refine (congrArg _ (flat y)).trans ((h_row m c t (y 0) (y 1)).trans ((e _).symm.trans ?_))
  blk_ext [tile_of t, row]

theorem final_a (c : Dev nD) : (dats m 0 c).arrAt 9 cfg0.N = val_main_v35 (F := Ideal) (ax m c) (an m c) (ag m c) (au m c) := by
  refine (dats m 0 c).arrAt_eq_of_covers 9 _ (by decide +kernel) fun t hf y => ?_
  have h0 : (y 0).val < 1 := (y 0).isLt
  rw [after_9]
  refine (congrArg _ (tall y)).trans ((as_at _ _ _ (y 1) (y 2)).trans ((a_row m c t (y 1) (y 2)).trans ((ref_as _ _ _ _ _ _ _).symm.trans ?_)))
  blk_ext [tile_of t, row, quarter]

end Cert.FirstIdeal.Sum

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Join
public import proofs.«01_k».proof.Proof.Gen.Join.Skeleton
public import proofs.«01_k».proof.Proof.Gen.Join.Launch
public import proofs.«01_k».proof.Proof.Gen.Join.Points
public import proofs.«01_k».proof.Proof.Gen.Join.Frame
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.JoinRefIdeal.Read
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Low
public import proofs.«01_k».proof.Proof.Gen.Low.Skeleton
public import proofs.«01_k».proof.Proof.Gen.Low.Launch
public import proofs.«01_k».proof.Proof.Gen.Low.Points
public import proofs.«01_k».proof.Proof.Gen.Low.Frame
public import proofs.«01_k».proof.Proof.Gen.LowIdeal
public import proofs.«01_k».proof.Proof.Gen.LowIdeal.Skeleton
public import proofs.«01_k».proof.Proof.Gen.LowIdeal.Launch
public import proofs.«01_k».proof.Proof.Gen.LowIdeal.Points
public import proofs.«01_k».proof.Proof.Gen.LowIdeal.Frame
public import proofs.«01_k».proof.Proof.Gen.LowIdeal.Value
public import proofs.«01_k».proof.Proof.Gen.LowRefIdeal
public import proofs.«01_k».proof.Proof.Gen.LowRefIdeal.Run
public import proofs.«01_k».proof.Proof.Gen.LowRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.Rate
public import proofs.«01_k».proof.Proof.Gen.RateIdeal
public import proofs.«01_k».proof.Proof.Gen.RateIdeal.Value
public import proofs.«01_k».proof.Proof.Gen.RateRefIdeal
public import proofs.«01_k».proof.Proof.Gen.RateRefIdeal.Run
public import proofs.«01_k».proof.Proof.Gen.RateRefIdeal.Read
public import proofs.«01_k».proof.Proof.Gen.Total
public import proofs.«01_k».proof.Proof.Gen.TotalIdeal
public import proofs.«01_k».proof.Proof.Gen.TotalIdeal.Value
public import proofs.«01_k».proof.Proof.Gen.TotalRefIdeal
public import proofs.«01_k».proof.Proof.Gen.TotalRefIdeal.Run
public import proofs.«01_k».proof.Proof.Gen.TotalRefIdeal.Read
public import proofs.«01_k».proof.Proof.RateValue
public import proofs.«01_k».proof.Proof.Gen.Layer
public import proofs.«01_k».proof.Proof.Gen.LayerIdeal
public import proofs.«01_k».proof.Proof.Gen.LayerIdeal.Value
public import proofs.«01_k».proof.Proof.Gen.LayerRefIdeal
public import proofs.«01_k».proof.Proof.Gen.LayerRefIdeal.Run
public import proofs.«01_k».proof.Proof.Gen.LayerRefIdeal.Read
public import proofs.«01_k».proof.Proof.Gen.Layer.Frame
public import proofs.«01_k».proof.Proof.Gen.LayerIdeal.Frame
public import proofs.«01_k».proof.Proof.Gen.Enter
public import proofs.«01_k».proof.Proof.Gen.EnterIdeal
public import proofs.«01_k».proof.Proof.Gen.EnterIdeal.Value
public import proofs.«01_k».proof.Proof.Gen.EnterRefIdeal
public import proofs.«01_k».proof.Proof.Gen.EnterRefIdeal.Run
public import proofs.«01_k».proof.Proof.Gen.EnterRefIdeal.Read
public import proofs.«01_k».proof.Proof.Gen.Enter.Frame
public import proofs.«01_k».proof.Proof.Gen.EnterIdeal.Frame
public import proofs.«01_k».proof.Proof.Gen.Leave
public import proofs.«01_k».proof.Proof.Gen.LeaveIdeal
public import proofs.«01_k».proof.Proof.Gen.LeaveIdeal.Value
public import proofs.«01_k».proof.Proof.Gen.LeaveRefIdeal
public import proofs.«01_k».proof.Proof.Gen.LeaveRefIdeal.Run
public import proofs.«01_k».proof.Proof.Gen.LeaveRefIdeal.Read
public import proofs.«01_k».proof.Proof.Gen.Leave.Frame
public import proofs.«01_k».proof.Proof.Gen.LeaveIdeal.Frame
public import proofs.«01_k».proof.Proof.LargeValue
public import proofs.«01_k».proof.Proof.Gen.Rate.Frame
public import proofs.«01_k».proof.Proof.Gen.RateIdeal.Frame
public import proofs.«01_k».proof.Proof.Gen.Total.Frame
public import proofs.«01_k».proof.Proof.Gen.TotalIdeal.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.FirstRefIdeal.Run
public import proofs.«01_k».proof.Proof.Gen.FirstRefIdeal.Read
public import proofs.«01_k».proof.Proof.FfnValue
public import proofs.«01_k».proof.Proof.FfnFinite
public import proofs.«01_k».proof.Proof.UpValue
public import proofs.«01_k».proof.Proof.DownValue
public import proofs.«01_k».proof.Proof.InValue
public import proofs.«01_k».proof.Proof.OutValue
public import proofs.«01_k».proof.Proof.MixValue
public import proofs.«01_k».proof.Proof.LossValue
public import proofs.«01_k».proof.Proof.LastValue
public import proofs.«01_k».proof.Proof.JoinValue
public import proofs.«01_k».proof.Proof.HeadValue
public import proofs.«01_k».proof.Proof.GateValue
public import proofs.«01_k».proof.Proof.LowValue
public import proofs.«01_k».proof.Proof.ProjValue
public import proofs.«01_k».proof.Proof.FirstValue
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

theorem keeps_ffn_reference : Cert.quiescent_FfnRefIdeal := fun m ρ _ =>
  (θ_run _ _ _).mono (fun r h => ⟨fun c => by obtain ⟨_, _, _, _, _, k⟩ := h c; exact k, Idealize.ShloMosaic.sem_eq_zero_of_no_sems rfl _⟩)
    (Cert.FfnRefIdeal.Value.run m ρ)

theorem keeps_up_reference : Cert.quiescent_UpRefIdeal := fun m ρ _ =>
  (θ_run _ _ _).mono (fun r h => ⟨fun c => (h c).2, Idealize.ShloMosaic.sem_eq_zero_of_no_sems rfl _⟩)
    (Cert.UpRefIdeal.Value.run m ρ)

theorem keeps_down_reference : Cert.quiescent_DownRefIdeal := fun m ρ _ =>
  (θ_run _ _ _).mono (fun r h => ⟨fun c => (h c).2, Idealize.ShloMosaic.sem_eq_zero_of_no_sems rfl _⟩)
    (Cert.DownRefIdeal.Value.run m ρ)

theorem keeps_in_reference : Cert.quiescent_InRefIdeal := fun m ρ _ =>
  (θ_run _ _ _).mono (fun r h => ⟨fun c => by obtain ⟨_, _, k⟩ := h c; exact k, Idealize.ShloMosaic.sem_eq_zero_of_no_sems rfl _⟩)
    (Cert.InRefIdeal.Value.run m ρ)

theorem keeps_out_reference : Cert.quiescent_OutRefIdeal := fun m ρ _ =>
  (θ_run _ _ _).mono (fun r h => ⟨fun c => by obtain ⟨_, _, _, _, _, _, k⟩ := h c; exact k, Idealize.ShloMosaic.sem_eq_zero_of_no_sems rfl _⟩)
    (Cert.OutRefIdeal.Value.run m ρ)

theorem keeps_mix_reference : Cert.quiescent_MixRefIdeal := fun m ρ _ =>
  (θ_run _ _ _).mono (fun r h => ⟨fun c => (h c).2, Idealize.ShloMosaic.sem_eq_zero_of_no_sems rfl _⟩)
    (Cert.MixRefIdeal.Value.run m ρ)

theorem keeps_loss_reference : Cert.quiescent_LossRefIdeal := fun m ρ _ =>
  (θ_run _ _ _).mono (fun r h => ⟨fun c => by obtain ⟨_, _, _, _, _, _, k⟩ := h c; exact k, Idealize.ShloMosaic.sem_eq_zero_of_no_sems rfl _⟩)
    (Cert.LossRefIdeal.Value.run m ρ)

theorem keeps_last_reference : Cert.quiescent_LastRefIdeal := fun m ρ _ =>
  (θ_run _ _ _).mono (fun r h => ⟨fun c => (h c).2, Idealize.ShloMosaic.sem_eq_zero_of_no_sems rfl _⟩)
    (Cert.LastRefIdeal.Value.run m ρ)

theorem keeps_join_reference : Cert.quiescent_JoinRefIdeal := fun m ρ _ =>
  (θ_run _ _ _).mono (fun r h => ⟨fun c => (h c).2, Idealize.ShloMosaic.sem_eq_zero_of_no_sems rfl _⟩)
    (Cert.JoinRefIdeal.Value.run m ρ)

theorem keeps_head_reference : Cert.quiescent_HeadRefIdeal := fun m ρ _ =>
  (θ_run _ _ _).mono (fun r h => ⟨fun c => by obtain ⟨_, _, k⟩ := h c; exact k, Idealize.ShloMosaic.sem_eq_zero_of_no_sems rfl _⟩)
    (Cert.HeadRefIdeal.Value.run m ρ)

theorem keeps_gate_reference : Cert.quiescent_GateRefIdeal := fun m ρ _ =>
  (θ_run _ _ _).mono (fun r h => ⟨fun c => (h c).2, Idealize.ShloMosaic.sem_eq_zero_of_no_sems rfl _⟩)
    (Cert.GateRefIdeal.Value.run m ρ)

theorem keeps_low_reference : Cert.quiescent_LowRefIdeal := fun m ρ _ =>
  (θ_run _ _ _).mono (fun r h => ⟨fun c => (h c).2, Idealize.ShloMosaic.sem_eq_zero_of_no_sems rfl _⟩)
    (Cert.LowRefIdeal.Value.run m ρ)

theorem keeps_proj_reference : Cert.quiescent_ProjRefIdeal := fun m ρ _ =>
  (θ_run _ _ _).mono (fun r h => ⟨fun c => (h c).2, Idealize.ShloMosaic.sem_eq_zero_of_no_sems rfl _⟩)
    (Cert.ProjRefIdeal.Value.run m ρ)

theorem keeps_first_reference : Cert.quiescent_FirstRefIdeal := fun m ρ _ =>
  (θ_run _ _ _).mono (fun r h => ⟨fun c => by obtain ⟨_, _, _, _, _, k⟩ := h c; exact k, Idealize.ShloMosaic.sem_eq_zero_of_no_sems rfl _⟩)
    (Cert.FirstRefIdeal.Value.run m ρ)

/-- The two programs of the forward kernel have one text, so their tables of bodies are the same. -/
theorem first_bodies : Cert.First.defs (F := Bits) = Cert.FirstIdeal.defs (F := Bits) := by
  have h : Cert.First.defs₀ (F := Bits) = Cert.FirstIdeal.defs₀ (F := Bits) := by
    unfold Cert.First.defs₀ Cert.FirstIdeal.defs₀
    refine congrArg Defs.onTc (funext fun l => funext fun x => ?_)
    obtain ⟨n, hn⟩ := l
    match n, hn with
    | 0, _ => rfl
  unfold Cert.First.defs Cert.FirstIdeal.defs
  exact congrArg (Pipeline.defs (Cert.FirstIdeal.pcfgs (F := Bits))) h

/-- The run of the forward kernel is over any values, so it gives the frame of the program over words too. -/
theorem keeps_first : Cert.quiescent_First := fun m ρ _ => by
  rw [first_bodies]
  exact Cert.FirstIdeal.Hand.frame (F := Bits) m ρ

theorem keeps_rate_reference : Cert.quiescent_RateRefIdeal := fun m ρ _ =>
  (θ_run _ _ _).mono (fun r h => ⟨fun c => by obtain ⟨_, _, _, _, k⟩ := h c; exact k, Idealize.ShloMosaic.sem_eq_zero_of_no_sems rfl _⟩)
    (Cert.RateRefIdeal.Value.run m ρ)

theorem keeps_total_reference : Cert.quiescent_TotalRefIdeal := fun m ρ _ =>
  (θ_run _ _ _).mono (fun r h => ⟨fun c => (h c).2, Idealize.ShloMosaic.sem_eq_zero_of_no_sems rfl _⟩)
    (Cert.TotalRefIdeal.Value.run m ρ)

theorem keeps_layer_reference : Cert.quiescent_LayerRefIdeal := fun m ρ _ =>
  (θ_run _ _ _).mono (fun r h => ⟨fun c => by obtain ⟨_, _, _, k⟩ := h c; exact k, Idealize.ShloMosaic.sem_eq_zero_of_no_sems rfl _⟩)
    (Cert.LayerRefIdeal.Value.run m ρ)

theorem keeps_enter_reference : Cert.quiescent_EnterRefIdeal := fun m ρ _ =>
  (θ_run _ _ _).mono (fun r h => ⟨fun c => by obtain ⟨_, _, _, k⟩ := h c; exact k, Idealize.ShloMosaic.sem_eq_zero_of_no_sems rfl _⟩)
    (Cert.EnterRefIdeal.Value.run m ρ)

theorem keeps_leave_reference : Cert.quiescent_LeaveRefIdeal := fun m ρ _ =>
  (θ_run _ _ _).mono (fun r h => ⟨fun c => by obtain ⟨_, _, _, k⟩ := h c; exact k, Idealize.ShloMosaic.sem_eq_zero_of_no_sems rfl _⟩)
    (Cert.LeaveRefIdeal.Value.run m ρ)

open Cert.FfnIdeal.Sum Cert.FfnRefIdeal.Read in
/-- The feed-forward layer's backward kernel: its five results are the reference's. -/
theorem ffn_value : Cert.algebraic_FfnIdeal_FfnRefIdeal_pre_finite := by
  intro m g m' g' hpre hagree
  refine ⟨fun c => val_main_v50 (F := Ideal) (ax m c) (an m c) (ay m c) (ag m c) (au m c) (ad m c),
    fun c => val_main_v51 (F := Ideal) (ax m c) (an m c) (ay m c) (ag m c) (au m c) (ad m c),
    fun c => val_main_v52 (F := Ideal) (ax m c) (an m c) (ay m c) (ag m c) (ad m c),
    fun c => val_main_v53 (F := Ideal) (ay m c),
    fun c => val_main_v33 (F := Ideal) (ax m c) (an m c) (ay m c) (ag m c) (au m c) (ad m c),
    Idealize.ShloMosaic.θ_run_mono (Cert.FfnIdeal.Value.run_blocks m g) fun r h c => ?_,
    Idealize.ShloMosaic.θ_run_mono (Cert.FfnRefIdeal.Value.run m' g') fun r h c => ?_⟩
  · have F := finite_of_pre hpre c
    obtain ⟨h8, h9, h10, h11, h12, k⟩ := h c
    exact ⟨h8.trans (final_dx m c F), h9.trans (final_dg m c F), h10.trans (final_du m c), h11.trans (final_dy m c), h12.trans (final_dn m c F), k⟩
  · obtain ⟨e0, e1, e2, e3, e4, e5⟩ := hagree c
    obtain ⟨h0, h1, h2, h3, h4, k⟩ := h c
    refine ⟨h0.trans ((val_main_v50_eq m' c).trans ?_), h1.trans ((val_main_v51_eq m' c).trans ?_), h2.trans ((val_main_v52_eq _ _ _ _ _).trans ?_),
      h3.trans ((val_main_v53_eq _).trans ?_), h4.trans ((val_main_v33_eq m' c).trans ?_), k⟩
    · rw [e0, e1, e2, e3, e4, e5]
    · rw [e0, e1, e2, e3, e4, e5]
    · rw [e0, e1, e2, e3, e5]
    · rw [e2]
    · rw [e0, e1, e2, e3, e4, e5]

/-- The gate and up weight gradients: the kernel's result is the reference's. -/
theorem up_value : Cert.algebraic_UpIdeal_UpRefIdeal := by
  pair_intro
  · run_from Cert.UpIdeal.Gen.run_main m g
  · run_from Cert.UpRefIdeal.Value.run m' g'
    exact (Cert.UpIdeal.Sum.final m c).symm

/-- The down weight gradient: the kernel's result is the reference's. -/
theorem down_value : Cert.algebraic_DownIdeal_DownRefIdeal := by
  pair_intro
  · run_from Cert.DownIdeal.Gen.run_main m g
  · run_from Cert.DownRefIdeal.Value.run m' g'
    exact (Cert.DownIdeal.Sum.final m c).symm

open Cert.InIdeal.Sum Cert.InRefIdeal.Read in
/-- The gradients of the mixer's input and of its norm's scale are the reference's. -/
theorem in_value : Cert.algebraic_InIdeal_InRefIdeal := by
  intro m g m' g' _ hagree
  refine ⟨fun c => val_main_v45 (F := Ideal) (ax m c) (an m c) (ay m c) (d0 m c) (d1 m c) (d2 m c) (d3 m c) (d4 m c) (aw m c),
    fun c => val_main_v28 (F := Ideal) (ax m c) (d0 m c) (d1 m c) (d2 m c) (d3 m c) (d4 m c) (aw m c),
    Idealize.ShloMosaic.θ_run_mono (Cert.InIdeal.Value.run_blocks m g) fun r h c => ?_,
    Idealize.ShloMosaic.θ_run_mono (Cert.InRefIdeal.Value.run m' g') fun r h c => ?_⟩
  · obtain ⟨h0, h1, k⟩ := h c
    exact ⟨h0.trans (final_dx m c), h1.trans (final_dn m c), k⟩
  · obtain ⟨e0, e1, e2, e3, e4, e5, e6, e7, e8⟩ := hagree c
    obtain ⟨h0, h1, k⟩ := h c
    refine ⟨h0.trans ((val_main_v45_eq m' c).trans ?_),
      h1.trans ((val_main_v28_eq _ _ _ _ _ _ _).trans ?_), k⟩
    · rw [e0, e1, e2, e3, e4, e5, e6, e7, e8]
    · rw [e0, e3, e4, e5, e6, e7, e8]

open Cert.OutIdeal.Sum Cert.OutRefIdeal.Read in
/-- The gradients of the mixer's two sides and of their norms' scales, and the two copies kept, are the reference's. -/
theorem out_value : Cert.algebraic_OutIdeal_OutRefIdeal := by
  intro m g m' g' _ hagree
  refine ⟨fun c => val_main_v73 (F := Ideal) (ax m c) (ar m c) (nr m c) (aw m c),
    fun c => val_main_v54 (F := Ideal) (ax m c) (aa m c) (na m c) (aw m c),
    fun c => val_main_v74 (F := Ideal) (ar m c) (aa m c) (nr m c) (na m c),
    fun c => val_main_v75 (F := Ideal) (ax m c),
    fun c => val_main_v57 (F := Ideal) (ax m c) (ar m c) (aw m c),
    fun c => val_main_v38 (F := Ideal) (ax m c) (aa m c) (aw m c),
    Idealize.ShloMosaic.θ_run_mono (Cert.OutIdeal.Value.run_blocks m g) fun r h c => ?_,
    Idealize.ShloMosaic.θ_run_mono (Cert.OutRefIdeal.Value.run m' g') fun r h c => ?_⟩
  · obtain ⟨h0, h1, h2, h3, h4, h5, k⟩ := h c
    exact ⟨h0.trans (final_dyr m c), h1.trans (final_dya m c), h2.trans (final_side m c), h3.trans (final_copy m c), h4.trans (final_nr m c), h5.trans (final_na m c), k⟩
  · obtain ⟨e0, e1, e2, e3, e4, e5⟩ := hagree c
    obtain ⟨h0, h1, h2, h3, h4, h5, k⟩ := h c
    refine ⟨h0.trans ((val_main_v73_eq m' c).trans ?_),
      h1.trans ((val_main_v54_eq m' c).trans ?_),
      h2.trans ((val_main_v74_eq _ _ _ _).trans ?_),
      h3.trans ((val_main_v75_eq _).trans ?_),
      h4.trans ((val_main_v57_eq _ _ _).trans ?_),
      h5.trans ((val_main_v38_eq _ _ _).trans ?_), k⟩
    · rw [e0, e1, e3, e5]
    · rw [e0, e2, e4, e5]
    · rw [e1, e2, e3, e4]
    · rw [e0]
    · rw [e0, e1, e5]
    · rw [e0, e2, e5]

/-- The output projection's weight gradient: the kernel's result is the reference's. -/
theorem mix_value : Cert.algebraic_MixIdeal_MixRefIdeal := by
  pair_intro
  · run_from Cert.MixIdeal.Gen.run_main m g
  · run_from Cert.MixRefIdeal.Value.run m' g'
    exact (Cert.MixIdeal.Sum.final m c).symm

open Cert.LossIdeal.Sum Cert.LossRefIdeal.Read in
/-- The loss, its gradient and the layer's saved products are the reference's. -/
theorem loss_value : Cert.algebraic_LossIdeal_LossRefIdeal := by
  intro m g m' g' _ hagree
  refine ⟨fun c => val_main_v39 (F := Ideal) (ax m c) (an m c) (ag m c) (au m c) (aw m c) (ay m c),
    fun c => val_main_v40 (F := Ideal) (ax m c) (an m c) (ag m c),
    fun c => val_main_v41 (F := Ideal) (ax m c) (an m c) (au m c),
    fun c => val_main_v42 (F := Ideal) (ax m c) (an m c),
    fun c => val_main_v43 (F := Ideal) (ax m c) (an m c) (ag m c) (au m c),
    fun c => val_main_v44 (F := Ideal) (ax m c) (an m c) (ag m c) (au m c) (aw m c) (ay m c),
    Idealize.ShloMosaic.θ_run_mono (Cert.LossIdeal.Value.run_blocks m g) fun r h c => ?_,
    Idealize.ShloMosaic.θ_run_mono (Cert.LossRefIdeal.Value.run m' g') fun r h c => ?_⟩
  · obtain ⟨h0, h1, h2, h3, h4, h5, k⟩ := h c
    exact ⟨h0.trans (final_dx m c), h1.trans (final_g m c), h2.trans (final_u m c), h3.trans (final_h m c), h4.trans (final_a m c), h5.trans (final_loss m c), k⟩
  · obtain ⟨e0, e1, e2, e3, e4, e5⟩ := hagree c
    obtain ⟨h0, h1, h2, h3, h4, h5, k⟩ := h c
    refine ⟨h0.trans ((val_main_v39_eq _ _ _ _ _ _).trans ?_),
      h1.trans ((val_main_v40_eq _ _ _).trans ?_),
      h2.trans ((val_main_v41_eq _ _ _).trans ?_),
      h3.trans ((val_main_v42_eq _ _).trans ?_),
      h4.trans ((val_main_v43_eq _ _ _ _).trans ?_),
      h5.trans ((val_main_v44_eq m' c).trans ?_), k⟩
    · rw [e0, e1, e2, e3, e4, e5]
    · rw [e0, e1, e2]
    · rw [e0, e1, e3]
    · rw [e0, e1]
    · rw [e0, e1, e2, e3]
    · rw [e0, e1, e2, e3, e4, e5]

/-- The first layer's down projection with its residual: the kernel's result is the reference's. -/
theorem last_value : Cert.algebraic_LastIdeal_LastRefIdeal := by
  pair_intro
  · run_from Cert.LastIdeal.Gen.run_main m g
  · run_from Cert.LastRefIdeal.Value.run m' g'
    exact (Cert.LastIdeal.Sum.final m c).symm

open Cert.JoinIdeal.Sum Cert.JoinRefIdeal.Read in
/-- The mixer's output: the kernel's result is the reference's. -/
theorem join_value : Cert.algebraic_JoinIdeal_JoinRefIdeal := by
  intro m g m' g' _ hagree
  refine ⟨fun c => val_main_v27 (F := Ideal) (ax m c) (ar m c) (aa m c) (nr m c) (na m c) (aw m c),
    Idealize.ShloMosaic.θ_run_mono (Cert.JoinIdeal.Value.run_blocks m g) fun r h c => ?_,
    Idealize.ShloMosaic.θ_run_mono (Cert.JoinRefIdeal.Value.run m' g') fun r h c => ?_⟩
  · obtain ⟨h0, k⟩ := h c
    exact ⟨h0.trans (final m c), k⟩
  · obtain ⟨e0, e1, e2, e3, e4, e5⟩ := hagree c
    obtain ⟨h0, k⟩ := h c
    refine ⟨h0.trans ((val_main_v27_eq _ _ _ _ _ _).trans ?_), k⟩
    rw [e0, e1, e2, e3, e4, e5]

open Cert.HeadIdeal.Sum Cert.HeadRefIdeal.Read in
/-- The mixer's normalised input and its product with the input weights are the reference's. -/
theorem head_value : Cert.algebraic_HeadIdeal_HeadRefIdeal := by
  intro m g m' g' _ hagree
  refine ⟨fun c => val_main_v15 (F := Ideal) (ax m c) (nw m c) (aw m c),
    fun c => val_main_v16 (F := Ideal) (ax m c) (nw m c),
    Idealize.ShloMosaic.θ_run_mono (Cert.HeadIdeal.Value.run_blocks m g) fun r h c => ?_,
    Idealize.ShloMosaic.θ_run_mono (Cert.HeadRefIdeal.Value.run m' g') fun r h c => ?_⟩
  · obtain ⟨h0, h1, k⟩ := h c
    exact ⟨h0.trans (final_prod m c), h1.trans (final_norm m c), k⟩
  · obtain ⟨e0, e1, e2⟩ := hagree c
    obtain ⟨h0, h1, k⟩ := h c
    refine ⟨h0.trans ((val_main_v15_eq _ _ _).trans ?_), h1.trans ((val_main_v16_eq _ _).trans ?_), k⟩
    · rw [e0, e1, e2]
    · rw [e0, e1]

/-- The first layer's gate and up weight gradients: the kernel's result is the reference's. -/
theorem gate_value : Cert.algebraic_GateIdeal_GateRefIdeal := by
  pair_intro
  · run_from Cert.GateIdeal.Gen.run_main m g
  · run_from Cert.GateRefIdeal.Value.run m' g'
    exact (Cert.GateIdeal.Sum.final m c).symm

/-- The first layer's down weight gradient: the kernel's result is the reference's. -/
theorem low_value : Cert.algebraic_LowIdeal_LowRefIdeal := by
  pair_intro
  · run_from Cert.LowIdeal.Gen.run_main m g
  · run_from Cert.LowRefIdeal.Value.run m' g'
    exact (Cert.LowIdeal.Sum.final m c).symm

/-- The mixer's input projection's weight gradient: the kernel's result is the reference's. -/
theorem proj_value : Cert.algebraic_ProjIdeal_ProjRefIdeal := by
  pair_intro
  · run_from Cert.ProjIdeal.Gen.run_main m g
  · run_from Cert.ProjRefIdeal.Value.run m' g'
    exact (Cert.ProjIdeal.Sum.final m c).symm

open Cert.FirstIdeal.Sum Cert.FirstRefIdeal.Read in
/-- The first feed-forward layer forward: its output and its saved arrays are the reference's. -/
theorem first_value : Cert.algebraic_FirstIdeal_FirstRefIdeal := by
  intro m g m' g' _ hagree
  refine ⟨fun c => val_main_v27 (F := Ideal) (ax m c) (an m c) (ag m c) (au m c) (aw m c),
    fun c => val_main_v29 (F := Ideal) (ax m c) (an m c) (ag m c),
    fun c => val_main_v31 (F := Ideal) (ax m c) (an m c) (au m c),
    fun c => val_main_v32 (F := Ideal) (ax m c) (an m c),
    fun c => val_main_v35 (F := Ideal) (ax m c) (an m c) (ag m c) (au m c),
    Idealize.ShloMosaic.θ_run_mono (Cert.FirstIdeal.Hand.results m g) fun r h c => ?_,
    Idealize.ShloMosaic.θ_run_mono (Cert.FirstRefIdeal.Value.run m' g') fun r h c => ?_⟩
  · obtain ⟨⟨h0, h1, h2, h3, h4⟩, k⟩ := h c
    exact ⟨h0.trans (final_y m c), h1.trans (final_g m c), h2.trans (final_u m c), h3.trans (final_h m c), h4.trans (final_a m c), k⟩
  · obtain ⟨e0, e1, e2, e3, e4⟩ := hagree c
    obtain ⟨h0, h1, h2, h3, h4, k⟩ := h c
    refine ⟨h0.trans ((val_main_v27_eq _ _ _ _ _).trans ?_),
      h1.trans ((val_main_v29_eq _ _ _).trans ?_),
      h2.trans ((val_main_v31_eq _ _ _).trans ?_),
      h3.trans ((val_main_v32_eq _ _).trans ?_),
      h4.trans ((val_main_v35_eq _ _ _ _).trans ?_), k⟩
    · rw [e0, e1, e2, e3, e4]
    · rw [e0, e1, e2]
    · rw [e0, e1, e3]
    · rw [e0, e1]
    · rw [e0, e1, e2, e3]

/-- The optimiser's step for the small weights: the kernel's results are the reference's. -/
theorem rate_value : Cert.algebraic_RateIdeal_RateRefIdeal := by
  pair_intro
  · run_from Cert.RateIdeal.Value.run m g
  · run_from Cert.RateRefIdeal.Value.run m' g'
    · exact (Cert.RateRefIdeal.Read.val_main_v23_eq _ _ _ _).trans (Cert.RateIdeal.Sum.delta _ _ _ _).symm
    · exact (Cert.RateRefIdeal.Read.val_main_v4_eq _ _).trans (Cert.RateIdeal.Sum.first _ _).symm
    · exact (Cert.RateRefIdeal.Read.val_main_v10_eq _ _).trans (Cert.RateIdeal.Sum.second _ _).symm

/-- The sum of the small gradients over the devices' slots is the reference's. -/
theorem total_value : Cert.algebraic_TotalIdeal_TotalRefIdeal := by
  intro m g m' g' _ hagree
  refine ⟨fun c => Cert.TotalRefIdeal.Read.val_main_v0 (F := Ideal) (m ((c.tc : Thread Cert.TotalIdeal.nD Cert.TotalIdeal.τ).loc Cert.TotalIdeal.main_arg0)),
    Idealize.ShloMosaic.θ_run_mono (Cert.TotalIdeal.Value.run m g) fun r h c => ?_,
    Idealize.ShloMosaic.θ_run_mono (Cert.TotalRefIdeal.Value.run m' g') fun r h c => ?_⟩
  · obtain ⟨h0, k⟩ := h c
    exact ⟨h0.trans (Cert.TotalIdeal.Sum.total _), k⟩
  · have e0 := hagree c
    obtain ⟨h0, k⟩ := h c
    refine ⟨h0.trans ((Cert.TotalRefIdeal.Read.val_main_v0_eq _).trans ?_), k⟩
    rw [e0]

/-- The optimiser's step for a feed-forward layer's weight: the kernel's results are the reference's. -/
theorem layer_value : Cert.algebraic_LayerIdeal_LayerRefIdeal := by
  pair_intro
  · run_from Cert.LayerIdeal.Value.run m g
  · run_from Cert.LayerRefIdeal.Value.run m' g'
    · exact (Cert.LayerRefIdeal.Read.val_main_v23_eq _ _ _ _).trans (Cert.LayerIdeal.Sum.delta _ _ _ _).symm
    · exact (Cert.LayerRefIdeal.Read.val_main_v4_eq _ _).trans (Cert.LayerIdeal.Sum.first _ _).symm
    · exact (Cert.LayerRefIdeal.Read.val_main_v10_eq _ _).trans (Cert.LayerIdeal.Sum.second _ _).symm

/-- The optimiser's step for the mixer's input weights: the kernel's results are the reference's. -/
theorem enter_value : Cert.algebraic_EnterIdeal_EnterRefIdeal := by
  pair_intro
  · run_from Cert.EnterIdeal.Value.run m g
  · run_from Cert.EnterRefIdeal.Value.run m' g'
    · exact (Cert.EnterRefIdeal.Read.val_main_v23_eq _ _ _ _).trans (Cert.EnterIdeal.Sum.delta _ _ _ _).symm
    · exact (Cert.EnterRefIdeal.Read.val_main_v4_eq _ _).trans (Cert.EnterIdeal.Sum.first _ _).symm
    · exact (Cert.EnterRefIdeal.Read.val_main_v10_eq _ _).trans (Cert.EnterIdeal.Sum.second _ _).symm

/-- The optimiser's step for the mixer's output projection: the kernel's results are the reference's. -/
theorem leave_value : Cert.algebraic_LeaveIdeal_LeaveRefIdeal := by
  pair_intro
  · run_from Cert.LeaveIdeal.Value.run m g
  · run_from Cert.LeaveRefIdeal.Value.run m' g'
    · exact (Cert.LeaveRefIdeal.Read.val_main_v23_eq _ _ _ _).trans (Cert.LeaveIdeal.Sum.delta _ _ _ _).symm
    · exact (Cert.LeaveRefIdeal.Read.val_main_v4_eq _ _).trans (Cert.LeaveIdeal.Sum.first _ _).symm
    · exact (Cert.LeaveRefIdeal.Read.val_main_v10_eq _ _).trans (Cert.LeaveIdeal.Sum.second _ _).symm

theorem claim : Cert.Claim :=
  ⟨Cert.Ffn.Gen.facts, Cert.FfnIdeal.Gen.facts, Cert.FfnRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.In.Gen.facts, Cert.InIdeal.Gen.facts, Cert.InRefIdeal.Gen.facts,
    Cert.Out.Gen.facts, Cert.OutIdeal.Gen.facts, Cert.OutRefIdeal.Gen.facts,
    Cert.Mix.Gen.facts, Cert.MixIdeal.Gen.facts, Cert.MixRefIdeal.Gen.facts,
    Cert.Loss.Gen.facts, Cert.LossIdeal.Gen.facts, Cert.LossRefIdeal.Gen.facts,
    Cert.Last.Gen.facts, Cert.LastIdeal.Gen.facts, Cert.LastRefIdeal.Gen.facts,
    Cert.Join.Gen.facts, Cert.JoinIdeal.Gen.facts, Cert.JoinRefIdeal.Gen.facts,
    Cert.Head.Gen.facts, Cert.HeadIdeal.Gen.facts, Cert.HeadRefIdeal.Gen.facts,
    Cert.Gate.Gen.facts, Cert.GateIdeal.Gen.facts, Cert.GateRefIdeal.Gen.facts,
    Cert.Low.Gen.facts, Cert.LowIdeal.Gen.facts, Cert.LowRefIdeal.Gen.facts,
    Cert.Proj.Gen.facts, Cert.ProjIdeal.Gen.facts, Cert.ProjRefIdeal.Gen.facts,
    Cert.First.Gen.facts, Cert.FirstIdeal.Gen.facts, Cert.FirstRefIdeal.Gen.facts,
    Cert.Rate.Gen.facts, Cert.RateIdeal.Gen.facts, Cert.RateRefIdeal.Gen.facts,
    Cert.Total.Gen.facts, Cert.TotalIdeal.Gen.facts, Cert.TotalRefIdeal.Gen.facts,
    Cert.Layer.Gen.facts, Cert.LayerIdeal.Gen.facts, Cert.LayerRefIdeal.Gen.facts,
    Cert.Enter.Gen.facts, Cert.EnterIdeal.Gen.facts, Cert.EnterRefIdeal.Gen.facts,
    Cert.Leave.Gen.facts, Cert.LeaveIdeal.Gen.facts, Cert.LeaveRefIdeal.Gen.facts,
    Cert.Pre_finite.Gen.facts,
    fun m ρ _ => Cert.Ffn.Gen.frame m ρ, fun m ρ _ => Cert.FfnIdeal.Gen.frame m ρ, fun m ρ _ => Cert.FfnIdeal.Gen.frame m ρ,
    keeps_ffn_reference, fun m ρ _ => keeps_ffn_reference m ρ trivial,
    fun m ρ _ => Cert.Up.Gen.frame m ρ, fun m ρ _ => Cert.UpIdeal.Gen.frame m ρ, keeps_up_reference,
    fun m ρ _ => Cert.Down.Gen.frame m ρ, fun m ρ _ => Cert.DownIdeal.Gen.frame m ρ, keeps_down_reference,
    fun m ρ _ => Cert.In.Gen.frame m ρ, fun m ρ _ => Cert.InIdeal.Gen.frame m ρ, keeps_in_reference,
    fun m ρ _ => Cert.Out.Gen.frame m ρ, fun m ρ _ => Cert.OutIdeal.Gen.frame m ρ, keeps_out_reference,
    fun m ρ _ => Cert.Mix.Gen.frame m ρ, fun m ρ _ => Cert.MixIdeal.Gen.frame m ρ, keeps_mix_reference,
    fun m ρ _ => Cert.Loss.Gen.frame m ρ, fun m ρ _ => Cert.LossIdeal.Gen.frame m ρ, keeps_loss_reference,
    fun m ρ _ => Cert.Last.Gen.frame m ρ, fun m ρ _ => Cert.LastIdeal.Gen.frame m ρ, keeps_last_reference,
    fun m ρ _ => Cert.Join.Gen.frame m ρ, fun m ρ _ => Cert.JoinIdeal.Gen.frame m ρ, keeps_join_reference,
    fun m ρ _ => Cert.Head.Gen.frame m ρ, fun m ρ _ => Cert.HeadIdeal.Gen.frame m ρ, keeps_head_reference,
    fun m ρ _ => Cert.Gate.Gen.frame m ρ, fun m ρ _ => Cert.GateIdeal.Gen.frame m ρ, keeps_gate_reference,
    fun m ρ _ => Cert.Low.Gen.frame m ρ, fun m ρ _ => Cert.LowIdeal.Gen.frame m ρ, keeps_low_reference,
    fun m ρ _ => Cert.Proj.Gen.frame m ρ, fun m ρ _ => Cert.ProjIdeal.Gen.frame m ρ, keeps_proj_reference,
    keeps_first, fun m ρ _ => Cert.FirstIdeal.Hand.frame m ρ, keeps_first_reference,
    fun m ρ _ => Cert.Rate.Gen.frame m ρ, fun m ρ _ => Cert.RateIdeal.Gen.frame m ρ, keeps_rate_reference,
    fun m ρ _ => Cert.Total.Gen.frame m ρ, fun m ρ _ => Cert.TotalIdeal.Gen.frame m ρ, keeps_total_reference,
    fun m ρ _ => Cert.Layer.Gen.frame m ρ, fun m ρ _ => Cert.LayerIdeal.Gen.frame m ρ, keeps_layer_reference,
    fun m ρ _ => Cert.Enter.Gen.frame m ρ, fun m ρ _ => Cert.EnterIdeal.Gen.frame m ρ, keeps_enter_reference,
    fun m ρ _ => Cert.Leave.Gen.frame m ρ, fun m ρ _ => Cert.LeaveIdeal.Gen.frame m ρ, keeps_leave_reference,
    trivial, ffn_value, trivial, up_value, trivial, down_value,
    trivial, in_value, trivial, out_value, trivial, mix_value, trivial, loss_value, trivial, last_value, trivial, join_value,
    trivial, head_value, trivial, gate_value, trivial, low_value, trivial, proj_value,
    trivial, first_value, trivial, rate_value, trivial, total_value,
    trivial, layer_value, trivial, enter_value, trivial, leave_value⟩

end Cert.Proof

end
